-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectedIdeal (m : (ℓ : Loc Cert.ProjectedIdeal.nD Cert.ProjectedIdeal.τ Cert.ProjectedIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergedIdeal (m : (ℓ : Loc Cert.MergedIdeal.nD Cert.MergedIdeal.τ Cert.MergedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectedIdeal [hProjectedIdeal : Cert.ProjectedIdeal.Facts] : Prop :=
  ∀ (m : (ℓ : Loc Cert.ProjectedIdeal.nD Cert.ProjectedIdeal.τ Cert.ProjectedIdeal.sig) → Buf (Elt Ideal) ℓ) (g : Dev Cert.ProjectedIdeal.nD → PrngReg), Pre_ProjectedIdeal m →
    θ_run (Cert.ProjectedIdeal.defs (F := Ideal)) (onTc (τ := Cert.ProjectedIdeal.τ) (Cert.ProjectedIdeal.main (F := Ideal))) ⟨m, fun _ => 0, g⟩ (fun r => (∀ c : Dev Cert.ProjectedIdeal.nD,
      r.2.mem ((c.tc : Thread Cert.ProjectedIdeal.nD Cert.ProjectedIdeal.τ).loc Cert.ProjectedIdeal.main_arg0) = m ((c.tc : Thread Cert.ProjectedIdeal.nD Cert.ProjectedIdeal.τ).loc Cert.ProjectedIdeal.main_arg0)
      ∧ r.2.mem ((c.tc : Thread Cert.ProjectedIdeal.nD Cert.ProjectedIdeal.τ).loc Cert.ProjectedIdeal.main_arg1) = m ((c.tc : Thread Cert.ProjectedIdeal.nD Cert.ProjectedIdeal.τ).loc Cert.ProjectedIdeal.main_arg1)
      ∧ r.2.mem ((c.tc : Thread Cert.ProjectedIdeal.nD Cert.ProjectedIdeal.τ).loc Cert.ProjectedIdeal.main_arg2) = m ((c.tc : Thread Cert.ProjectedIdeal.nD Cert.ProjectedIdeal.τ).loc Cert.ProjectedIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
      ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2)
      ∧ r.2.mem ((c.tc : Thread Cert.MergedIdeal.nD Cert.MergedIdeal.τ).loc Cert.MergedIdeal.main_arg3) = m ((c.tc : Thread Cert.MergedIdeal.nD Cert.MergedIdeal.τ).loc Cert.MergedIdeal.main_arg3)
      ∧ r.2.mem ((c.tc : Thread Cert.MergedIdeal.nD Cert.MergedIdeal.τ).loc Cert.MergedIdeal.main_arg4) = m ((c.tc : Thread Cert.MergedIdeal.nD Cert.MergedIdeal.τ).loc Cert.MergedIdeal.main_arg4)
      ∧ r.2.mem ((c.tc : Thread Cert.MergedIdeal.nD Cert.MergedIdeal.τ).loc Cert.MergedIdeal.main_arg5) = m ((c.tc : Thread Cert.MergedIdeal.nD Cert.MergedIdeal.τ).loc Cert.MergedIdeal.main_arg5)
      ∧ r.2.mem ((c.tc : Thread Cert.MergedIdeal.nD Cert.MergedIdeal.τ).loc Cert.MergedIdeal.main_arg6) = m ((c.tc : Thread Cert.MergedIdeal.nD Cert.MergedIdeal.τ).loc Cert.MergedIdeal.main_arg6)
      ∧ r.2.mem ((c.tc : Thread Cert.MergedIdeal.nD Cert.MergedIdeal.τ).loc Cert.MergedIdeal.main_arg7) = m ((c.tc : Thread Cert.MergedIdeal.nD Cert.MergedIdeal.τ).loc Cert.MergedIdeal.main_arg7)
      ∧ r.2.mem ((c.tc : Thread Cert.MergedIdeal.nD Cert.MergedIdeal.τ).loc Cert.MergedIdeal.main_arg8) = m ((c.tc : Thread Cert.MergedIdeal.nD Cert.MergedIdeal.τ).loc Cert.MergedIdeal.main_arg8)
      ∧ r.2.mem ((c.tc : Thread Cert.MergedIdeal.nD Cert.MergedIdeal.τ).loc Cert.MergedIdeal.main_arg9) = m ((c.tc : Thread Cert.MergedIdeal.nD Cert.MergedIdeal.τ).loc Cert.MergedIdeal.main_arg9)
      ∧ r.2.mem ((c.tc : Thread Cert.MergedIdeal.nD Cert.MergedIdeal.τ).loc Cert.MergedIdeal.main_arg10) = m ((c.tc : Thread Cert.MergedIdeal.nD Cert.MergedIdeal.τ).loc Cert.MergedIdeal.main_arg10)
      ∧ r.2.mem ((c.tc : Thread Cert.MergedIdeal.nD Cert.MergedIdeal.τ).loc Cert.MergedIdeal.main_arg11) = m ((c.tc : Thread Cert.MergedIdeal.nD Cert.MergedIdeal.τ).loc Cert.MergedIdeal.main_arg11)
      ∧ r.2.mem ((c.tc : Thread Cert.MergedIdeal.nD Cert.MergedIdeal.τ).loc Cert.MergedIdeal.main_arg12) = m ((c.tc : Thread Cert.MergedIdeal.nD Cert.MergedIdeal.τ).loc Cert.MergedIdeal.main_arg12)
      ∧ r.2.mem ((c.tc : Thread Cert.MergedIdeal.nD Cert.MergedIdeal.τ).loc Cert.MergedIdeal.main_arg13) = m ((c.tc : Thread Cert.MergedIdeal.nD Cert.MergedIdeal.τ).loc Cert.MergedIdeal.main_arg13))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2_scale" .f32 0x3E38AA3B#32 (((1 / 8) * (Real.log 2)⁻¹ : ℝ) : EReal)

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Projection_ProjectionIdeal : Prop :=
  True

def algebraic_ProjectionIdeal_ProjectedIdeal [hProjectionIdeal : Cert.ProjectionIdeal.Facts] [hProjectedIdeal : Cert.ProjectedIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectedIdeal.nD Cert.ProjectedIdeal.τ Cert.ProjectedIdeal.sig) → Buf (Elt Ideal) ℓ) (g' : Dev Cert.ProjectedIdeal.nD → PrngReg), Pre_ProjectionIdeal m →
    (∀ c : Dev Cert.ProjectionIdeal.nD,
      m' ((c.tc : Thread Cert.ProjectedIdeal.nD Cert.ProjectedIdeal.τ).loc Cert.ProjectedIdeal.main_arg0) = m ((c.tc : Thread Cert.ProjectionIdeal.nD Cert.ProjectionIdeal.τ).loc Cert.ProjectionIdeal.main_arg0)
      ∧ m' ((c.tc : Thread Cert.ProjectedIdeal.nD Cert.ProjectedIdeal.τ).loc Cert.ProjectedIdeal.main_arg1) = m ((c.tc : Thread Cert.ProjectionIdeal.nD Cert.ProjectionIdeal.τ).loc Cert.ProjectionIdeal.main_arg1)
      ∧ m' ((c.tc : Thread Cert.ProjectedIdeal.nD Cert.ProjectedIdeal.τ).loc Cert.ProjectedIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v13_0)) (v1 : (c : Dev Cert.ProjectionIdeal.nD) → Buf (Elt Ideal) ((c.tc : Thread Cert.ProjectionIdeal.nD Cert.ProjectionIdeal.τ).loc Cert.ProjectionIdeal.main_v13_1)) (v2 : (c : Dev Cert.ProjectionIdeal.nD) → Buf (Elt Ideal) ((c.tc : Thread Cert.ProjectionIdeal.nD Cert.ProjectionIdeal.τ).loc Cert.ProjectionIdeal.main_v13_2)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v13_0) = v0 c
          ∧ r.2.mem ((c.tc : Thread Cert.ProjectionIdeal.nD Cert.ProjectionIdeal.τ).loc Cert.ProjectionIdeal.main_v13_1) = v1 c
          ∧ r.2.mem ((c.tc : Thread Cert.ProjectionIdeal.nD Cert.ProjectionIdeal.τ).loc Cert.ProjectionIdeal.main_v13_2) = v2 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.ProjectedIdeal.defs (F := Ideal)) (onTc (τ := Cert.ProjectedIdeal.τ) (Cert.ProjectedIdeal.main (F := Ideal))) ⟨m', fun _ => 0, g'⟩ (fun r => ∀ c : Dev Cert.ProjectedIdeal.nD,
          r.2.mem ((c.tc : Thread Cert.ProjectedIdeal.nD Cert.ProjectedIdeal.τ).loc Cert.ProjectedIdeal.main_v29) = v0 c
          ∧ r.2.mem ((c.tc : Thread Cert.ProjectedIdeal.nD Cert.ProjectedIdeal.τ).loc Cert.ProjectedIdeal.main_v31) = v1 c
          ∧ r.2.mem ((c.tc : Thread Cert.ProjectedIdeal.nD Cert.ProjectedIdeal.τ).loc Cert.ProjectedIdeal.main_v32) = v2 c
          ∧ r.2.mem ((c.tc : Thread Cert.ProjectedIdeal.nD Cert.ProjectedIdeal.τ).loc Cert.ProjectedIdeal.main_arg0) = m' ((c.tc : Thread Cert.ProjectedIdeal.nD Cert.ProjectedIdeal.τ).loc Cert.ProjectedIdeal.main_arg0)
          ∧ r.2.mem ((c.tc : Thread Cert.ProjectedIdeal.nD Cert.ProjectedIdeal.τ).loc Cert.ProjectedIdeal.main_arg1) = m' ((c.tc : Thread Cert.ProjectedIdeal.nD Cert.ProjectedIdeal.τ).loc Cert.ProjectedIdeal.main_arg1)
          ∧ r.2.mem ((c.tc : Thread Cert.ProjectedIdeal.nD Cert.ProjectedIdeal.τ).loc Cert.ProjectedIdeal.main_arg2) = m' ((c.tc : Thread Cert.ProjectedIdeal.nD Cert.ProjectedIdeal.τ).loc Cert.ProjectedIdeal.main_arg2))

def preserves_Merge_MergeIdeal : Prop :=
  True

def algebraic_MergeIdeal_MergedIdeal [hMergeIdeal : Cert.MergeIdeal.Facts] [hMergedIdeal : Cert.MergedIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergedIdeal.nD Cert.MergedIdeal.τ Cert.MergedIdeal.sig) → Buf (Elt Ideal) ℓ) (g' : Dev Cert.MergedIdeal.nD → PrngReg), Pre_MergeIdeal m →
    (∀ c : Dev Cert.MergeIdeal.nD,
      m' ((c.tc : Thread Cert.MergedIdeal.nD Cert.MergedIdeal.τ).loc Cert.MergedIdeal.main_arg0) = m ((c.tc : Thread Cert.MergeIdeal.nD Cert.MergeIdeal.τ).loc Cert.MergeIdeal.main_arg0)
      ∧ m' ((c.tc : Thread Cert.MergedIdeal.nD Cert.MergedIdeal.τ).loc Cert.MergedIdeal.main_arg1) = m ((c.tc : Thread Cert.MergeIdeal.nD Cert.MergeIdeal.τ).loc Cert.MergeIdeal.main_arg1)
      ∧ m' ((c.tc : Thread Cert.MergedIdeal.nD Cert.MergedIdeal.τ).loc Cert.MergedIdeal.main_arg2) = m ((c.tc : Thread Cert.MergeIdeal.nD Cert.MergeIdeal.τ).loc Cert.MergeIdeal.main_arg2)
      ∧ m' ((c.tc : Thread Cert.MergedIdeal.nD Cert.MergedIdeal.τ).loc Cert.MergedIdeal.main_arg3) = m ((c.tc : Thread Cert.MergeIdeal.nD Cert.MergeIdeal.τ).loc Cert.MergeIdeal.main_arg3)
      ∧ m' ((c.tc : Thread Cert.MergedIdeal.nD Cert.MergedIdeal.τ).loc Cert.MergedIdeal.main_arg4) = m ((c.tc : Thread Cert.MergeIdeal.nD Cert.MergeIdeal.τ).loc Cert.MergeIdeal.main_arg4)
      ∧ m' ((c.tc : Thread Cert.MergedIdeal.nD Cert.MergedIdeal.τ).loc Cert.MergedIdeal.main_arg5) = m ((c.tc : Thread Cert.MergeIdeal.nD Cert.MergeIdeal.τ).loc Cert.MergeIdeal.main_arg5)
      ∧ m' ((c.tc : Thread Cert.MergedIdeal.nD Cert.MergedIdeal.τ).loc Cert.MergedIdeal.main_arg6) = m ((c.tc : Thread Cert.MergeIdeal.nD Cert.MergeIdeal.τ).loc Cert.MergeIdeal.main_arg6)
      ∧ m' ((c.tc : Thread Cert.MergedIdeal.nD Cert.MergedIdeal.τ).loc Cert.MergedIdeal.main_arg7) = m ((c.tc : Thread Cert.MergeIdeal.nD Cert.MergeIdeal.τ).loc Cert.MergeIdeal.main_arg7)
      ∧ m' ((c.tc : Thread Cert.MergedIdeal.nD Cert.MergedIdeal.τ).loc Cert.MergedIdeal.main_arg8) = m ((c.tc : Thread Cert.MergeIdeal.nD Cert.MergeIdeal.τ).loc Cert.MergeIdeal.main_arg8)
      ∧ m' ((c.tc : Thread Cert.MergedIdeal.nD Cert.MergedIdeal.τ).loc Cert.MergedIdeal.main_arg9) = m ((c.tc : Thread Cert.MergeIdeal.nD Cert.MergeIdeal.τ).loc Cert.MergeIdeal.main_arg9)
      ∧ m' ((c.tc : Thread Cert.MergedIdeal.nD Cert.MergedIdeal.τ).loc Cert.MergedIdeal.main_arg10) = m ((c.tc : Thread Cert.MergeIdeal.nD Cert.MergeIdeal.τ).loc Cert.MergeIdeal.main_arg10)
      ∧ m' ((c.tc : Thread Cert.MergedIdeal.nD Cert.MergedIdeal.τ).loc Cert.MergedIdeal.main_arg11) = m ((c.tc : Thread Cert.MergeIdeal.nD Cert.MergeIdeal.τ).loc Cert.MergeIdeal.main_arg11)
      ∧ m' ((c.tc : Thread Cert.MergedIdeal.nD Cert.MergedIdeal.τ).loc Cert.MergedIdeal.main_arg12) = m ((c.tc : Thread Cert.MergeIdeal.nD Cert.MergeIdeal.τ).loc Cert.MergeIdeal.main_arg12)
      ∧ m' ((c.tc : Thread Cert.MergedIdeal.nD Cert.MergedIdeal.τ).loc Cert.MergedIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v15)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergedIdeal.defs (F := Ideal)) (onTc (τ := Cert.MergedIdeal.τ) (Cert.MergedIdeal.main (F := Ideal))) ⟨m', fun _ => 0, g'⟩ (fun r => ∀ c : Dev Cert.MergedIdeal.nD,
          r.2.mem ((c.tc : Thread Cert.MergedIdeal.nD Cert.MergedIdeal.τ).loc Cert.MergedIdeal.main_v98) = v0 c
          ∧ r.2.mem ((c.tc : Thread Cert.MergedIdeal.nD Cert.MergedIdeal.τ).loc Cert.MergedIdeal.main_arg0) = m' ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m' ((c.tc : Thread Cert.MergedIdeal.nD Cert.MergedIdeal.τ).loc Cert.MergedIdeal.main_arg1)
          ∧ r.2.mem ((c.tc : Thread Cert.MergedIdeal.nD Cert.MergedIdeal.τ).loc Cert.MergedIdeal.main_arg2) = m' ((c.tc : Thread Cert.MergedIdeal.nD Cert.MergedIdeal.τ).loc Cert.MergedIdeal.main_arg2)
          ∧ r.2.mem ((c.tc : Thread Cert.MergedIdeal.nD Cert.MergedIdeal.τ).loc Cert.MergedIdeal.main_arg3) = m' ((c.tc : Thread Cert.MergedIdeal.nD Cert.MergedIdeal.τ).loc Cert.MergedIdeal.main_arg3)
          ∧ r.2.mem ((c.tc : Thread Cert.MergedIdeal.nD Cert.MergedIdeal.τ).loc Cert.MergedIdeal.main_arg4) = m' ((c.tc : Thread Cert.MergedIdeal.nD Cert.MergedIdeal.τ).loc Cert.MergedIdeal.main_arg4)
          ∧ r.2.mem ((c.tc : Thread Cert.MergedIdeal.nD Cert.MergedIdeal.τ).loc Cert.MergedIdeal.main_arg5) = m' ((c.tc : Thread Cert.MergedIdeal.nD Cert.MergedIdeal.τ).loc Cert.MergedIdeal.main_arg5)
          ∧ r.2.mem ((c.tc : Thread Cert.MergedIdeal.nD Cert.MergedIdeal.τ).loc Cert.MergedIdeal.main_arg6) = m' ((c.tc : Thread Cert.MergedIdeal.nD Cert.MergedIdeal.τ).loc Cert.MergedIdeal.main_arg6)
          ∧ r.2.mem ((c.tc : Thread Cert.MergedIdeal.nD Cert.MergedIdeal.τ).loc Cert.MergedIdeal.main_arg7) = m' ((c.tc : Thread Cert.MergedIdeal.nD Cert.MergedIdeal.τ).loc Cert.MergedIdeal.main_arg7)
          ∧ r.2.mem ((c.tc : Thread Cert.MergedIdeal.nD Cert.MergedIdeal.τ).loc Cert.MergedIdeal.main_arg8) = m' ((c.tc : Thread Cert.MergedIdeal.nD Cert.MergedIdeal.τ).loc Cert.MergedIdeal.main_arg8)
          ∧ r.2.mem ((c.tc : Thread Cert.MergedIdeal.nD Cert.MergedIdeal.τ).loc Cert.MergedIdeal.main_arg9) = m' ((c.tc : Thread Cert.MergedIdeal.nD Cert.MergedIdeal.τ).loc Cert.MergedIdeal.main_arg9)
          ∧ r.2.mem ((c.tc : Thread Cert.MergedIdeal.nD Cert.MergedIdeal.τ).loc Cert.MergedIdeal.main_arg10) = m' ((c.tc : Thread Cert.MergedIdeal.nD Cert.MergedIdeal.τ).loc Cert.MergedIdeal.main_arg10)
          ∧ r.2.mem ((c.tc : Thread Cert.MergedIdeal.nD Cert.MergedIdeal.τ).loc Cert.MergedIdeal.main_arg11) = m' ((c.tc : Thread Cert.MergedIdeal.nD Cert.MergedIdeal.τ).loc Cert.MergedIdeal.main_arg11)
          ∧ r.2.mem ((c.tc : Thread Cert.MergedIdeal.nD Cert.MergedIdeal.τ).loc Cert.MergedIdeal.main_arg12) = m' ((c.tc : Thread Cert.MergedIdeal.nD Cert.MergedIdeal.τ).loc Cert.MergedIdeal.main_arg12)
          ∧ r.2.mem ((c.tc : Thread Cert.MergedIdeal.nD Cert.MergedIdeal.τ).loc Cert.MergedIdeal.main_arg13) = m' ((c.tc : Thread Cert.MergedIdeal.nD Cert.MergedIdeal.τ).loc Cert.MergedIdeal.main_arg13))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectedIdeal : Cert.ProjectedIdeal.Facts) (hMerge : Cert.Merge.Facts) (hMergeIdeal : Cert.MergeIdeal.Facts) (hMergedIdeal : Cert.MergedIdeal.Facts) (hPre_finite_queries_keys : Cert.Pre_finite_queries_keys.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Projection (hProjection := hProjection)
    ∧ quiescent_ProjectionIdeal (hProjectionIdeal := hProjectionIdeal)
    ∧ quiescent_ProjectedIdeal (hProjectedIdeal := hProjectedIdeal)
    ∧ quiescent_Merge (hMerge := hMerge)
    ∧ quiescent_MergeIdeal (hMergeIdeal := hMergeIdeal)
    ∧ quiescent_MergedIdeal (hMergedIdeal := hMergedIdeal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Projection_ProjectionIdeal
    ∧ algebraic_ProjectionIdeal_ProjectedIdeal (hProjectionIdeal := hProjectionIdeal) (hProjectedIdeal := hProjectedIdeal)
    ∧ preserves_Merge_MergeIdeal
    ∧ algebraic_MergeIdeal_MergedIdeal (hMergeIdeal := hMergeIdeal) (hMergedIdeal := hMergedIdeal)
-- ==== Pre_finite_queries_keys.lean ====
abbrev S16384x11264 : Shape := ⟨2, ![16384, 11264]⟩
abbrev S16384x1024 : Shape := ⟨2, ![16384, 1024]⟩
abbrev S16384x2048 : Shape := ⟨2, ![16384, 2048]⟩
abbrev S_ : Shape := ⟨0, ![]⟩

class Facts : Prop where
  slices_S16384x11264_S16384x2048_0_5120 : S16384x11264.Slices ![0, 5120] S16384x2048
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x11264 .bf16) (main_arg1 : FVec F S16384x1024 .bf16) : IVec S_ 1 :=
  let main_v0 : FVec F S16384x2048 .bf16 := (extractStridedSlice S16384x2048 ![0, 5120] · slices_S16384x11264_S16384x2048_0_5120) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  main_v5
-- ==== Kernel.lean ====
abbrev S16384x11264 : Shape := ⟨2, ![16384, 11264]⟩
abbrev S16384x1024 : Shape := ⟨2, ![16384, 1024]⟩
abbrev S1024x16384 : Shape := ⟨2, ![1024, 16384]⟩
abbrev S64x1024 : Shape := ⟨2, ![64, 1024]⟩
abbrev S2x16384x1024 : Shape := ⟨3, ![2, 16384, 1024]⟩
abbrev S2048x1024 : Shape := ⟨2, ![2048, 1024]⟩
abbrev S8x1024 : Shape := ⟨2, ![8, 1024]⟩
abbrev S2x2048x1024 : Shape := ⟨3, ![2, 2048, 1024]⟩
abbrev S256x1024 : Shape := ⟨2, ![256, 1024]⟩
abbrev S1024 : Shape := ⟨1, ![1024]⟩
abbrev S1x1024 : Shape := ⟨2, ![1, 1024]⟩
abbrev S1x256x1024 : Shape := ⟨3, ![1, 256, 1024]⟩
abbrev S256x128 : Shape := ⟨2, ![256, 128]⟩
abbrev S2x16384x128 : Shape := ⟨3, ![2, 16384, 128]⟩
abbrev S128x16384 : Shape := ⟨2, ![128, 16384]⟩
abbrev S64x128 : Shape := ⟨2, ![64, 128]⟩
abbrev S128x256 : Shape := ⟨2, ![128, 256]⟩
abbrev S2x2048x256 : Shape := ⟨3, ![2, 2048, 256]⟩
abbrev S64x256 : Shape := ⟨2, ![64, 256]⟩
abbrev S256 : Shape := ⟨1, ![256]⟩
abbrev S1x256 : Shape := ⟨2, ![1, 256]⟩
abbrev S256x256 : Shape := ⟨2, ![256, 256]⟩
abbrev S1x256x128 : Shape := ⟨3, ![1, 256, 128]⟩
abbrev S1x256x256 : Shape := ⟨3, ![1, 256, 256]⟩
abbrev S80x256 : Shape := ⟨2, ![80, 256]⟩
abbrev S1x2048x128 : Shape := ⟨3, ![1, 2048, 128]⟩
abbrev S2048x128 : Shape := ⟨2, ![2048, 128]⟩
abbrev S2048x256 : Shape := ⟨2, ![2048, 256]⟩
abbrev S1x2048x256 : Shape := ⟨3, ![1, 2048, 256]⟩
abbrev S16x256 : Shape := ⟨2, ![16, 256]⟩
abbrev S128x2048 : Shape := ⟨2, ![128, 2048]⟩
abbrev S64x2048 : Shape := ⟨2, ![64, 2048]⟩
abbrev S16x2048 : Shape := ⟨2, ![16, 2048]⟩
abbrev S80x2048 : Shape := ⟨2, ![80, 2048]⟩
abbrev S128x1024 : Shape := ⟨2, ![128, 1024]⟩
abbrev S1x1024x256 : Shape := ⟨3, ![1, 1024, 256]⟩
abbrev S1024x256 : Shape := ⟨2, ![1024, 256]⟩
abbrev S16x1024 : Shape := ⟨2, ![16, 1024]⟩
abbrev S80x1024 : Shape := ⟨2, ![80, 1024]⟩

abbrev nBuf : Space → Nat
  | .hbm => 6
  | .vmem => 17
  | .smem => 0
  | _ => 0

abbrev bufTy : (tb : Table) → Fin (tcTables nBuf tb) → BufTy
  | .hbm, ⟨0, _⟩ => ⟨S16384x11264, .bf16⟩
  | .hbm, ⟨1, _⟩ => ⟨S16384x1024, .bf16⟩
  | .hbm, ⟨2, _⟩ => ⟨S1024x16384, .bf16⟩
  | .hbm, ⟨3, _⟩ => ⟨S64x1024, .f32⟩
  | .hbm, ⟨4, _⟩ => ⟨S2x16384x1024, .bf16⟩
  | .hbm, ⟨5, _⟩ => ⟨S1024x16384, .bf16⟩
  | .local _ .vmem, ⟨0, _⟩ => ⟨S2048x1024, .bf16⟩
  | .local _ .vmem, ⟨1, _⟩ => ⟨S2048x1024, .bf16⟩
  | .local _ .vmem, ⟨2, _⟩ => ⟨S8x1024, .f32⟩
  | .local _ .vmem, ⟨3, _⟩ => ⟨S8x1024, .f32⟩
  | .local _ .vmem, ⟨4, _⟩ => ⟨S2x2048x1024, .bf16⟩
  | .local _ .vmem, ⟨5, _⟩ => ⟨S2x2048x1024, .bf16⟩
  | .local _ .vmem, ⟨6, _⟩ => ⟨S256x128, .bf16⟩
  | .local _ .vmem, ⟨7, _⟩ => ⟨S256x128, .bf16⟩
  | .local _ .vmem, ⟨8, _⟩ => ⟨S2x16384x128, .bf16⟩
  | .local _ .vmem, ⟨9, _⟩ => ⟨S2x16384x128, .bf16⟩
  | .local _ .vmem, ⟨10, _⟩ => ⟨S128x16384, .bf16⟩
  | .local _ .vmem, ⟨11, _⟩ => ⟨S128x16384, .bf16⟩
  | .local _ .vmem, ⟨12, _⟩ => ⟨S64x128, .f32⟩
  | .local _ .vmem, ⟨13, _⟩ => ⟨S64x128, .f32⟩
  | .local _ .vmem, ⟨14, _⟩ => ⟨S128x256, .bf16⟩
  | .local _ .vmem, ⟨15, _⟩ => ⟨S128x256, .bf16⟩
  | .local _ .vmem, ⟨16, _⟩ => ⟨S2x2048x256, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 64], ![false, false]⟩

def k1_mult1 (i : grid1.Coords) : BitVec 32 :=
  let arg1 : BitVec 32 := BitVec.ofNat 32 (i 1).val
  let c256_i32 : BitVec 32 := 256#32
  let v194 : BitVec 32 := Scalar.muli arg1 c256_i32
  v194
def k1_off1 (i : grid1.Coords) : Fin 3 → Nat :=
  let c0_56 : Index := 0#32
  let arg1 : BitVec 32 := BitVec.ofNat 32 (i 1).val
  let c256_i32 : BitVec 32 := 256#32
  let v194 : BitVec 32 := Scalar.muli arg1 c256_i32
  let v195 : BitVec 32 := v194
  let v196 : Index := Scalar.indexCast v195
  let c0_57 : Index := 0#32
  ![0, v196.toNat, 0]
def k1_mult2 (i : grid1.Coords) : BitVec 32 :=
  let arg1 : BitVec 32 := BitVec.ofNat 32 (i 1).val
  let c256_i32_64 : BitVec 32 := 256#32
  let v207 : BitVec 32 := Scalar.muli arg1 c256_i32_64
  v207
def k1_off2 (i : grid1.Coords) : Fin 3 → Nat :=
  let c1 : Index := 1#32
  let arg1 : BitVec 32 := BitVec.ofNat 32 (i 1).val
  let c256_i32_64 : BitVec 32 := 256#32
  let v207 : BitVec 32 := Scalar.muli arg1 c256_i32_64
  let v208 : BitVec 32 := v207
  let v209 : Index := Scalar.indexCast v208
  let c0_65 : Index := 0#32
  ![1, v209.toNat, 0]
def k1_mult3 (i : grid1.Coords) : BitVec 32 :=
  let arg1 : BitVec 32 := BitVec.ofNat 32 (i 1).val
  let c256_i32_74 : BitVec 32 := 256#32
  let v222 : BitVec 32 := Scalar.muli arg1 c256_i32_74
  v222
def k1_off3 (i : grid1.Coords) : Fin 2 → Nat :=
  let c0_75 : Index := 0#32
  let arg1 : BitVec 32 := BitVec.ofNat 32 (i 1).val
  let c256_i32_74 : BitVec 32 := 256#32
  let v222 : BitVec 32 := Scalar.muli arg1 c256_i32_74
  let v223 : BitVec 32 := v222
  let v224 : Index := Scalar.indexCast v223
  ![0, v224.toNat]
def k1_mult4 : BitVec 32 :=
  let c0_i32_79 : BitVec 32 := 0#32
  let c7_i32 : BitVec 32 := 7#32
  let v234 : BitVec 32 := Scalar.minsi c0_i32_79 c7_i32
  let c2_i32 : BitVec 32 := 2#32
  let v235 : BitVec 32 := Scalar.muli v234 c2_i32
  let c1024_i32 : BitVec 32 := 1024#32
  let v236 : BitVec 32 := Scalar.muli v235 c1024_i32
  v236
def k1_off4 : Fin 3 → Nat :=
  let c0_80 : Index := 0#32
  let c0_i32_79 : BitVec 32 := 0#32
  let c7_i32 : BitVec 32 := 7#32
  let v234 : BitVec 32 := Scalar.minsi c0_i32_79 c7_i32
  let c2_i32 : BitVec 32 := 2#32
  let v235 : BitVec 32 := Scalar.muli v234 c2_i32
  let c1024_i32 : BitVec 32 := 1024#32
  let v236 : BitVec 32 := Scalar.muli v235 c1024_i32
  let v237 : BitVec 32 := v236
  let v238 : Index := Scalar.indexCast v237
  let c0_81 : Index := 0#32
  ![0, v238.toNat, 0]
def k1_mult5 : BitVec 32 :=
  let c0_i32_92 : BitVec 32 := 0#32
  let c7_i32_93 : BitVec 32 := 7#32
  let v263 : BitVec 32 := Scalar.minsi c0_i32_92 c7_i32_93
  let c2_i32_94 : BitVec 32 := 2#32
  let v264 : BitVec 32 := Scalar.muli v263 c2_i32_94
  let c1024_i32_95 : BitVec 32 := 1024#32
  let v265 : BitVec 32 := Scalar.muli v264 c1024_i32_95
  v265
def k1_off5 : Fin 3 → Nat :=
  let c1_96 : Index := 1#32
  let c0_i32_92 : BitVec 32 := 0#32
  let c7_i32_93 : BitVec 32 := 7#32
  let v263 : BitVec 32 := Scalar.minsi c0_i32_92 c7_i32_93
  let c2_i32_94 : BitVec 32 := 2#32
  let v264 : BitVec 32 := Scalar.muli v263 c2_i32_94
  let c1024_i32_95 : BitVec 32 := 1024#32
  let v265 : BitVec 32 := Scalar.muli v264 c1024_i32_95
  let v266 : BitVec 32 := v265
  let v267 : Index := Scalar.indexCast v266
  let c0_97 : Index := 0#32
  ![1, v267.toNat, 0]
@[reducible] def k1_t1_loop (i : grid1.Coords) : Scf.Loop 32 :=
  let c0_i32_119 : BitVec 32 := 0#32
  let arg1 : BitVec 32 := BitVec.ofNat 32 (i 1).val
  let c4_i32 : BitVec 32 := 4#32
  let v285 : BitVec 32 := Scalar.addi arg1 c4_i32
  let c1_i32 : BitVec 32 := 1#32
  let v286 : BitVec 32 := Scalar.subi v285 c1_i32
  let c0_i32_106 : BitVec 32 := 0#32
  let v288 : BitVec 1 := Scalar.cmpi .sgt v286 c0_i32_106
  let v289 : BitVec 32 := Scalar.extui v288
  let c0_i32_107 : BitVec 32 := 0#32
  let v290 : BitVec 1 := Scalar.cmpi .slt v286 c0_i32_107
  let v291 : BitVec 32 := Scalar.extui v290
  let v292 : BitVec 32 := Scalar.subi v289 v291
  let c4_i32_105 : BitVec 32 := 4#32
  let c0_i32_108 : BitVec 32 := 0#32
  let v293 : BitVec 1 := Scalar.cmpi .sgt c4_i32_105 c0_i32_108
  let v294 : BitVec 32 := Scalar.extui v293
  let c0_i32_109 : BitVec 32 := 0#32
  let v295 : BitVec 1 := Scalar.cmpi .slt c4_i32_105 c0_i32_109
  let v296 : BitVec 32 := Scalar.extui v295
  let v297 : BitVec 32 := Scalar.subi v294 v296
  let v298 : BitVec 1 := Scalar.cmpi .ne v292 v297
  let v299 : BitVec 32 := Scalar.remsi v286 c4_i32_105
  let c0_i32_110 : BitVec 32 := 0#32
  let v300 : BitVec 1 := Scalar.cmpi .ne v299 c0_i32_110
  let v301 : BitVec 1 := Scalar.andi v298 v300
  let v287 : BitVec 32 := Scalar.divsi v286 c4_i32_105
  let c1_i32_111 : BitVec 32 := 1#32
  let v302 : BitVec 32 := Scalar.subi v287 c1_i32_111
  let v303 : BitVec 32 := Scalar.select v301 v302 v287
  let c0_i32_113 : BitVec 32 := 0#32
  let v305 : BitVec 1 := Scalar.cmpi .sgt v303 c0_i32_113
  let v306 : BitVec 32 := Scalar.extui v305
  let c0_i32_114 : BitVec 32 := 0#32
  let v307 : BitVec 1 := Scalar.cmpi .slt v303 c0_i32_114
  let v308 : BitVec 32 := Scalar.extui v307
  let v309 : BitVec 32 := Scalar.subi v306 v308
  let c2_i32_112 : BitVec 32 := 2#32
  let c0_i32_115 : BitVec 32 := 0#32
  let v310 : BitVec 1 := Scalar.cmpi .sgt c2_i32_112 c0_i32_115
  let v311 : BitVec 32 := Scalar.extui v310
  let c0_i32_116 : BitVec 32 := 0#32
  let v312 : BitVec 1 := Scalar.cmpi .slt c2_i32_112 c0_i32_116
  let v313 : BitVec 32 := Scalar.extui v312
  let v314 : BitVec 32 := Scalar.subi v311 v313
  let v315 : BitVec 1 := Scalar.cmpi .ne v309 v314
  let v316 : BitVec 32 := Scalar.remsi v303 c2_i32_112
  let c0_i32_117 : BitVec 32 := 0#32
  let v317 : BitVec 1 := Scalar.cmpi .ne v316 c0_i32_117
  let v318 : BitVec 1 := Scalar.andi v315 v317
  let v304 : BitVec 32 := Scalar.divsi v303 c2_i32_112
  let c1_i32_118 : BitVec 32 := 1#32
  let v319 : BitVec 32 := Scalar.subi v304 c1_i32_118
  let v320 : BitVec 32 := Scalar.select v318 v319 v304
  let v321 : BitVec 32 := Scalar.subi v320 c0_i32_119
  let c1_i32_120 : BitVec 32 := 1#32
  let v323 : BitVec 32 := Scalar.divsi v321 c1_i32_120
  let v324 : BitVec 32 := Scalar.muli v323 c1_i32_120
  let v325 : BitVec 32 := Scalar.addi c0_i32_119 v324
  let c1_i32_121 : BitVec 32 := 1#32
  ⟨c0_i32_119, v325, c1_i32_121⟩
def k1_mult6 (i : grid1.Coords) (k1_t1 : Fin (k1_t1_loop i).trips) : BitVec 32 :=
  let c0_i32_119 : BitVec 32 := 0#32
  let c1_i32_121 : BitVec 32 := 1#32
  let arg8 : BitVec 32 := Scf.iv c0_i32_119 c1_i32_121 k1_t1
  let c7_i32_135 : BitVec 32 := 7#32
  let v354 : BitVec 32 := Scalar.minsi arg8 c7_i32_135
  let c2048_i32 : BitVec 32 := 2048#32
  let v355 : BitVec 32 := Scalar.muli v354 c2048_i32
  v355
def k1_off6 (i : grid1.Coords) (k1_t1 : Fin (k1_t1_loop i).trips) : Fin 2 → Nat :=
  let c0_136 : Index := 0#32
  let c0_i32_119 : BitVec 32 := 0#32
  let c1_i32_121 : BitVec 32 := 1#32
  let arg8 : BitVec 32 := Scf.iv c0_i32_119 c1_i32_121 k1_t1
  let c7_i32_135 : BitVec 32 := 7#32
  let v354 : BitVec 32 := Scalar.minsi arg8 c7_i32_135
  let c2048_i32 : BitVec 32 := 2048#32
  let v355 : BitVec 32 := Scalar.muli v354 c2048_i32
  let v356 : BitVec 32 := v355
  let v357 : Index := Scalar.indexCast v356
  ![0, v357.toNat]
def k1_mult7 (i : grid1.Coords) (k1_t1 : Fin (k1_t1_loop i).trips) : BitVec 32 :=
  let c0_i32_119 : BitVec 32 := 0#32
  let c1_i32_121 : BitVec 32 := 1#32
  let arg8 : BitVec 32 := Scf.iv c0_i32_119 c1_i32_121 k1_t1
  let c1_i32_140 : BitVec 32 := 1#32
  let v367 : BitVec 32 := Scalar.addi arg8 c1_i32_140
  let c7_i32_141 : BitVec 32 := 7#32
  let v368 : BitVec 32 := Scalar.minsi v367 c7_i32_141
  let c2_i32_142 : BitVec 32 := 2#32
  let v369 : BitVec 32 := Scalar.muli v368 c2_i32_142
  let c1024_i32_143 : BitVec 32 := 1024#32
  let v370 : BitVec 32 := Scalar.muli v369 c1024_i32_143
  v370
def k1_off7 (i : grid1.Coords) (k1_t1 : Fin (k1_t1_loop i).trips) : Fin 3 → Nat :=
  let c0_144 : Index := 0#32
  let c0_i32_119 : BitVec 32 := 0#32
  let c1_i32_121 : BitVec 32 := 1#32
  let arg8 : BitVec 32 := Scf.iv c0_i32_119 c1_i32_121 k1_t1
  let c1_i32_140 : BitVec 32 := 1#32
  let v367 : BitVec 32 := Scalar.addi arg8 c1_i32_140
  let c7_i32_141 : BitVec 32 := 7#32
  let v368 : BitVec 32 := Scalar.minsi v367 c7_i32_141
  let c2_i32_142 : BitVec 32 := 2#32
  let v369 : BitVec 32 := Scalar.muli v368 c2_i32_142
  let c1024_i32_143 : BitVec 32 := 1024#32
  let v370 : BitVec 32 := Scalar.muli v369 c1024_i32_143
  let v371 : BitVec 32 := v370
  let v372 : Index := Scalar.indexCast v371
  let c0_145 : Index := 0#32
  ![0, v372.toNat, 0]
def k1_mult8 (i : grid1.Coords) (k1_t1 : Fin (k1_t1_loop i).trips) : BitVec 32 :=
  let c0_i32_119 : BitVec 32 := 0#32
  let c1_i32_121 : BitVec 32 := 1#32
  let arg8 : BitVec 32 := Scf.iv c0_i32_119 c1_i32_121 k1_t1
  let c1_i32_156 : BitVec 32 := 1#32
  let v397 : BitVec 32 := Scalar.addi arg8 c1_i32_156
  let c7_i32_157 : BitVec 32 := 7#32
  let v398 : BitVec 32 := Scalar.minsi v397 c7_i32_157
  let c2_i32_158 : BitVec 32 := 2#32
  let v399 : BitVec 32 := Scalar.muli v398 c2_i32_158
  let c1024_i32_159 : BitVec 32 := 1024#32
  let v400 : BitVec 32 := Scalar.muli v399 c1024_i32_159
  v400
def k1_off8 (i : grid1.Coords) (k1_t1 : Fin (k1_t1_loop i).trips) : Fin 3 → Nat :=
  let c1_160 : Index := 1#32
  let c0_i32_119 : BitVec 32 := 0#32
  let c1_i32_121 : BitVec 32 := 1#32
  let arg8 : BitVec 32 := Scf.iv c0_i32_119 c1_i32_121 k1_t1
  let c1_i32_156 : BitVec 32 := 1#32
  let v397 : BitVec 32 := Scalar.addi arg8 c1_i32_156
  let c7_i32_157 : BitVec 32 := 7#32
  let v398 : BitVec 32 := Scalar.minsi v397 c7_i32_157
  let c2_i32_158 : BitVec 32 := 2#32
  let v399 : BitVec 32 := Scalar.muli v398 c2_i32_158
  let c1024_i32_159 : BitVec 32 := 1024#32
  let v400 : BitVec 32 := Scalar.muli v399 c1024_i32_159
  let v401 : BitVec 32 := v400
  let v402 : Index := Scalar.indexCast v401
  let c0_161 : Index := 0#32
  ![1, v402.toNat, 0]
@[reducible] def k1_t2_loop (i : grid1.Coords) : Scf.Loop 32 :=
  let c0_i32_119 : BitVec 32 := 0#32
  let arg1 : BitVec 32 := BitVec.ofNat 32 (i 1).val
  let c4_i32 : BitVec 32 := 4#32
  let v285 : BitVec 32 := Scalar.addi arg1 c4_i32
  let c1_i32 : BitVec 32 := 1#32
  let v286 : BitVec 32 := Scalar.subi v285 c1_i32
  let c0_i32_106 : BitVec 32 := 0#32
  let v288 : BitVec 1 := Scalar.cmpi .sgt v286 c0_i32_106
  let v289 : BitVec 32 := Scalar.extui v288
  let c0_i32_107 : BitVec 32 := 0#32
  let v290 : BitVec 1 := Scalar.cmpi .slt v286 c0_i32_107
  let v291 : BitVec 32 := Scalar.extui v290
  let v292 : BitVec 32 := Scalar.subi v289 v291
  let c4_i32_105 : BitVec 32 := 4#32
  let c0_i32_108 : BitVec 32 := 0#32
  let v293 : BitVec 1 := Scalar.cmpi .sgt c4_i32_105 c0_i32_108
  let v294 : BitVec 32 := Scalar.extui v293
  let c0_i32_109 : BitVec 32 := 0#32
  let v295 : BitVec 1 := Scalar.cmpi .slt c4_i32_105 c0_i32_109
  let v296 : BitVec 32 := Scalar.extui v295
  let v297 : BitVec 32 := Scalar.subi v294 v296
  let v298 : BitVec 1 := Scalar.cmpi .ne v292 v297
  let v299 : BitVec 32 := Scalar.remsi v286 c4_i32_105
  let c0_i32_110 : BitVec 32 := 0#32
  let v300 : BitVec 1 := Scalar.cmpi .ne v299 c0_i32_110
  let v301 : BitVec 1 := Scalar.andi v298 v300
  let v287 : BitVec 32 := Scalar.divsi v286 c4_i32_105
  let c1_i32_111 : BitVec 32 := 1#32
  let v302 : BitVec 32 := Scalar.subi v287 c1_i32_111
  let v303 : BitVec 32 := Scalar.select v301 v302 v287
  let c0_i32_113 : BitVec 32 := 0#32
  let v305 : BitVec 1 := Scalar.cmpi .sgt v303 c0_i32_113
  let v306 : BitVec 32 := Scalar.extui v305
  let c0_i32_114 : BitVec 32 := 0#32
  let v307 : BitVec 1 := Scalar.cmpi .slt v303 c0_i32_114
  let v308 : BitVec 32 := Scalar.extui v307
  let v309 : BitVec 32 := Scalar.subi v306 v308
  let c2_i32_112 : BitVec 32 := 2#32
  let c0_i32_115 : BitVec 32 := 0#32
  let v310 : BitVec 1 := Scalar.cmpi .sgt c2_i32_112 c0_i32_115
  let v311 : BitVec 32 := Scalar.extui v310
  let c0_i32_116 : BitVec 32 := 0#32
  let v312 : BitVec 1 := Scalar.cmpi .slt c2_i32_112 c0_i32_116
  let v313 : BitVec 32 := Scalar.extui v312
  let v314 : BitVec 32 := Scalar.subi v311 v313
  let v315 : BitVec 1 := Scalar.cmpi .ne v309 v314
  let v316 : BitVec 32 := Scalar.remsi v303 c2_i32_112
  let c0_i32_117 : BitVec 32 := 0#32
  let v317 : BitVec 1 := Scalar.cmpi .ne v316 c0_i32_117
  let v318 : BitVec 1 := Scalar.andi v315 v317
  let v304 : BitVec 32 := Scalar.divsi v303 c2_i32_112
  let c1_i32_118 : BitVec 32 := 1#32
  let v319 : BitVec 32 := Scalar.subi v304 c1_i32_118
  let v320 : BitVec 32 := Scalar.select v318 v319 v304
  let v321 : BitVec 32 := Scalar.subi v320 c0_i32_119
  let c1_i32_120 : BitVec 32 := 1#32
  let v323 : BitVec 32 := Scalar.divsi v321 c1_i32_120
  let v324 : BitVec 32 := Scalar.muli v323 c1_i32_120
  let v325 : BitVec 32 := Scalar.addi c0_i32_119 v324
  let v322 : BitVec 32 := Scalar.addi c0_i32_119 v321
  let c1_i32_122 : BitVec 32 := 1#32
  ⟨v325, v322, c1_i32_122⟩
def k1_mult9 (i : grid1.Coords) (k1_t2 : Fin (k1_t2_loop i).trips) : BitVec 32 :=
  let c0_i32_119 : BitVec 32 := 0#32
  let arg1 : BitVec 32 := BitVec.ofNat 32 (i 1).val
  let c4_i32 : BitVec 32 := 4#32
  let v285 : BitVec 32 := Scalar.addi arg1 c4_i32
  let c1_i32 : BitVec 32 := 1#32
  let v286 : BitVec 32 := Scalar.subi v285 c1_i32
  let c0_i32_106 : BitVec 32 := 0#32
  let v288 : BitVec 1 := Scalar.cmpi .sgt v286 c0_i32_106
  let v289 : BitVec 32 := Scalar.extui v288
  let c0_i32_107 : BitVec 32 := 0#32
  let v290 : BitVec 1 := Scalar.cmpi .slt v286 c0_i32_107
  let v291 : BitVec 32 := Scalar.extui v290
  let v292 : BitVec 32 := Scalar.subi v289 v291
  let c4_i32_105 : BitVec 32 := 4#32
  let c0_i32_108 : BitVec 32 := 0#32
  let v293 : BitVec 1 := Scalar.cmpi .sgt c4_i32_105 c0_i32_108
  let v294 : BitVec 32 := Scalar.extui v293
  let c0_i32_109 : BitVec 32 := 0#32
  let v295 : BitVec 1 := Scalar.cmpi .slt c4_i32_105 c0_i32_109
  let v296 : BitVec 32 := Scalar.extui v295
  let v297 : BitVec 32 := Scalar.subi v294 v296
  let v298 : BitVec 1 := Scalar.cmpi .ne v292 v297
  let v299 : BitVec 32 := Scalar.remsi v286 c4_i32_105
  let c0_i32_110 : BitVec 32 := 0#32
  let v300 : BitVec 1 := Scalar.cmpi .ne v299 c0_i32_110
  let v301 : BitVec 1 := Scalar.andi v298 v300
  let v287 : BitVec 32 := Scalar.divsi v286 c4_i32_105
  let c1_i32_111 : BitVec 32 := 1#32
  let v302 : BitVec 32 := Scalar.subi v287 c1_i32_111
  let v303 : BitVec 32 := Scalar.select v301 v302 v287
  let c0_i32_113 : BitVec 32 := 0#32
  let v305 : BitVec 1 := Scalar.cmpi .sgt v303 c0_i32_113
  let v306 : BitVec 32 := Scalar.extui v305
  let c0_i32_114 : BitVec 32 := 0#32
  let v307 : BitVec 1 := Scalar.cmpi .slt v303 c0_i32_114
  let v308 : BitVec 32 := Scalar.extui v307
  let v309 : BitVec 32 := Scalar.subi v306 v308
  let c2_i32_112 : BitVec 32 := 2#32
  let c0_i32_115 : BitVec 32 := 0#32
  let v310 : BitVec 1 := Scalar.cmpi .sgt c2_i32_112 c0_i32_115
  let v311 : BitVec 32 := Scalar.extui v310
  let c0_i32_116 : BitVec 32 := 0#32
  let v312 : BitVec 1 := Scalar.cmpi .slt c2_i32_112 c0_i32_116
  let v313 : BitVec 32 := Scalar.extui v312
  let v314 : BitVec 32 := Scalar.subi v311 v313
  let v315 : BitVec 1 := Scalar.cmpi .ne v309 v314
  let v316 : BitVec 32 := Scalar.remsi v303 c2_i32_112
  let c0_i32_117 : BitVec 32 := 0#32
  let v317 : BitVec 1 := Scalar.cmpi .ne v316 c0_i32_117
  let v318 : BitVec 1 := Scalar.andi v315 v317
  let v304 : BitVec 32 := Scalar.divsi v303 c2_i32_112
  let c1_i32_118 : BitVec 32 := 1#32
  let v319 : BitVec 32 := Scalar.subi v304 c1_i32_118
  let v320 : BitVec 32 := Scalar.select v318 v319 v304
  let v321 : BitVec 32 := Scalar.subi v320 c0_i32_119
  let c1_i32_120 : BitVec 32 := 1#32
  let v323 : BitVec 32 := Scalar.divsi v321 c1_i32_120
  let v324 : BitVec 32 := Scalar.muli v323 c1_i32_120
  let v325 : BitVec 32 := Scalar.addi c0_i32_119 v324
  let c1_i32_122 : BitVec 32 := 1#32
  let arg8 : BitVec 32 := Scf.iv v325 c1_i32_122 k1_t2
  let c7_i32_135 : BitVec 32 := 7#32
  let v354 : BitVec 32 := Scalar.minsi arg8 c7_i32_135
  let c2048_i32 : BitVec 32 := 2048#32
  let v355 : BitVec 32 := Scalar.muli v354 c2048_i32
  v355
def k1_off9 (i : grid1.Coords) (k1_t2 : Fin (k1_t2_loop i).trips) : Fin 2 → Nat :=
  let c0_136 : Index := 0#32
  let c0_i32_119 : BitVec 32 := 0#32
  let arg1 : BitVec 32 := BitVec.ofNat 32 (i 1).val
  let c4_i32 : BitVec 32 := 4#32
  let v285 : BitVec 32 := Scalar.addi arg1 c4_i32
  let c1_i32 : BitVec 32 := 1#32
  let v286 : BitVec 32 := Scalar.subi v285 c1_i32
  let c0_i32_106 : BitVec 32 := 0#32
  let v288 : BitVec 1 := Scalar.cmpi .sgt v286 c0_i32_106
  let v289 : BitVec 32 := Scalar.extui v288
  let c0_i32_107 : BitVec 32 := 0#32
  let v290 : BitVec 1 := Scalar.cmpi .slt v286 c0_i32_107
  let v291 : BitVec 32 := Scalar.extui v290
  let v292 : BitVec 32 := Scalar.subi v289 v291
  let c4_i32_105 : BitVec 32 := 4#32
  let c0_i32_108 : BitVec 32 := 0#32
  let v293 : BitVec 1 := Scalar.cmpi .sgt c4_i32_105 c0_i32_108
  let v294 : BitVec 32 := Scalar.extui v293
  let c0_i32_109 : BitVec 32 := 0#32
  let v295 : BitVec 1 := Scalar.cmpi .slt c4_i32_105 c0_i32_109
  let v296 : BitVec 32 := Scalar.extui v295
  let v297 : BitVec 32 := Scalar.subi v294 v296
  let v298 : BitVec 1 := Scalar.cmpi .ne v292 v297
  let v299 : BitVec 32 := Scalar.remsi v286 c4_i32_105
  let c0_i32_110 : BitVec 32 := 0#32
  let v300 : BitVec 1 := Scalar.cmpi .ne v299 c0_i32_110
  let v301 : BitVec 1 := Scalar.andi v298 v300
  let v287 : BitVec 32 := Scalar.divsi v286 c4_i32_105
  let c1_i32_111 : BitVec 32 := 1#32
  let v302 : BitVec 32 := Scalar.subi v287 c1_i32_111
  let v303 : BitVec 32 := Scalar.select v301 v302 v287
  let c0_i32_113 : BitVec 32 := 0#32
  let v305 : BitVec 1 := Scalar.cmpi .sgt v303 c0_i32_113
  let v306 : BitVec 32 := Scalar.extui v305
  let c0_i32_114 : BitVec 32 := 0#32
  let v307 : BitVec 1 := Scalar.cmpi .slt v303 c0_i32_114
  let v308 : BitVec 32 := Scalar.extui v307
  let v309 : BitVec 32 := Scalar.subi v306 v308
  let c2_i32_112 : BitVec 32 := 2#32
  let c0_i32_115 : BitVec 32 := 0#32
  let v310 : BitVec 1 := Scalar.cmpi .sgt c2_i32_112 c0_i32_115
  let v311 : BitVec 32 := Scalar.extui v310
  let c0_i32_116 : BitVec 32 := 0#32
  let v312 : BitVec 1 := Scalar.cmpi .slt c2_i32_112 c0_i32_116
  let v313 : BitVec 32 := Scalar.extui v312
  let v314 : BitVec 32 := Scalar.subi v311 v313
  let v315 : BitVec 1 := Scalar.cmpi .ne v309 v314
  let v316 : BitVec 32 := Scalar.remsi v303 c2_i32_112
  let c0_i32_117 : BitVec 32 := 0#32
  let v317 : BitVec 1 := Scalar.cmpi .ne v316 c0_i32_117
  let v318 : BitVec 1 := Scalar.andi v315 v317
  let v304 : BitVec 32 := Scalar.divsi v303 c2_i32_112
  let c1_i32_118 : BitVec 32 := 1#32
  let v319 : BitVec 32 := Scalar.subi v304 c1_i32_118
  let v320 : BitVec 32 := Scalar.select v318 v319 v304
  let v321 : BitVec 32 := Scalar.subi v320 c0_i32_119
  let c1_i32_120 : BitVec 32 := 1#32
  let v323 : BitVec 32 := Scalar.divsi v321 c1_i32_120
  let v324 : BitVec 32 := Scalar.muli v323 c1_i32_120
  let v325 : BitVec 32 := Scalar.addi c0_i32_119 v324
  let c1_i32_122 : BitVec 32 := 1#32
  let arg8 : BitVec 32 := Scf.iv v325 c1_i32_122 k1_t2
  let c7_i32_135 : BitVec 32 := 7#32
  let v354 : BitVec 32 := Scalar.minsi arg8 c7_i32_135
  let c2048_i32 : BitVec 32 := 2048#32
  let v355 : BitVec 32 := Scalar.muli v354 c2048_i32
  let v356 : BitVec 32 := v355
  let v357 : Index := Scalar.indexCast v356
  ![0, v357.toNat]
def k1_mult10 (i : grid1.Coords) (k1_t2 : Fin (k1_t2_loop i).trips) : BitVec 32 :=
  let c0_i32_119 : BitVec 32 := 0#32
  let arg1 : BitVec 32 := BitVec.ofNat 32 (i 1).val
  let c4_i32 : BitVec 32 := 4#32
  let v285 : BitVec 32 := Scalar.addi arg1 c4_i32
  let c1_i32 : BitVec 32 := 1#32
  let v286 : BitVec 32 := Scalar.subi v285 c1_i32
  let c0_i32_106 : BitVec 32 := 0#32
  let v288 : BitVec 1 := Scalar.cmpi .sgt v286 c0_i32_106
  let v289 : BitVec 32 := Scalar.extui v288
  let c0_i32_107 : BitVec 32 := 0#32
  let v290 : BitVec 1 := Scalar.cmpi .slt v286 c0_i32_107
  let v291 : BitVec 32 := Scalar.extui v290
  let v292 : BitVec 32 := Scalar.subi v289 v291
  let c4_i32_105 : BitVec 32 := 4#32
  let c0_i32_108 : BitVec 32 := 0#32
  let v293 : BitVec 1 := Scalar.cmpi .sgt c4_i32_105 c0_i32_108
  let v294 : BitVec 32 := Scalar.extui v293
  let c0_i32_109 : BitVec 32 := 0#32
  let v295 : BitVec 1 := Scalar.cmpi .slt c4_i32_105 c0_i32_109
  let v296 : BitVec 32 := Scalar.extui v295
  let v297 : BitVec 32 := Scalar.subi v294 v296
  let v298 : BitVec 1 := Scalar.cmpi .ne v292 v297
  let v299 : BitVec 32 := Scalar.remsi v286 c4_i32_105
  let c0_i32_110 : BitVec 32 := 0#32
  let v300 : BitVec 1 := Scalar.cmpi .ne v299 c0_i32_110
  let v301 : BitVec 1 := Scalar.andi v298 v300
  let v287 : BitVec 32 := Scalar.divsi v286 c4_i32_105
  let c1_i32_111 : BitVec 32 := 1#32
  let v302 : BitVec 32 := Scalar.subi v287 c1_i32_111
  let v303 : BitVec 32 := Scalar.select v301 v302 v287
  let c0_i32_113 : BitVec 32 := 0#32
  let v305 : BitVec 1 := Scalar.cmpi .sgt v303 c0_i32_113
  let v306 : BitVec 32 := Scalar.extui v305
  let c0_i32_114 : BitVec 32 := 0#32
  let v307 : BitVec 1 := Scalar.cmpi .slt v303 c0_i32_114
  let v308 : BitVec 32 := Scalar.extui v307
  let v309 : BitVec 32 := Scalar.subi v306 v308
  let c2_i32_112 : BitVec 32 := 2#32
  let c0_i32_115 : BitVec 32 := 0#32
  let v310 : BitVec 1 := Scalar.cmpi .sgt c2_i32_112 c0_i32_115
  let v311 : BitVec 32 := Scalar.extui v310
  let c0_i32_116 : BitVec 32 := 0#32
  let v312 : BitVec 1 := Scalar.cmpi .slt c2_i32_112 c0_i32_116
  let v313 : BitVec 32 := Scalar.extui v312
  let v314 : BitVec 32 := Scalar.subi v311 v313
  let v315 : BitVec 1 := Scalar.cmpi .ne v309 v314
  let v316 : BitVec 32 := Scalar.remsi v303 c2_i32_112
  let c0_i32_117 : BitVec 32 := 0#32
  let v317 : BitVec 1 := Scalar.cmpi .ne v316 c0_i32_117
  let v318 : BitVec 1 := Scalar.andi v315 v317
  let v304 : BitVec 32 := Scalar.divsi v303 c2_i32_112
  let c1_i32_118 : BitVec 32 := 1#32
  let v319 : BitVec 32 := Scalar.subi v304 c1_i32_118
  let v320 : BitVec 32 := Scalar.select v318 v319 v304
  let v321 : BitVec 32 := Scalar.subi v320 c0_i32_119
  let c1_i32_120 : BitVec 32 := 1#32
  let v323 : BitVec 32 := Scalar.divsi v321 c1_i32_120
  let v324 : BitVec 32 := Scalar.muli v323 c1_i32_120
  let v325 : BitVec 32 := Scalar.addi c0_i32_119 v324
  let c1_i32_122 : BitVec 32 := 1#32
  let arg8 : BitVec 32 := Scf.iv v325 c1_i32_122 k1_t2
  let c1_i32_140 : BitVec 32 := 1#32
  let v367 : BitVec 32 := Scalar.addi arg8 c1_i32_140
  let c7_i32_141 : BitVec 32 := 7#32
  let v368 : BitVec 32 := Scalar.minsi v367 c7_i32_141
  let c2_i32_142 : BitVec 32 := 2#32
  let v369 : BitVec 32 := Scalar.muli v368 c2_i32_142
  let c1024_i32_143 : BitVec 32 := 1024#32
  let v370 : BitVec 32 := Scalar.muli v369 c1024_i32_143
  v370
def k1_off10 (i : grid1.Coords) (k1_t2 : Fin (k1_t2_loop i).trips) : Fin 3 → Nat :=
  let c0_144 : Index := 0#32
  let c0_i32_119 : BitVec 32 := 0#32
  let arg1 : BitVec 32 := BitVec.ofNat 32 (i 1).val
  let c4_i32 : BitVec 32 := 4#32
  let v285 : BitVec 32 := Scalar.addi arg1 c4_i32
  let c1_i32 : BitVec 32 := 1#32
  let v286 : BitVec 32 := Scalar.subi v285 c1_i32
  let c0_i32_106 : BitVec 32 := 0#32
  let v288 : BitVec 1 := Scalar.cmpi .sgt v286 c0_i32_106
  let v289 : BitVec 32 := Scalar.extui v288
  let c0_i32_107 : BitVec 32 := 0#32
  let v290 : BitVec 1 := Scalar.cmpi .slt v286 c0_i32_107
  let v291 : BitVec 32 := Scalar.extui v290
  let v292 : BitVec 32 := Scalar.subi v289 v291
  let c4_i32_105 : BitVec 32 := 4#32
  let c0_i32_108 : BitVec 32 := 0#32
  let v293 : BitVec 1 := Scalar.cmpi .sgt c4_i32_105 c0_i32_108
  let v294 : BitVec 32 := Scalar.extui v293
  let c0_i32_109 : BitVec 32 := 0#32
  let v295 : BitVec 1 := Scalar.cmpi .slt c4_i32_105 c0_i32_109
  let v296 : BitVec 32 := Scalar.extui v295
  let v297 : BitVec 32 := Scalar.subi v294 v296
  let v298 : BitVec 1 := Scalar.cmpi .ne v292 v297
  let v299 : BitVec 32 := Scalar.remsi v286 c4_i32_105
  let c0_i32_110 : BitVec 32 := 0#32
  let v300 : BitVec 1 := Scalar.cmpi .ne v299 c0_i32_110
  let v301 : BitVec 1 := Scalar.andi v298 v300
  let v287 : BitVec 32 := Scalar.divsi v286 c4_i32_105
  let c1_i32_111 : BitVec 32 := 1#32
  let v302 : BitVec 32 := Scalar.subi v287 c1_i32_111
  let v303 : BitVec 32 := Scalar.select v301 v302 v287
  let c0_i32_113 : BitVec 32 := 0#32
  let v305 : BitVec 1 := Scalar.cmpi .sgt v303 c0_i32_113
  let v306 : BitVec 32 := Scalar.extui v305
  let c0_i32_114 : BitVec 32 := 0#32
  let v307 : BitVec 1 := Scalar.cmpi .slt v303 c0_i32_114
  let v308 : BitVec 32 := Scalar.extui v307
  let v309 : BitVec 32 := Scalar.subi v306 v308
  let c2_i32_112 : BitVec 32 := 2#32
  let c0_i32_115 : BitVec 32 := 0#32
  let v310 : BitVec 1 := Scalar.cmpi .sgt c2_i32_112 c0_i32_115
  let v311 : BitVec 32 := Scalar.extui v310
  let c0_i32_116 : BitVec 32 := 0#32
  let v312 : BitVec 1 := Scalar.cmpi .slt c2_i32_112 c0_i32_116
  let v313 : BitVec 32 := Scalar.extui v312
  let v314 : BitVec 32 := Scalar.subi v311 v313
  let v315 : BitVec 1 := Scalar.cmpi .ne v309 v314
  let v316 : BitVec 32 := Scalar.remsi v303 c2_i32_112
  let c0_i32_117 : BitVec 32 := 0#32
  let v317 : BitVec 1 := Scalar.cmpi .ne v316 c0_i32_117
  let v318 : BitVec 1 := Scalar.andi v315 v317
  let v304 : BitVec 32 := Scalar.divsi v303 c2_i32_112
  let c1_i32_118 : BitVec 32 := 1#32
  let v319 : BitVec 32 := Scalar.subi v304 c1_i32_118
  let v320 : BitVec 32 := Scalar.select v318 v319 v304
  let v321 : BitVec 32 := Scalar.subi v320 c0_i32_119
  let c1_i32_120 : BitVec 32 := 1#32
  let v323 : BitVec 32 := Scalar.divsi v321 c1_i32_120
  let v324 : BitVec 32 := Scalar.muli v323 c1_i32_120
  let v325 : BitVec 32 := Scalar.addi c0_i32_119 v324
  let c1_i32_122 : BitVec 32 := 1#32
  let arg8 : BitVec 32 := Scf.iv v325 c1_i32_122 k1_t2
  let c1_i32_140 : BitVec 32 := 1#32
  let v367 : BitVec 32 := Scalar.addi arg8 c1_i32_140
  let c7_i32_141 : BitVec 32 := 7#32
  let v368 : BitVec 32 := Scalar.minsi v367 c7_i32_141
  let c2_i32_142 : BitVec 32 := 2#32
  let v369 : BitVec 32 := Scalar.muli v368 c2_i32_142
  let c1024_i32_143 : BitVec 32 := 1024#32
  let v370 : BitVec 32 := Scalar.muli v369 c1024_i32_143
  let v371 : BitVec 32 := v370
  let v372 : Index := Scalar.indexCast v371
  let c0_145 : Index := 0#32
  ![0, v372.toNat, 0]
def k1_mult11 (i : grid1.Coords) (k1_t2 : Fin (k1_t2_loop i).trips) : BitVec 32 :=
  let c0_i32_119 : BitVec 32 := 0#32
  let arg1 : BitVec 32 := BitVec.ofNat 32 (i 1).val
  let c4_i32 : BitVec 32 := 4#32
  let v285 : BitVec 32 := Scalar.addi arg1 c4_i32
  let c1_i32 : BitVec 32 := 1#32
  let v286 : BitVec 32 := Scalar.subi v285 c1_i32
  let c0_i32_106 : BitVec 32 := 0#32
  let v288 : BitVec 1 := Scalar.cmpi .sgt v286 c0_i32_106
  let v289 : BitVec 32 := Scalar.extui v288
  let c0_i32_107 : BitVec 32 := 0#32
  let v290 : BitVec 1 := Scalar.cmpi .slt v286 c0_i32_107
  let v291 : BitVec 32 := Scalar.extui v290
  let v292 : BitVec 32 := Scalar.subi v289 v291
  let c4_i32_105 : BitVec 32 := 4#32
  let c0_i32_108 : BitVec 32 := 0#32
  let v293 : BitVec 1 := Scalar.cmpi .sgt c4_i32_105 c0_i32_108
  let v294 : BitVec 32 := Scalar.extui v293
  let c0_i32_109 : BitVec 32 := 0#32
  let v295 : BitVec 1 := Scalar.cmpi .slt c4_i32_105 c0_i32_109
  let v296 : BitVec 32 := Scalar.extui v295
  let v297 : BitVec 32 := Scalar.subi v294 v296
  let v298 : BitVec 1 := Scalar.cmpi .ne v292 v297
  let v299 : BitVec 32 := Scalar.remsi v286 c4_i32_105
  let c0_i32_110 : BitVec 32 := 0#32
  let v300 : BitVec 1 := Scalar.cmpi .ne v299 c0_i32_110
  let v301 : BitVec 1 := Scalar.andi v298 v300
  let v287 : BitVec 32 := Scalar.divsi v286 c4_i32_105
  let c1_i32_111 : BitVec 32 := 1#32
  let v302 : BitVec 32 := Scalar.subi v287 c1_i32_111
  let v303 : BitVec 32 := Scalar.select v301 v302 v287
  let c0_i32_113 : BitVec 32 := 0#32
  let v305 : BitVec 1 := Scalar.cmpi .sgt v303 c0_i32_113
  let v306 : BitVec 32 := Scalar.extui v305
  let c0_i32_114 : BitVec 32 := 0#32
  let v307 : BitVec 1 := Scalar.cmpi .slt v303 c0_i32_114
  let v308 : BitVec 32 := Scalar.extui v307
  let v309 : BitVec 32 := Scalar.subi v306 v308
  let c2_i32_112 : BitVec 32 := 2#32
  let c0_i32_115 : BitVec 32 := 0#32
  let v310 : BitVec 1 := Scalar.cmpi .sgt c2_i32_112 c0_i32_115
  let v311 : BitVec 32 := Scalar.extui v310
  let c0_i32_116 : BitVec 32 := 0#32
  let v312 : BitVec 1 := Scalar.cmpi .slt c2_i32_112 c0_i32_116
  let v313 : BitVec 32 := Scalar.extui v312
  let v314 : BitVec 32 := Scalar.subi v311 v313
  let v315 : BitVec 1 := Scalar.cmpi .ne v309 v314
  let v316 : BitVec 32 := Scalar.remsi v303 c2_i32_112
  let c0_i32_117 : BitVec 32 := 0#32
  let v317 : BitVec 1 := Scalar.cmpi .ne v316 c0_i32_117
  let v318 : BitVec 1 := Scalar.andi v315 v317
  let v304 : BitVec 32 := Scalar.divsi v303 c2_i32_112
  let c1_i32_118 : BitVec 32 := 1#32
  let v319 : BitVec 32 := Scalar.subi v304 c1_i32_118
  let v320 : BitVec 32 := Scalar.select v318 v319 v304
  let v321 : BitVec 32 := Scalar.subi v320 c0_i32_119
  let c1_i32_120 : BitVec 32 := 1#32
  let v323 : BitVec 32 := Scalar.divsi v321 c1_i32_120
  let v324 : BitVec 32 := Scalar.muli v323 c1_i32_120
  let v325 : BitVec 32 := Scalar.addi c0_i32_119 v324
  let c1_i32_122 : BitVec 32 := 1#32
  let arg8 : BitVec 32 := Scf.iv v325 c1_i32_122 k1_t2
  let c1_i32_156 : BitVec 32 := 1#32
  let v397 : BitVec 32 := Scalar.addi arg8 c1_i32_156
  let c7_i32_157 : BitVec 32 := 7#32
  let v398 : BitVec 32 := Scalar.minsi v397 c7_i32_157
  let c2_i32_158 : BitVec 32 := 2#32
  let v399 : BitVec 32 := Scalar.muli v398 c2_i32_158
  let c1024_i32_159 : BitVec 32 := 1024#32
  let v400 : BitVec 32 := Scalar.muli v399 c1024_i32_159
  v400
def k1_off11 (i : grid1.Coords) (k1_t2 : Fin (k1_t2_loop i).trips) : Fin 3 → Nat :=
  let c1_160 : Index := 1#32
  let c0_i32_119 : BitVec 32 := 0#32
  let arg1 : BitVec 32 := BitVec.ofNat 32 (i 1).val
  let c4_i32 : BitVec 32 := 4#32
  let v285 : BitVec 32 := Scalar.addi arg1 c4_i32
  let c1_i32 : BitVec 32 := 1#32
  let v286 : BitVec 32 := Scalar.subi v285 c1_i32
  let c0_i32_106 : BitVec 32 := 0#32
  let v288 : BitVec 1 := Scalar.cmpi .sgt v286 c0_i32_106
  let v289 : BitVec 32 := Scalar.extui v288
  let c0_i32_107 : BitVec 32 := 0#32
  let v290 : BitVec 1 := Scalar.cmpi .slt v286 c0_i32_107
  let v291 : BitVec 32 := Scalar.extui v290
  let v292 : BitVec 32 := Scalar.subi v289 v291
  let c4_i32_105 : BitVec 32 := 4#32
  let c0_i32_108 : BitVec 32 := 0#32
  let v293 : BitVec 1 := Scalar.cmpi .sgt c4_i32_105 c0_i32_108
  let v294 : BitVec 32 := Scalar.extui v293
  let c0_i32_109 : BitVec 32 := 0#32
  let v295 : BitVec 1 := Scalar.cmpi .slt c4_i32_105 c0_i32_109
  let v296 : BitVec 32 := Scalar.extui v295
  let v297 : BitVec 32 := Scalar.subi v294 v296
  let v298 : BitVec 1 := Scalar.cmpi .ne v292 v297
  let v299 : BitVec 32 := Scalar.remsi v286 c4_i32_105
  let c0_i32_110 : BitVec 32 := 0#32
  let v300 : BitVec 1 := Scalar.cmpi .ne v299 c0_i32_110
  let v301 : BitVec 1 := Scalar.andi v298 v300
  let v287 : BitVec 32 := Scalar.divsi v286 c4_i32_105
  let c1_i32_111 : BitVec 32 := 1#32
  let v302 : BitVec 32 := Scalar.subi v287 c1_i32_111
  let v303 : BitVec 32 := Scalar.select v301 v302 v287
  let c0_i32_113 : BitVec 32 := 0#32
  let v305 : BitVec 1 := Scalar.cmpi .sgt v303 c0_i32_113
  let v306 : BitVec 32 := Scalar.extui v305
  let c0_i32_114 : BitVec 32 := 0#32
  let v307 : BitVec 1 := Scalar.cmpi .slt v303 c0_i32_114
  let v308 : BitVec 32 := Scalar.extui v307
  let v309 : BitVec 32 := Scalar.subi v306 v308
  let c2_i32_112 : BitVec 32 := 2#32
  let c0_i32_115 : BitVec 32 := 0#32
  let v310 : BitVec 1 := Scalar.cmpi .sgt c2_i32_112 c0_i32_115
  let v311 : BitVec 32 := Scalar.extui v310
  let c0_i32_116 : BitVec 32 := 0#32
  let v312 : BitVec 1 := Scalar.cmpi .slt c2_i32_112 c0_i32_116
  let v313 : BitVec 32 := Scalar.extui v312
  let v314 : BitVec 32 := Scalar.subi v311 v313
  let v315 : BitVec 1 := Scalar.cmpi .ne v309 v314
  let v316 : BitVec 32 := Scalar.remsi v303 c2_i32_112
  let c0_i32_117 : BitVec 32 := 0#32
  let v317 : BitVec 1 := Scalar.cmpi .ne v316 c0_i32_117
  let v318 : BitVec 1 := Scalar.andi v315 v317
  let v304 : BitVec 32 := Scalar.divsi v303 c2_i32_112
  let c1_i32_118 : BitVec 32 := 1#32
  let v319 : BitVec 32 := Scalar.subi v304 c1_i32_118
  let v320 : BitVec 32 := Scalar.select v318 v319 v304
  let v321 : BitVec 32 := Scalar.subi v320 c0_i32_119
  let c1_i32_120 : BitVec 32 := 1#32
  let v323 : BitVec 32 := Scalar.divsi v321 c1_i32_120
  let v324 : BitVec 32 := Scalar.muli v323 c1_i32_120
  let v325 : BitVec 32 := Scalar.addi c0_i32_119 v324
  let c1_i32_122 : BitVec 32 := 1#32
  let arg8 : BitVec 32 := Scf.iv v325 c1_i32_122 k1_t2
  let c1_i32_156 : BitVec 32 := 1#32
  let v397 : BitVec 32 := Scalar.addi arg8 c1_i32_156
  let c7_i32_157 : BitVec 32 := 7#32
  let v398 : BitVec 32 := Scalar.minsi v397 c7_i32_157
  let c2_i32_158 : BitVec 32 := 2#32
  let v399 : BitVec 32 := Scalar.muli v398 c2_i32_158
  let c1024_i32_159 : BitVec 32 := 1024#32
  let v400 : BitVec 32 := Scalar.muli v399 c1024_i32_159
  let v401 : BitVec 32 := v400
  let v402 : Index := Scalar.indexCast v401
  let c0_161 : Index := 0#32
  ![1, v402.toNat, 0]
def k1_cond1 (i : grid1.Coords) : BitVec 1 :=
  let arg1 : BitVec 32 := BitVec.ofNat 32 (i 1).val
  let c4_i32 : BitVec 32 := 4#32
  let v285 : BitVec 32 := Scalar.addi arg1 c4_i32
  let c1_i32 : BitVec 32 := 1#32
  let v286 : BitVec 32 := Scalar.subi v285 c1_i32
  let c0_i32_106 : BitVec 32 := 0#32
  let v288 : BitVec 1 := Scalar.cmpi .sgt v286 c0_i32_106
  let v289 : BitVec 32 := Scalar.extui v288
  let c0_i32_107 : BitVec 32 := 0#32
  let v290 : BitVec 1 := Scalar.cmpi .slt v286 c0_i32_107
  let v291 : BitVec 32 := Scalar.extui v290
  let v292 : BitVec 32 := Scalar.subi v289 v291
  let c4_i32_105 : BitVec 32 := 4#32
  let c0_i32_108 : BitVec 32 := 0#32
  let v293 : BitVec 1 := Scalar.cmpi .sgt c4_i32_105 c0_i32_108
  let v294 : BitVec 32 := Scalar.extui v293
  let c0_i32_109 : BitVec 32 := 0#32
  let v295 : BitVec 1 := Scalar.cmpi .slt c4_i32_105 c0_i32_109
  let v296 : BitVec 32 := Scalar.extui v295
  let v297 : BitVec 32 := Scalar.subi v294 v296
  let v298 : BitVec 1 := Scalar.cmpi .ne v292 v297
  let v299 : BitVec 32 := Scalar.remsi v286 c4_i32_105
  let c0_i32_110 : BitVec 32 := 0#32
  let v300 : BitVec 1 := Scalar.cmpi .ne v299 c0_i32_110
  let v301 : BitVec 1 := Scalar.andi v298 v300
  let v287 : BitVec 32 := Scalar.divsi v286 c4_i32_105
  let c1_i32_111 : BitVec 32 := 1#32
  let v302 : BitVec 32 := Scalar.subi v287 c1_i32_111
  let v303 : BitVec 32 := Scalar.select v301 v302 v287
  let c2_i32_123 : BitVec 32 := 2#32
  let c0_i32_124 : BitVec 32 := 0#32
  let v328 : BitVec 1 := Scalar.cmpi .eq c2_i32_123 c0_i32_124
  let c1_i32_125 : BitVec 32 := 1#32
  let v329 : BitVec 32 := Scalar.select v328 c1_i32_125 c2_i32_123
  let v330 : BitVec 32 := Scalar.remsi v303 v329
  let c0_i32_127 : BitVec 32 := 0#32
  let v332 : BitVec 1 := Scalar.cmpi .slt v330 c0_i32_127
  let c0_i32_128 : BitVec 32 := 0#32
  let v333 : BitVec 1 := Scalar.cmpi .slt v329 c0_i32_128
  let v334 : BitVec 1 := Scalar.xori v332 v333
  let c0_i32_126 : BitVec 32 := 0#32
  let v331 : BitVec 1 := Scalar.cmpi .ne v330 c0_i32_126
  let v335 : BitVec 1 := Scalar.andi v334 v331
  let v336 : BitVec 32 := Scalar.addi v330 v329
  let v337 : BitVec 32 := Scalar.select v335 v336 v330
  let c0_i32_129 : BitVec 32 := 0#32
  let v338 : BitVec 32 := Scalar.maxsi v337 c0_i32_129
  let c1_i32_130 : BitVec 32 := 1#32
  let v339 : BitVec 32 := Scalar.minsi v338 c1_i32_130
  let c0_i32_131 : BitVec 32 := 0#32
  let v340 : BitVec 1 := Scalar.cmpi .ne v339 c0_i32_131
  v340

def k1_mult12 (i : grid1.Coords) : BitVec 32 :=
  let arg1 : BitVec 32 := BitVec.ofNat 32 (i 1).val
  let c4_i32 : BitVec 32 := 4#32
  let v285 : BitVec 32 := Scalar.addi arg1 c4_i32
  let c1_i32 : BitVec 32 := 1#32
  let v286 : BitVec 32 := Scalar.subi v285 c1_i32
  let c0_i32_106 : BitVec 32 := 0#32
  let v288 : BitVec 1 := Scalar.cmpi .sgt v286 c0_i32_106
  let v289 : BitVec 32 := Scalar.extui v288
  let c0_i32_107 : BitVec 32 := 0#32
  let v290 : BitVec 1 := Scalar.cmpi .slt v286 c0_i32_107
  let v291 : BitVec 32 := Scalar.extui v290
  let v292 : BitVec 32 := Scalar.subi v289 v291
  let c4_i32_105 : BitVec 32 := 4#32
  let c0_i32_108 : BitVec 32 := 0#32
  let v293 : BitVec 1 := Scalar.cmpi .sgt c4_i32_105 c0_i32_108
  let v294 : BitVec 32 := Scalar.extui v293
  let c0_i32_109 : BitVec 32 := 0#32
  let v295 : BitVec 1 := Scalar.cmpi .slt c4_i32_105 c0_i32_109
  let v296 : BitVec 32 := Scalar.extui v295
  let v297 : BitVec 32 := Scalar.subi v294 v296
  let v298 : BitVec 1 := Scalar.cmpi .ne v292 v297
  let v299 : BitVec 32 := Scalar.remsi v286 c4_i32_105
  let c0_i32_110 : BitVec 32 := 0#32
  let v300 : BitVec 1 := Scalar.cmpi .ne v299 c0_i32_110
  let v301 : BitVec 1 := Scalar.andi v298 v300
  let v287 : BitVec 32 := Scalar.divsi v286 c4_i32_105
  let c1_i32_111 : BitVec 32 := 1#32
  let v302 : BitVec 32 := Scalar.subi v287 c1_i32_111
  let v303 : BitVec 32 := Scalar.select v301 v302 v287
  let c0_i32_136 : BitVec 32 := 0#32
  let v355 : BitVec 1 := Scalar.cmpi .sgt v303 c0_i32_136
  let v356 : BitVec 32 := Scalar.extui v355
  let c0_i32_137 : BitVec 32 := 0#32
  let v357 : BitVec 1 := Scalar.cmpi .slt v303 c0_i32_137
  let v358 : BitVec 32 := Scalar.extui v357
  let v359 : BitVec 32 := Scalar.subi v356 v358
  let c2_i32_135 : BitVec 32 := 2#32
  let c0_i32_138 : BitVec 32 := 0#32
  let v360 : BitVec 1 := Scalar.cmpi .sgt c2_i32_135 c0_i32_138
  let v361 : BitVec 32 := Scalar.extui v360
  let c0_i32_139 : BitVec 32 := 0#32
  let v362 : BitVec 1 := Scalar.cmpi .slt c2_i32_135 c0_i32_139
  let v363 : BitVec 32 := Scalar.extui v362
  let v364 : BitVec 32 := Scalar.subi v361 v363
  let v365 : BitVec 1 := Scalar.cmpi .ne v359 v364
  let v366 : BitVec 32 := Scalar.remsi v303 c2_i32_135
  let c0_i32_140 : BitVec 32 := 0#32
  let v367 : BitVec 1 := Scalar.cmpi .ne v366 c0_i32_140
  let v368 : BitVec 1 := Scalar.andi v365 v367
  let v354 : BitVec 32 := Scalar.divsi v303 c2_i32_135
  let c1_i32_141 : BitVec 32 := 1#32
  let v369 : BitVec 32 := Scalar.subi v354 c1_i32_141
  let v370 : BitVec 32 := Scalar.select v368 v369 v354
  let c7_i32_142 : BitVec 32 := 7#32
  let v371 : BitVec 32 := Scalar.minsi v370 c7_i32_142
  let c2048_i32 : BitVec 32 := 2048#32
  let v372 : BitVec 32 := Scalar.muli v371 c2048_i32
  v372
def k1_off12 (i : grid1.Coords) : Fin 2 → Nat :=
  let c0_143 : Index := 0#32
  let arg1 : BitVec 32 := BitVec.ofNat 32 (i 1).val
  let c4_i32 : BitVec 32 := 4#32
  let v285 : BitVec 32 := Scalar.addi arg1 c4_i32
  let c1_i32 : BitVec 32 := 1#32
  let v286 : BitVec 32 := Scalar.subi v285 c1_i32
  let c0_i32_106 : BitVec 32 := 0#32
  let v288 : BitVec 1 := Scalar.cmpi .sgt v286 c0_i32_106
  let v289 : BitVec 32 := Scalar.extui v288
  let c0_i32_107 : BitVec 32 := 0#32
  let v290 : BitVec 1 := Scalar.cmpi .slt v286 c0_i32_107
  let v291 : BitVec 32 := Scalar.extui v290
  let v292 : BitVec 32 := Scalar.subi v289 v291
  let c4_i32_105 : BitVec 32 := 4#32
  let c0_i32_108 : BitVec 32 := 0#32
  let v293 : BitVec 1 := Scalar.cmpi .sgt c4_i32_105 c0_i32_108
  let v294 : BitVec 32 := Scalar.extui v293
  let c0_i32_109 : BitVec 32 := 0#32
  let v295 : BitVec 1 := Scalar.cmpi .slt c4_i32_105 c0_i32_109
  let v296 : BitVec 32 := Scalar.extui v295
  let v297 : BitVec 32 := Scalar.subi v294 v296
  let v298 : BitVec 1 := Scalar.cmpi .ne v292 v297
  let v299 : BitVec 32 := Scalar.remsi v286 c4_i32_105
  let c0_i32_110 : BitVec 32 := 0#32
  let v300 : BitVec 1 := Scalar.cmpi .ne v299 c0_i32_110
  let v301 : BitVec 1 := Scalar.andi v298 v300
  let v287 : BitVec 32 := Scalar.divsi v286 c4_i32_105
  let c1_i32_111 : BitVec 32 := 1#32
  let v302 : BitVec 32 := Scalar.subi v287 c1_i32_111
  let v303 : BitVec 32 := Scalar.select v301 v302 v287
  let c0_i32_136 : BitVec 32 := 0#32
  let v355 : BitVec 1 := Scalar.cmpi .sgt v303 c0_i32_136
  let v356 : BitVec 32 := Scalar.extui v355
  let c0_i32_137 : BitVec 32 := 0#32
  let v357 : BitVec 1 := Scalar.cmpi .slt v303 c0_i32_137
  let v358 : BitVec 32 := Scalar.extui v357
  let v359 : BitVec 32 := Scalar.subi v356 v358
  let c2_i32_135 : BitVec 32 := 2#32
  let c0_i32_138 : BitVec 32 := 0#32
  let v360 : BitVec 1 := Scalar.cmpi .sgt c2_i32_135 c0_i32_138
  let v361 : BitVec 32 := Scalar.extui v360
  let c0_i32_139 : BitVec 32 := 0#32
  let v362 : BitVec 1 := Scalar.cmpi .slt c2_i32_135 c0_i32_139
  let v363 : BitVec 32 := Scalar.extui v362
  let v364 : BitVec 32 := Scalar.subi v361 v363
  let v365 : BitVec 1 := Scalar.cmpi .ne v359 v364
  let v366 : BitVec 32 := Scalar.remsi v303 c2_i32_135
  let c0_i32_140 : BitVec 32 := 0#32
  let v367 : BitVec 1 := Scalar.cmpi .ne v366 c0_i32_140
  let v368 : BitVec 1 := Scalar.andi v365 v367
  let v354 : BitVec 32 := Scalar.divsi v303 c2_i32_135
  let c1_i32_141 : BitVec 32 := 1#32
  let v369 : BitVec 32 := Scalar.subi v354 c1_i32_141
  let v370 : BitVec 32 := Scalar.select v368 v369 v354
  let c7_i32_142 : BitVec 32 := 7#32
  let v371 : BitVec 32 := Scalar.minsi v370 c7_i32_142
  let c2048_i32 : BitVec 32 := 2048#32
  let v372 : BitVec 32 := Scalar.muli v371 c2048_i32
  let v373 : BitVec 32 := v372
  let v374 : Index := Scalar.indexCast v373
  ![0, v374.toNat]
def cc1_transform_0 (i : grid1.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x16384x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S128x16384 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S128x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F] [Named F]
def κ : String → Option EReal := fun
  | "log2_scale" => some (((1 / 8) * (Real.log 2)⁻¹ : ℝ) : EReal)
  | "mask" => some ⊥
  | _ => none
-- ==== ReferenceIdeal.lean ====
abbrev S16384x11264 : Shape := ⟨2, ![16384, 11264]⟩
abbrev S16384x1024 : Shape := ⟨2, ![16384, 1024]⟩
abbrev S64x256x16x64 : Shape := ⟨4, ![64, 256, 16, 64]⟩
abbrev S16x64x256x64 : Shape := ⟨4, ![16, 64, 256, 64]⟩
abbrev S_ : Shape := ⟨0, ![]⟩
abbrev S16x64x64 : Shape := ⟨3, ![16, 64, 64]⟩
abbrev S64 : Shape := ⟨1, ![64]⟩
abbrev S256 : Shape := ⟨1, ![256]⟩
abbrev S64x1x1 : Shape := ⟨3, ![64, 1, 1]⟩
abbrev S1x1x64 : Shape := ⟨3, ![1, 1, 64]⟩
abbrev S64x1x64 : Shape := ⟨3, ![64, 1, 64]⟩
abbrev S16x64x256x3 : Shape := ⟨4, ![16, 64, 256, 3]⟩
abbrev S3 : Shape := ⟨1, ![3]⟩
abbrev S64x1 : Shape := ⟨2, ![64, 1]⟩
abbrev S1x3 : Shape := ⟨2, ![1, 3]⟩
abbrev S64x3 : Shape := ⟨2, ![64, 3]⟩
abbrev S16 : Shape := ⟨1, ![16]⟩
abbrev S16x1x1x1 : Shape := ⟨4, ![16, 1, 1, 1]⟩
abbrev S16x64x256x3x1 : Shape := ⟨5, ![16, 64, 256, 3, 1]⟩
abbrev S16x64x256x3x2 : Shape := ⟨5, ![16, 64, 256, 3, 2]⟩
abbrev S16x64x256x3x256x64 : Shape := ⟨6, ![16, 64, 256, 3, 256, 64]⟩
abbrev S16x64x256x3x256 : Shape := ⟨5, ![16, 64, 256, 3, 256]⟩
abbrev S64x1x3x1 : Shape := ⟨4, ![64, 1, 3, 1]⟩
abbrev S16x64x256x256 : Shape := ⟨4, ![16, 64, 256, 256]⟩
abbrev S1x256 : Shape := ⟨2, ![1, 256]⟩
abbrev S256x1 : Shape := ⟨2, ![256, 1]⟩
abbrev S256x256 : Shape := ⟨2, ![256, 256]⟩
abbrev S16x64x256x768 : Shape := ⟨4, ![16, 64, 256, 768]⟩
abbrev S16x64x256x1024 : Shape := ⟨4, ![16, 64, 256, 1024]⟩
abbrev S16x64x256 : Shape := ⟨3, ![16, 64, 256]⟩
abbrev S16x64x256x1 : Shape := ⟨4, ![16, 64, 256, 1]⟩
abbrev S16x64x64x256 : Shape := ⟨4, ![16, 64, 64, 256]⟩
abbrev S1024x16384 : Shape := ⟨2, ![1024, 16384]⟩

abbrev nBuf : Space → Nat
  | .hbm => 128
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S16384x1024, .bf16⟩
  | .hbm, ⟨5, _⟩ => ⟨S16384x1024, .f32⟩
  | .hbm, ⟨6, _⟩ => ⟨S16384x1024, .f32⟩
  | .hbm, ⟨7, _⟩ => ⟨S64x256x16x64, .f32⟩
  | .hbm, ⟨8, _⟩ => ⟨S16x64x256x64, .f32⟩
  | .hbm, ⟨9, _⟩ => ⟨S64x256x16x64, .f32⟩
  | .hbm, ⟨10, _⟩ => ⟨S16x64x256x64, .f32⟩
  | .hbm, ⟨11, _⟩ => ⟨S64x256x16x64, .f32⟩
  | .hbm, ⟨12, _⟩ => ⟨S16x64x256x64, .f32⟩
  | .hbm, ⟨13, _⟩ => ⟨S_, .f32⟩
  | .hbm, ⟨14, _⟩ => ⟨S16x64x64, .f32⟩
  | .hbm, ⟨15, _⟩ => ⟨S_, .f32⟩
  | .hbm, ⟨16, _⟩ => ⟨S16x64x64, .f32⟩
  | .hbm, ⟨17, _⟩ => ⟨S16x64x64, .f32⟩
  | .hbm, ⟨18, _⟩ => ⟨S64, .i32⟩
  | .hbm, ⟨19, _⟩ => ⟨S256, .i32⟩
  | .hbm, ⟨20, _⟩ => ⟨S16x64x256x64, .f32⟩
  | .hbm, ⟨21, _⟩ => ⟨S64x1x1, .i32⟩
  | .hbm, ⟨22, _⟩ => ⟨S1x1x64, .i32⟩
  | .hbm, ⟨23, _⟩ => ⟨S64x1x64, .i32⟩
  | .hbm, ⟨24, _⟩ => ⟨S64x1x64, .i32⟩
  | .hbm, ⟨25, _⟩ => ⟨S64x1x64, .i1⟩
  | .hbm, ⟨26, _⟩ => ⟨S_, .f32⟩
  | .hbm, ⟨27, _⟩ => ⟨S_, .f32⟩
  | .hbm, ⟨28, _⟩ => ⟨S16x64x256x64, .i1⟩
  | .hbm, ⟨29, _⟩ => ⟨S16x64x256x64, .f32⟩
  | .hbm, ⟨30, _⟩ => ⟨S16x64x256x64, .f32⟩
  | .hbm, ⟨31, _⟩ => ⟨S16x64x256x3, .f32⟩
  | .hbm, ⟨32, _⟩ => ⟨S16x64x256x3, .i32⟩
  | .hbm, ⟨33, _⟩ => ⟨S3, .i32⟩
  | .hbm, ⟨34, _⟩ => ⟨S64x1, .i32⟩
  | .hbm, ⟨35, _⟩ => ⟨S1x3, .i32⟩
  | .hbm, ⟨36, _⟩ => ⟨S64x3, .i32⟩
  | .hbm, ⟨37, _⟩ => ⟨S64x3, .i32⟩
  | .hbm, ⟨38, _⟩ => ⟨S64x3, .i1⟩
  | .hbm, ⟨39, _⟩ => ⟨S16, .i32⟩
  | .hbm, ⟨40, _⟩ => ⟨S16x1x1x1, .i32⟩
  | .hbm, ⟨41, _⟩ => ⟨S_, .i32⟩
  | .hbm, ⟨42, _⟩ => ⟨S16x1x1x1, .i32⟩
  | .hbm, ⟨43, _⟩ => ⟨S16x1x1x1, .i1⟩
  | .hbm, ⟨44, _⟩ => ⟨S_, .i32⟩
  | .hbm, ⟨45, _⟩ => ⟨S16x1x1x1, .i32⟩
  | .hbm, ⟨46, _⟩ => ⟨S16x1x1x1, .i32⟩
  | .hbm, ⟨47, _⟩ => ⟨S16x1x1x1, .i32⟩
  | .hbm, ⟨48, _⟩ => ⟨S_, .i32⟩
  | .hbm, ⟨49, _⟩ => ⟨S16x64x256x3, .i32⟩
  | .hbm, ⟨50, _⟩ => ⟨S16x64x256x3, .i1⟩
  | .hbm, ⟨51, _⟩ => ⟨S_, .i32⟩
  | .hbm, ⟨52, _⟩ => ⟨S16x64x256x3, .i32⟩
  | .hbm, ⟨53, _⟩ => ⟨S16x64x256x3, .i32⟩
  | .hbm, ⟨54, _⟩ => ⟨S16x64x256x3, .i32⟩
  | .hbm, ⟨55, _⟩ => ⟨S16x64x256x3, .i32⟩
  | .hbm, ⟨56, _⟩ => ⟨S16x64x256x3x1, .i32⟩
  | .hbm, ⟨57, _⟩ => ⟨S16x64x256x3x1, .i32⟩
  | .hbm, ⟨58, _⟩ => ⟨S16x64x256x3x2, .i32⟩
  | .hbm, ⟨59, _⟩ => ⟨S16x64x256x3x256x64, .f32⟩
  | .hbm, ⟨60, _⟩ => ⟨S_, .i32⟩
  | .hbm, ⟨61, _⟩ => ⟨S16x1x1x1, .i32⟩
  | .hbm, ⟨62, _⟩ => ⟨S16x1x1x1, .i1⟩
  | .hbm, ⟨63, _⟩ => ⟨S_, .i32⟩
  | .hbm, ⟨64, _⟩ => ⟨S16x1x1x1, .i32⟩
  | .hbm, ⟨65, _⟩ => ⟨S16x1x1x1, .i32⟩
  | .hbm, ⟨66, _⟩ => ⟨S16x1x1x1, .i32⟩
  | .hbm, ⟨67, _⟩ => ⟨S_, .i32⟩
  | .hbm, ⟨68, _⟩ => ⟨S16x64x256x3, .i32⟩
  | .hbm, ⟨69, _⟩ => ⟨S16x64x256x3, .i1⟩
  | .hbm, ⟨70, _⟩ => ⟨S_, .i32⟩
  | .hbm, ⟨71, _⟩ => ⟨S16x64x256x3, .i32⟩
  | .hbm, ⟨72, _⟩ => ⟨S16x64x256x3, .i32⟩
  | .hbm, ⟨73, _⟩ => ⟨S16x64x256x3, .i32⟩
  | .hbm, ⟨74, _⟩ => ⟨S16x64x256x3, .i32⟩
  | .hbm, ⟨75, _⟩ => ⟨S16x64x256x3x1, .i32⟩
  | .hbm, ⟨76, _⟩ => ⟨S16x64x256x3x1, .i32⟩
  | .hbm, ⟨77, _⟩ => ⟨S16x64x256x3x2, .i32⟩
  | .hbm, ⟨78, _⟩ => ⟨S16x64x256x3x256x64, .f32⟩
  | .hbm, ⟨79, _⟩ => ⟨S16x64x256x3x256, .f32⟩
  | .hbm, ⟨80, _⟩ => ⟨S_, .f32⟩
  | .hbm, ⟨81, _⟩ => ⟨S16x64x256x3x256, .f32⟩
  | .hbm, ⟨82, _⟩ => ⟨S16x64x256x3x256, .f32⟩
  | .hbm, ⟨83, _⟩ => ⟨S64x1x3x1, .i1⟩
  | .hbm, ⟨84, _⟩ => ⟨S_, .f32⟩
  | .hbm, ⟨85, _⟩ => ⟨S_, .f32⟩
  | .hbm, ⟨86, _⟩ => ⟨S16x64x256x3x256, .i1⟩
  | .hbm, ⟨87, _⟩ => ⟨S16x64x256x3x256, .f32⟩
  | .hbm, ⟨88, _⟩ => ⟨S16x64x256x3x256, .f32⟩
  | .hbm, ⟨89, _⟩ => ⟨S16x64x256x256, .f32⟩
  | .hbm, ⟨90, _⟩ => ⟨S_, .f32⟩
  | .hbm, ⟨91, _⟩ => ⟨S16x64x256x256, .f32⟩
  | .hbm, ⟨92, _⟩ => ⟨S16x64x256x256, .f32⟩
  | .hbm, ⟨93, _⟩ => ⟨S1x256, .i32⟩
  | .hbm, ⟨94, _⟩ => ⟨S256x1, .i32⟩
  | .hbm, ⟨95, _⟩ => ⟨S256x256, .i32⟩
  | .hbm, ⟨96, _⟩ => ⟨S256x256, .i32⟩
  | .hbm, ⟨97, _⟩ => ⟨S256x256, .i1⟩
  | .hbm, ⟨98, _⟩ => ⟨S_, .f32⟩
  | .hbm, ⟨99, _⟩ => ⟨S_, .f32⟩
  | .hbm, ⟨100, _⟩ => ⟨S16x64x256x256, .i1⟩
  | .hbm, ⟨101, _⟩ => ⟨S16x64x256x256, .f32⟩
  | .hbm, ⟨102, _⟩ => ⟨S16x64x256x256, .f32⟩
  | .hbm, ⟨103, _⟩ => ⟨S16x64x256x768, .f32⟩
  | .hbm, ⟨104, _⟩ => ⟨S16x64x256x1024, .f32⟩
  | .hbm, ⟨105, _⟩ => ⟨S_, .f32⟩
  | .hbm, ⟨106, _⟩ => ⟨S16x64x256, .f32⟩
  | .hbm, ⟨107, _⟩ => ⟨S_, .f32⟩
  | .hbm, ⟨108, _⟩ => ⟨S16x64x256, .f32⟩
  | .hbm, ⟨109, _⟩ => ⟨S16x64x256, .f32⟩
  | .hbm, ⟨110, _⟩ => ⟨S16x64x256x1, .f32⟩
  | .hbm, ⟨111, _⟩ => ⟨S16x64x256x1024, .f32⟩
  | .hbm, ⟨112, _⟩ => ⟨S16x64x256x1024, .f32⟩
  | .hbm, ⟨113, _⟩ => ⟨S16x64x256x1024, .f32⟩
  | .hbm, ⟨114, _⟩ => ⟨S_, .f32⟩
  | .hbm, ⟨115, _⟩ => ⟨S16x64x256, .f32⟩
  | .hbm, ⟨116, _⟩ => ⟨S16x64x256x1, .f32⟩
  | .hbm, ⟨117, _⟩ => ⟨S16x64x256x1024, .f32⟩
  | .hbm, ⟨118, _⟩ => ⟨S16x64x256x1024, .f32⟩
  | .hbm, ⟨119, _⟩ => ⟨S16x64x256x768, .f32⟩
  | .hbm, ⟨120, _⟩ => ⟨S16x64x256x3x256, .f32⟩
  | .hbm, ⟨121, _⟩ => ⟨S16x64x256x256, .f32⟩
  | .hbm, ⟨122, _⟩ => ⟨S16x64x256x64, .f32⟩
  | .hbm, ⟨123, _⟩ => ⟨S16x64x256x64, .f32⟩
  | .hbm, ⟨124, _⟩ => ⟨S16x64x256x64, .f32⟩
  | .hbm, ⟨125, _⟩ => ⟨S16x64x64x256, .f32⟩
  | .hbm, ⟨126, _⟩ => ⟨S1024x16384, .f32⟩
  | .hbm, ⟨127, _⟩ => ⟨S1024x16384, .bf16⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_values : Ref sig .tc := ⟨.hbm, 31, rfl⟩
abbrev main_indices : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_v31 : Ref sig .tc := ⟨.hbm, 42, rfl⟩
abbrev main_v32 : Ref sig .tc := ⟨.hbm, 43, rfl⟩
abbrev main_c_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_3 : Ref sig .tc := ⟨.hbm, 48, rfl⟩
abbrev main_v36 : Ref sig .tc := ⟨.hbm, 49, rfl⟩
abbrev main_v37 : Ref sig .tc := ⟨.hbm, 50, rfl⟩
abbrev main_c_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_5 : Ref sig .tc := ⟨.hbm, 60, rfl⟩
abbrev main_v46 : Ref sig .tc := ⟨.hbm, 61, rfl⟩
abbrev main_v47 : Ref sig .tc := ⟨.hbm, 62, rfl⟩
abbrev main_c_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_7 : Ref sig .tc := ⟨.hbm, 67, rfl⟩
abbrev main_v51 : Ref sig .tc := ⟨.hbm, 68, rfl⟩
abbrev main_v52 : Ref sig .tc := ⟨.hbm, 69, rfl⟩
abbrev main_c_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_13 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_15 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩

abbrev nD : Nat := 1
abbrev τ : Topo := Topo.v7x

variable {F : FTy → Type} [FloatOps F]
-- ==== Projection.lean ====
abbrev S16384x1024 : Shape := ⟨2, ![16384, 1024]⟩
abbrev S2x1024 : Shape := ⟨2, ![2, 1024]⟩
abbrev S2x1024x12304 : Shape := ⟨3, ![2, 1024, 12304]⟩
abbrev S2x1024x3072 : Shape := ⟨3, ![2, 1024, 3072]⟩
abbrev S2x1024x4096 : Shape := ⟨3, ![2, 1024, 4096]⟩
abbrev S2x1024x11264 : Shape := ⟨3, ![2, 1024, 11264]⟩
abbrev S2x1024x1024 : Shape := ⟨3, ![2, 1024, 1024]⟩
abbrev S2x1024x16 : Shape := ⟨3, ![2, 1024, 16]⟩
abbrev S_ : Shape := ⟨0, ![]⟩
abbrev S2x1024x128 : Shape := ⟨3, ![2, 1024, 128]⟩
abbrev S1x1024 : Shape := ⟨2, ![1, 1024]⟩
abbrev S1024 : Shape := ⟨1, ![1024]⟩
abbrev S16384x11264 : Shape := ⟨2, ![16384, 11264]⟩
abbrev S1024x16384 : Shape := ⟨2, ![1024, 16384]⟩
abbrev S16384x128 : Shape := ⟨2, ![16384, 128]⟩
abbrev S1024x1024 : Shape := ⟨2, ![1024, 1024]⟩
abbrev S1x1024x1024 : Shape := ⟨3, ![1, 1024, 1024]⟩
abbrev S1x1024x128 : Shape := ⟨3, ![1, 1024, 128]⟩
abbrev S1024x128 : Shape := ⟨2, ![1024, 128]⟩
abbrev S1024x1 : Shape := ⟨2, ![1024, 1]⟩

abbrev nBuf : Space → Nat
  | .hbm => 21
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x12304, .f32⟩
  | .hbm, ⟨3, _⟩ => ⟨S2x1024x3072, .f32⟩
  | .hbm, ⟨4, _⟩ => ⟨S2x1024x4096, .f32⟩
  | .hbm, ⟨5, _⟩ => ⟨S2x1024x4096, .f32⟩
  | .hbm, ⟨6, _⟩ => ⟨S2x1024x11264, .f32⟩
  | .hbm, ⟨7, _⟩ => ⟨S2x1024x11264, .bf16⟩
  | .hbm, ⟨8, _⟩ => ⟨S2x1024x1024, .f32⟩
  | .hbm, ⟨9, _⟩ => ⟨S2x1024x1024, .f32⟩
  | .hbm, ⟨10, _⟩ => ⟨S2x1024x1024, .bf16⟩
  | .hbm, ⟨11, _⟩ => ⟨S2x1024x16, .f32⟩
  | .hbm, ⟨12, _⟩ => ⟨S_, .i32⟩
  | .hbm, ⟨13, _⟩ => ⟨S_, .f32⟩
  | .hbm, ⟨14, _⟩ => ⟨S2x1024x128, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S16384x11264, .bf16⟩
  | .hbm, ⟨19, _⟩ => ⟨S1024x16384, .bf16⟩
  | .hbm, ⟨20, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x128, .f32⟩
  | .local _ .vmem, ⟨12, _⟩ => ⟨S1024x128, .f32⟩
  | .local _ .vmem, ⟨13, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ProjectedIdeal.lean ====
abbrev S16384x1024 : Shape := ⟨2, ![16384, 1024]⟩
abbrev S2x1024 : Shape := ⟨2, ![2, 1024]⟩
abbrev S2x1024x12304 : Shape := ⟨3, ![2, 1024, 12304]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x12304 : Shape := ⟨3, ![1, 1024, 12304]⟩
abbrev S1024x12304 : Shape := ⟨2, ![1024, 12304]⟩
abbrev S16384x12304 : Shape := ⟨2, ![16384, 12304]⟩
abbrev S16384x2048 : Shape := ⟨2, ![16384, 2048]⟩
abbrev S16384x16 : Shape := ⟨2, ![16384, 16]⟩
abbrev S16384x3072 : Shape := ⟨2, ![16384, 3072]⟩
abbrev S16384x11264 : Shape := ⟨2, ![16384, 11264]⟩
abbrev S1024x16384 : Shape := ⟨2, ![1024, 16384]⟩
abbrev S16384x128 : Shape := ⟨2, ![16384, 128]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x12304, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024x12304, .f32⟩
  | .hbm, ⟨22, _⟩ => ⟨S1024x12304, .f32⟩
  | .hbm, ⟨23, _⟩ => ⟨S16384x12304, .f32⟩
  | .hbm, ⟨24, _⟩ => ⟨S16384x1024, .f32⟩
  | .hbm, ⟨25, _⟩ => ⟨S16384x2048, .f32⟩
  | .hbm, ⟨26, _⟩ => ⟨S16384x16, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x3072, .f32⟩
  | .hbm, ⟨34, _⟩ => ⟨S16384x11264, .f32⟩
  | .hbm, ⟨35, _⟩ => ⟨S16384x11264, .bf16⟩
  | .hbm, ⟨36, _⟩ => ⟨S1024x16384, .f32⟩
  | .hbm, ⟨37, _⟩ => ⟨S1024x16384, .bf16⟩
  | .hbm, ⟨38, _⟩ => ⟨S_, .i32⟩
  | .hbm, ⟨39, _⟩ => ⟨S_, .f32⟩
  | .hbm, ⟨40, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c : Ref sig .tc := ⟨.hbm, 38, rfl⟩
abbrev main_call0_v0 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Merge.lean ====
abbrev S16384x1024 : Shape := ⟨2, ![16384, 1024]⟩
abbrev S16384x11264 : Shape := ⟨2, ![16384, 11264]⟩
abbrev S1024x16384 : Shape := ⟨2, ![1024, 16384]⟩
abbrev S2x3072 : Shape := ⟨2, ![2, 3072]⟩
abbrev S2x1024 : Shape := ⟨2, ![2, 1024]⟩
abbrev S1024 : Shape := ⟨1, ![1024]⟩
abbrev S2x1024x1024 : Shape := ⟨3, ![2, 1024, 1024]⟩
abbrev S1x3072 : Shape := ⟨2, ![1, 3072]⟩
abbrev S3072 : Shape := ⟨1, ![3072]⟩
abbrev S1x1024 : Shape := ⟨2, ![1, 1024]⟩
abbrev S512x1024 : Shape := ⟨2, ![512, 1024]⟩
abbrev S1024x512 : Shape := ⟨2, ![1024, 512]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 30
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x11264, .bf16⟩
  | .hbm, ⟨4, _⟩ => ⟨S1024x16384, .bf16⟩
  | .hbm, ⟨5, _⟩ => ⟨S2x3072, .f32⟩
  | .hbm, ⟨6, _⟩ => ⟨S2x1024, .f32⟩
  | .hbm, ⟨7, _⟩ => ⟨S2x1024, .f32⟩
  | .hbm, ⟨8, _⟩ => ⟨S1024, .f32⟩
  | .hbm, ⟨9, _⟩ => ⟨S2x1024x1024, .f32⟩
  | .hbm, ⟨10, _⟩ => ⟨S2x1024x1024, .f32⟩
  | .hbm, ⟨11, _⟩ => ⟨S2x1024x1024, .f32⟩
  | .hbm, ⟨12, _⟩ => ⟨S2x1024x1024, .f32⟩
  | .hbm, ⟨13, _⟩ => ⟨S2x1024x1024, .f32⟩
  | .hbm, ⟨14, _⟩ => ⟨S2x1024x1024, .bf16⟩
  | .hbm, ⟨15, _⟩ => ⟨S2x1024x1024, .bf16⟩
  | .hbm, ⟨16, _⟩ => ⟨S2x1024x1024, .bf16⟩
  | .hbm, ⟨17, _⟩ => ⟨S2x1024x1024, .bf16⟩
  | .hbm, ⟨18, _⟩ => ⟨S2x1024x1024, .bf16⟩
  | .hbm, ⟨19, _⟩ => ⟨S1x3072, .f32⟩
  | .hbm, ⟨20, _⟩ => ⟨S3072, .f32⟩
  | .hbm, ⟨21, _⟩ => ⟨S1x3072, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x3072, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024x1024, .bf16⟩
  | .local _ .vmem, ⟨25, _⟩ => ⟨S1x1024x1024, .bf16⟩
  | .local _ .vmem, ⟨26, _⟩ => ⟨S1x1024x1024, .bf16⟩
  | .local _ .vmem, ⟨27, _⟩ => ⟨S1x1024x1024, .bf16⟩
  | .local _ .vmem, ⟨28, _⟩ => ⟨S1x1024x1024, .bf16⟩
  | .local _ .vmem, ⟨29, _⟩ => ⟨S512x1024, .f32⟩
  | .local _ .vmem, ⟨30, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MergedIdeal.lean ====
abbrev S16384x1024 : Shape := ⟨2, ![16384, 1024]⟩
abbrev S16384x11264 : Shape := ⟨2, ![16384, 11264]⟩
abbrev S1024x16384 : Shape := ⟨2, ![1024, 16384]⟩
abbrev S2x3072 : Shape := ⟨2, ![2, 3072]⟩
abbrev S2x1024 : Shape := ⟨2, ![2, 1024]⟩
abbrev S1024 : Shape := ⟨1, ![1024]⟩
abbrev S2x1024x1024 : Shape := ⟨3, ![2, 1024, 1024]⟩
abbrev S16384x3072 : Shape := ⟨2, ![16384, 3072]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S1x3072 : Shape := ⟨2, ![1, 3072]⟩
abbrev S3072 : Shape := ⟨1, ![3072]⟩
abbrev S16384x3x1024 : Shape := ⟨3, ![16384, 3, 1024]⟩
abbrev S16384x1x1024 : Shape := ⟨3, ![16384, 1, 1024]⟩
abbrev S16384 : Shape := ⟨1, ![16384]⟩
abbrev S16384x1 : Shape := ⟨2, ![16384, 1]⟩

abbrev nBuf : Space → Nat
  | .hbm => 140
  | .vmem => 0
  | .smem => 0
  | _ => 0

abbrev hbmTy0_0 (i : Nat) : BufTy := match i % 128 with
  | 0 => ⟨S16384x1024, .f32⟩
  | 1 => ⟨S16384x1024, .bf16⟩
  | 2 => ⟨S16384x1024, .bf16⟩
  | 3 => ⟨S16384x11264, .bf16⟩
  | 4 => ⟨S1024x16384, .bf16⟩
  | 5 => ⟨S2x3072, .f32⟩
  | 6 => ⟨S2x1024, .f32⟩
  | 7 => ⟨S2x1024, .f32⟩
  | 8 => ⟨S1024, .f32⟩
  | 9 => ⟨S2x1024x1024, .f32⟩
  | 10 => ⟨S2x1024x1024, .f32⟩
  | 11 => ⟨S2x1024x1024, .f32⟩
  | 12 => ⟨S2x1024x1024, .f32⟩
  | 13 => ⟨S2x1024x1024, .f32⟩
  | 14 => ⟨S16384x1024, .bf16⟩
  | 15 => ⟨S16384x1024, .f32⟩
  | 16 => ⟨S16384x1024, .bf16⟩
  | 17 => ⟨S16384x1024, .f32⟩
  | 18 => ⟨S16384x1024, .bf16⟩
  | 19 => ⟨S16384x1024, .f32⟩
  | 20 => ⟨S16384x3072, .bf16⟩
  | 21 => ⟨S16384x3072, .f32⟩
  | 22 => ⟨S16384x1024, .f32⟩
  | 23 => ⟨S1x1024x1024, .f32⟩
  | 24 => ⟨S1024x1024, .f32⟩
  | 25 => ⟨S16384x1024, .f32⟩
  | 26 => ⟨S16384x1024, .f32⟩
  | 27 => ⟨S1x1024, .f32⟩
  | 28 => ⟨S1024, .f32⟩
  | 29 => ⟨S1x1024, .f32⟩
  | 30 => ⟨S16384x1024, .f32⟩
  | 31 => ⟨S16384x1024, .f32⟩
  | 32 => ⟨S16384x1024, .f32⟩
  | 33 => ⟨S16384x1024, .f32⟩
  | 34 => ⟨S16384x1024, .f32⟩
  | 35 => ⟨S_, .f32⟩
  | 36 => ⟨S16384x1024, .f32⟩
  | 37 => ⟨S16384x1024, .f32⟩
  | 38 => ⟨S16384x1024, .f32⟩
  | 39 => ⟨S_, .f32⟩
  | 40 => ⟨S16384x1024, .f32⟩
  | 41 => ⟨S16384x1024, .f32⟩
  | 42 => ⟨S16384x1024, .f32⟩
  | 43 => ⟨S_, .f32⟩
  | 44 => ⟨S16384x1024, .f32⟩
  | 45 => ⟨S16384x1024, .f32⟩
  | 46 => ⟨S_, .f32⟩
  | 47 => ⟨S16384x1024, .f32⟩
  | 48 => ⟨S16384x1024, .f32⟩
  | 49 => ⟨S16384x1024, .f32⟩
  | 50 => ⟨S1x1024x1024, .f32⟩
  | 51 => ⟨S1024x1024, .f32⟩
  | 52 => ⟨S16384x1024, .f32⟩
  | 53 => ⟨S1x1024, .f32⟩
  | 54 => ⟨S1024, .f32⟩
  | 55 => ⟨S1x1024, .f32⟩
  | 56 => ⟨S16384x1024, .f32⟩
  | 57 => ⟨S16384x1024, .f32⟩
  | 58 => ⟨S16384x1024, .f32⟩
  | 59 => ⟨S16384x1024, .f32⟩
  | 60 => ⟨S_, .f32⟩
  | 61 => ⟨S16384x1024, .f32⟩
  | 62 => ⟨S16384x1024, .f32⟩
  | 63 => ⟨S_, .f32⟩
  | 64 => ⟨S16384x1024, .f32⟩
  | 65 => ⟨S16384x1024, .f32⟩
  | 66 => ⟨S16384x1024, .f32⟩
  | 67 => ⟨S16384x1024, .f32⟩
  | 68 => ⟨S16384x1024, .f32⟩
  | 69 => ⟨S_, .f32⟩
  | 70 => ⟨S16384x1024, .f32⟩
  | 71 => ⟨S16384x1024, .f32⟩
  | 72 => ⟨S_, .f32⟩
  | 73 => ⟨S16384x1024, .f32⟩
  | 74 => ⟨S16384x1024, .f32⟩
  | 75 => ⟨S16384x1024, .f32⟩
  | 76 => ⟨S16384x1024, .f32⟩
  | 77 => ⟨S1x1024x1024, .f32⟩
  | 78 => ⟨S1024x1024, .f32⟩
  | 79 => ⟨S16384x1024, .f32⟩
  | 80 => ⟨S16384x1024, .bf16⟩
  | 81 => ⟨S16384x1024, .f32⟩
  | 82 => ⟨S16384x1024, .f32⟩
  | 83 => ⟨S16384x1024, .f32⟩
  | 84 => ⟨S_, .f32⟩
  | 85 => ⟨S16384x1024, .f32⟩
  | 86 => ⟨S16384x1024, .f32⟩
  | 87 => ⟨S_, .f32⟩
  | 88 => ⟨S16384x1024, .f32⟩
  | 89 => ⟨S16384x1024, .f32⟩
  | 90 => ⟨S16384x1024, .f32⟩
  | 91 => ⟨S16384x1024, .f32⟩
  | 92 => ⟨S1x1024x1024, .f32⟩
  | 93 => ⟨S1024x1024, .f32⟩
  | 94 => ⟨S16384x1024, .f32⟩
  | 95 => ⟨S1x3072, .f32⟩
  | 96 => ⟨S3072, .f32⟩
  | 97 => ⟨S1x3072, .f32⟩
  | 98 => ⟨S16384x3072, .f32⟩
  | 99 => ⟨S16384x3072, .f32⟩
  | 100 => ⟨S16384x3072, .f32⟩
  | 101 => ⟨S16384x3072, .f32⟩
  | 102 => ⟨S_, .f32⟩
  | 103 => ⟨S16384x3072, .f32⟩
  | 104 => ⟨S16384x3072, .f32⟩
  | 105 => ⟨S_, .f32⟩
  | 106 => ⟨S16384x3072, .f32⟩
  | 107 => ⟨S16384x3072, .f32⟩
  | 108 => ⟨S16384x3x1024, .f32⟩
  | 109 => ⟨S16384x1x1024, .f32⟩
  | 110 => ⟨S16384x1024, .f32⟩
  | 111 => ⟨S16384x1024, .f32⟩
  | 112 => ⟨S16384x1x1024, .f32⟩
  | 113 => ⟨S16384x1024, .f32⟩
  | 114 => ⟨S16384x1024, .f32⟩
  | 115 => ⟨S16384x1024, .f32⟩
  | 116 => ⟨S16384x1x1024, .f32⟩
  | 117 => ⟨S16384x1024, .f32⟩
  | 118 => ⟨S16384x1024, .f32⟩
  | 119 => ⟨S16384x1024, .f32⟩
  | 120 => ⟨S1x1024x1024, .f32⟩
  | 121 => ⟨S1024x1024, .f32⟩
  | 122 => ⟨S16384x1024, .f32⟩
  | 123 => ⟨S16384x1024, .f32⟩
  | 124 => ⟨S16384x1024, .f32⟩
  | 125 => ⟨S_, .f32⟩
  | 126 => ⟨S16384, .f32⟩
  | 127 => ⟨S16384x1, .f32⟩
  | _ => ⟨S16384x1024, .f32⟩

abbrev hbmTy0_1 (i : Nat) : BufTy := match i % 128 with
  | 0 => ⟨S_, .f32⟩
  | 1 => ⟨S16384x1, .f32⟩
  | 2 => ⟨S16384x1, .f32⟩
  | 3 => ⟨S_, .f32⟩
  | 4 => ⟨S16384x1, .f32⟩
  | 5 => ⟨S16384x1, .f32⟩
  | 6 => ⟨S16384x1, .f32⟩
  | 7 => ⟨S16384x1024, .f32⟩
  | 8 => ⟨S16384x1024, .f32⟩
  | 9 => ⟨S1x1024, .f32⟩
  | 10 => ⟨S16384x1024, .f32⟩
  | 11 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_5 : Ref sig .tc := ⟨.hbm, 102, rfl⟩
abbrev main_v66 : Ref sig .tc := ⟨.hbm, 103, rfl⟩
abbrev main_v67 : Ref sig .tc := ⟨.hbm, 104, rfl⟩
abbrev main_cst_6 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_7 : Ref sig .tc := ⟨.hbm, 125, rfl⟩
abbrev main_v87 : Ref sig .tc := ⟨.hbm, 126, rfl⟩
abbrev main_v88 : Ref sig .tc := ⟨.hbm, 127, rfl⟩
abbrev main_cst_8 : Ref sig .tc := ⟨.hbm, 128, rfl⟩
abbrev main_v89 : Ref sig .tc := ⟨.hbm, 129, rfl⟩
abbrev main_v90 : Ref sig .tc := ⟨.hbm, 130, rfl⟩
abbrev main_cst_9 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩

abbrev nD : Nat := 1
abbrev τ : Topo := Topo.v7x

variable {F : FTy → Type} [FloatOps F]
-- ==== Proof.Named.Region0.lean ====
/- The key preparation, one grid point at a time: what it leaves in its two results' blocks. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.LoopRemainder
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-- The block window `w` stages at point `t`, from the arrays `V` the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The keys' staged block is its own block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x1024 := Rect.unit (s := S2048x1024) ![0, 0] S256x1024.size inb_S2048x1024_S256x1024_0_0
abbrev r0_1 : Rect S8x1024 := Rect.unit (s := S8x1024) ![0, 0] S1x1024.size inb_S8x1024_S1x1024_0_0
abbrev r0_2 : Rect S2x2048x1024 := Rect.unit (s := S2x2048x1024) ![0, 0, 0] S1x256x1024.size inb_S2x2048x1024_S1x256x1024_0_0_0
abbrev r0_3 : Rect S2x2048x1024 := Rect.unit (s := S2x2048x1024) ![1, 0, 0] S1x256x1024.size inb_S2x2048x1024_S1x256x1024_1_0_0
abbrev r0_4 : Rect S2048x1024 := Rect.unit (s := S2048x1024) ![256, 0] S256x1024.size inb_S2048x1024_S256x1024_256_0
abbrev r0_5 : Rect S8x1024 := Rect.unit (s := S8x1024) ![1, 0] S1x1024.size inb_S8x1024_S1x1024_1_0
abbrev r0_6 : Rect S2x2048x1024 := Rect.unit (s := S2x2048x1024) ![0, 256, 0] S1x256x1024.size inb_S2x2048x1024_S1x256x1024_0_256_0
abbrev r0_7 : Rect S2x2048x1024 := Rect.unit (s := S2x2048x1024) ![1, 256, 0] S1x256x1024.size inb_S2x2048x1024_S1x256x1024_1_256_0
abbrev r0_8 : Rect S2048x1024 := Rect.unit (s := S2048x1024) ![512, 0] S256x1024.size inb_S2048x1024_S256x1024_512_0
abbrev r0_9 : Rect S8x1024 := Rect.unit (s := S8x1024) ![2, 0] S1x1024.size inb_S8x1024_S1x1024_2_0
abbrev r0_10 : Rect S2x2048x1024 := Rect.unit (s := S2x2048x1024) ![0, 512, 0] S1x256x1024.size inb_S2x2048x1024_S1x256x1024_0_512_0
abbrev r0_11 : Rect S2x2048x1024 := Rect.unit (s := S2x2048x1024) ![1, 512, 0] S1x256x1024.size inb_S2x2048x1024_S1x256x1024_1_512_0
abbrev r0_12 : Rect S2048x1024 := Rect.unit (s := S2048x1024) ![768, 0] S256x1024.size inb_S2048x1024_S256x1024_768_0
abbrev r0_13 : Rect S8x1024 := Rect.unit (s := S8x1024) ![3, 0] S1x1024.size inb_S8x1024_S1x1024_3_0
abbrev r0_14 : Rect S2x2048x1024 := Rect.unit (s := S2x2048x1024) ![0, 768, 0] S1x256x1024.size inb_S2x2048x1024_S1x256x1024_0_768_0
abbrev r0_15 : Rect S2x2048x1024 := Rect.unit (s := S2x2048x1024) ![1, 768, 0] S1x256x1024.size inb_S2x2048x1024_S1x256x1024_1_768_0
abbrev r0_16 : Rect S2048x1024 := Rect.unit (s := S2048x1024) ![1024, 0] S256x1024.size inb_S2048x1024_S256x1024_1024_0
abbrev r0_17 : Rect S8x1024 := Rect.unit (s := S8x1024) ![4, 0] S1x1024.size inb_S8x1024_S1x1024_4_0
abbrev r0_18 : Rect S2x2048x1024 := Rect.unit (s := S2x2048x1024) ![0, 1024, 0] S1x256x1024.size inb_S2x2048x1024_S1x256x1024_0_1024_0
abbrev r0_19 : Rect S2x2048x1024 := Rect.unit (s := S2x2048x1024) ![1, 1024, 0] S1x256x1024.size inb_S2x2048x1024_S1x256x1024_1_1024_0
abbrev r0_20 : Rect S2048x1024 := Rect.unit (s := S2048x1024) ![1280, 0] S256x1024.size inb_S2048x1024_S256x1024_1280_0
abbrev r0_21 : Rect S8x1024 := Rect.unit (s := S8x1024) ![5, 0] S1x1024.size inb_S8x1024_S1x1024_5_0
abbrev r0_22 : Rect S2x2048x1024 := Rect.unit (s := S2x2048x1024) ![0, 1280, 0] S1x256x1024.size inb_S2x2048x1024_S1x256x1024_0_1280_0
abbrev r0_23 : Rect S2x2048x1024 := Rect.unit (s := S2x2048x1024) ![1, 1280, 0] S1x256x1024.size inb_S2x2048x1024_S1x256x1024_1_1280_0
abbrev r0_24 : Rect S2048x1024 := Rect.unit (s := S2048x1024) ![1536, 0] S256x1024.size inb_S2048x1024_S256x1024_1536_0
abbrev r0_25 : Rect S8x1024 := Rect.unit (s := S8x1024) ![6, 0] S1x1024.size inb_S8x1024_S1x1024_6_0
abbrev r0_26 : Rect S2x2048x1024 := Rect.unit (s := S2x2048x1024) ![0, 1536, 0] S1x256x1024.size inb_S2x2048x1024_S1x256x1024_0_1536_0
abbrev r0_27 : Rect S2x2048x1024 := Rect.unit (s := S2x2048x1024) ![1, 1536, 0] S1x256x1024.size inb_S2x2048x1024_S1x256x1024_1_1536_0
abbrev r0_28 : Rect S2048x1024 := Rect.unit (s := S2048x1024) ![1792, 0] S256x1024.size inb_S2048x1024_S256x1024_1792_0
abbrev r0_29 : Rect S8x1024 := Rect.unit (s := S8x1024) ![7, 0] S1x1024.size inb_S8x1024_S1x1024_7_0
abbrev r0_30 : Rect S2x2048x1024 := Rect.unit (s := S2x2048x1024) ![0, 1792, 0] S1x256x1024.size inb_S2x2048x1024_S1x256x1024_0_1792_0
abbrev r0_31 : Rect S2x2048x1024 := Rect.unit (s := S2x2048x1024) ![1, 1792, 0] S1x256x1024.size inb_S2x2048x1024_S1x256x1024_1_1792_0

/-! ## What the body leaves in each output window's buffer -/

/-! ### Two index vectors the eight blocks share -/

def k0_pay30 (_ : grid0.Coords) (_ : Vec F S2048x1024 .bf16) : IVec S256x1024 32 :=
  k0_pay4
def k0_pay31 (_ : grid0.Coords) (_ : Vec F S2048x1024 .bf16) : IVec S256x1024 1 :=
  k0_pay5

/-- The eight rows of key means a point leaves. -/
def out0_1 (i : grid0.Coords) (x0 : Vec F S2048x1024 .bf16) : Vec F S8x1024 .f32 :=
  View.canon [⟨r0_29, k0_pay1 (k0_pay29 (View.ld x0 r0_28))⟩,
    ⟨r0_25, k0_pay26 (View.ld x0 r0_24)⟩,
    ⟨r0_21, k0_pay22 (View.ld x0 r0_20)⟩,
    ⟨r0_17, k0_pay18 (View.ld x0 r0_16)⟩,
    ⟨r0_13, k0_pay15 (View.ld x0 r0_12)⟩,
    ⟨r0_9, k0_pay12 (View.ld x0 r0_8)⟩,
    ⟨r0_5, k0_pay9 (View.ld x0 r0_4)⟩,
    ⟨r0_1, k0_pay6 (View.ld x0 r0_0)⟩]

/-- The stores cover the block. -/
theorem cover0_1 (p0 : Vec F S1x1024 .f32) (p1 : Vec F S1x1024 .f32) (p2 : Vec F S1x1024 .f32) (p3 : Vec F S1x1024 .f32) (p4 : Vec F S1x1024 .f32) (p5 : Vec F S1x1024 .f32) (p6 : Vec F S1x1024 .f32) (p7 : Vec F S1x1024 .f32) (y : S8x1024.Idx) :
    ∃ pc ∈ ([⟨r0_29, p0⟩, ⟨r0_25, p1⟩, ⟨r0_21, p2⟩, ⟨r0_17, p3⟩, ⟨r0_13, p4⟩, ⟨r0_9, p5⟩, ⟨r0_5, p6⟩, ⟨r0_1, p7⟩] : List (View.Piece (Elt F) S8x1024 .f32)), y ∈ pc.1.set :=
  View.cover_of_tiled [⟨r0_29, p0⟩, ⟨r0_25, p1⟩, ⟨r0_21, p2⟩, ⟨r0_17, p3⟩, ⟨r0_13, p4⟩, ⟨r0_9, p5⟩, ⟨r0_5, p6⟩, ⟨r0_1, p7⟩] S1x1024.size (by rfl) y

/-- The two planes of augmented keys a point leaves. -/
def out0_2 (i : grid0.Coords) (x0 : Vec F S2048x1024 .bf16) : Vec F S2x2048x1024 .bf16 :=
  View.canon [⟨r0_31, k0_pay3 (BitVec.ofNat 32 (i 0).val) (k0_pay30 i x0) (k0_pay31 i x0) (View.ld x0 r0_28)⟩,
    ⟨r0_30, k0_pay2 (BitVec.ofNat 32 (i 0).val) (k0_pay30 i x0) (k0_pay31 i x0) (View.ld x0 r0_28)⟩,
    ⟨r0_27, k0_pay28 (BitVec.ofNat 32 (i 0).val) (k0_pay30 i x0) (k0_pay31 i x0) (View.ld x0 r0_24)⟩,
    ⟨r0_26, k0_pay27 (BitVec.ofNat 32 (i 0).val) (k0_pay30 i x0) (k0_pay31 i x0) (View.ld x0 r0_24)⟩,
    ⟨r0_23, k0_pay25 (k0_pay31 i x0) (View.ld x0 r0_20) (k0_pay24 (F := F) (BitVec.ofNat 32 (i 0).val) (k0_pay30 i x0))⟩,
    ⟨r0_22, k0_pay23 (BitVec.ofNat 32 (i 0).val) (k0_pay30 i x0) (k0_pay31 i x0) (View.ld x0 r0_20)⟩,
    ⟨r0_19, k0_pay21 (k0_pay30 i x0) (k0_pay31 i x0) (View.ld x0 r0_16) (Scalar.addi (Scalar.muli (BitVec.ofNat 32 (i 0).val) 8#32) 4#32)⟩,
    ⟨r0_18, k0_pay20 (k0_pay31 i x0) (View.ld x0 r0_16) (k0_pay19 (F := F) (BitVec.ofNat 32 (i 0).val) (k0_pay30 i x0))⟩,
    ⟨r0_15, k0_pay17 (BitVec.ofNat 32 (i 0).val) (k0_pay30 i x0) (k0_pay31 i x0) (View.ld x0 r0_12)⟩,
    ⟨r0_14, k0_pay16 (BitVec.ofNat 32 (i 0).val) (k0_pay30 i x0) (k0_pay31 i x0) (View.ld x0 r0_12)⟩,
    ⟨r0_11, k0_pay14 (BitVec.ofNat 32 (i 0).val) (k0_pay30 i x0) (k0_pay31 i x0) (View.ld x0 r0_8)⟩,
    ⟨r0_10, k0_pay13 (BitVec.ofNat 32 (i 0).val) (k0_pay30 i x0) (k0_pay31 i x0) (View.ld x0 r0_8)⟩,
    ⟨r0_7, k0_pay11 (BitVec.ofNat 32 (i 0).val) (k0_pay30 i x0) (k0_pay31 i x0) (View.ld x0 r0_4)⟩,
    ⟨r0_6, k0_pay10 (BitVec.ofNat 32 (i 0).val) (k0_pay30 i x0) (k0_pay31 i x0) (View.ld x0 r0_4)⟩,
    ⟨r0_3, k0_pay8 (k0_pay30 i x0) (k0_pay31 i x0) (View.ld x0 r0_0) (Scalar.addi (Scalar.muli (BitVec.ofNat 32 (i 0).val) 8#32) 0#32)⟩,
    ⟨r0_2, k0_pay7 i (View.ld x0 r0_0)⟩]

/-- The stores cover the block. -/
theorem cover0_2 (p0 : Vec F S1x256x1024 .bf16) (p1 : Vec F S1x256x1024 .bf16) (p2 : Vec F S1x256x1024 .bf16) (p3 : Vec F S1x256x1024 .bf16) (p4 : Vec F S1x256x1024 .bf16) (p5 : Vec F S1x256x1024 .bf16) (p6 : Vec F S1x256x1024 .bf16) (p7 : Vec F S1x256x1024 .bf16) (p8 : Vec F S1x256x1024 .bf16) (p9 : Vec F S1x256x1024 .bf16) (p10 : Vec F S1x256x1024 .bf16) (p11 : Vec F S1x256x1024 .bf16) (p12 : Vec F S1x256x1024 .bf16) (p13 : Vec F S1x256x1024 .bf16) (p14 : Vec F S1x256x1024 .bf16) (p15 : Vec F S1x256x1024 .bf16) (y : S2x2048x1024.Idx) :
    ∃ pc ∈ ([⟨r0_31, p0⟩, ⟨r0_30, p1⟩, ⟨r0_27, p2⟩, ⟨r0_26, p3⟩, ⟨r0_23, p4⟩, ⟨r0_22, p5⟩, ⟨r0_19, p6⟩, ⟨r0_18, p7⟩, ⟨r0_15, p8⟩, ⟨r0_14, p9⟩, ⟨r0_11, p10⟩, ⟨r0_10, p11⟩, ⟨r0_7, p12⟩, ⟨r0_6, p13⟩, ⟨r0_3, p14⟩, ⟨r0_2, p15⟩] : List (View.Piece (Elt F) S2x2048x1024 .bf16)), y ∈ pc.1.set :=
  View.cover_of_tiled [⟨r0_31, p0⟩, ⟨r0_30, p1⟩, ⟨r0_27, p2⟩, ⟨r0_26, p3⟩, ⟨r0_23, p4⟩, ⟨r0_22, p5⟩, ⟨r0_19, p6⟩, ⟨r0_18, p7⟩, ⟨r0_15, p8⟩, ⟨r0_14, p9⟩, ⟨r0_11, p10⟩, ⟨r0_10, p11⟩, ⟨r0_7, p12⟩, ⟨r0_6, p13⟩, ⟨r0_3, p14⟩, ⟨r0_2, p15⟩] S1x256x1024.size (by rfl) y

/-! ## The body's triple -/

set_option maxHeartbeats 1000000 in
/-- One point of the key preparation leaves the means and the augmented keys of its block. -/
theorem sound_kprep (c : Dev nD) (E : Set ℕ) (i : grid0.Coords) (arg1 : Memref sig .tc .vmem S2048x1024 .bf16) (harg1 : arg1.IsWhole) (arg2 : Memref sig .tc .vmem S8x1024 .f32) (harg2 : arg2.IsWhole) (arg3 : Memref sig .tc .vmem S2x2048x1024 .bf16) (harg3 : arg3.IsWhole)
    (x0 : Vec F S2048x1024 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 i x0) ∗ owns (c : Thread nD τ) arg3 fullShare (out0_2 i x0)) -∗ K ⟨⟩))
      ⊢ wp frame (wpE (defs₀ (F := F)) Variants.none c none) E (cc0_kprep i arg1 harg1 arg2 harg2 arg3 harg3) K := by
  simp only [cc0_kprep_eq_skeleton]; unfold cc0_kprep_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _ _ _ _ _ _ _ _)).trans ?_
    rfl
  iexists _; isplitr
  swap; · iexact H2
  ipureintro
  refine (View.read_writes_eq_canon _ _ _ (cover0_2 _ _ _ _ _ _ _ _ _ _ _ _ _ _ _ _)).trans ?_
  rfl

/-! ## The pipeline's proof data -/

/-- The call's proof data over the arrays `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (grid0.coords t) (iblk0 V c 0 t)
    | ⟨2, _⟩ => out0_2 (grid0.coords t) (iblk0 V c 0 t)
  Φ _ := Pipeline.scopedRest spec0 c
  q _ := fullShare
  owed _ := 0

/-- Its arrays are `V`'s. -/
theorem A_eq0 (c : Dev nD) (w : Fin cfg0.W) : (dat0 V c).A w = V c (Pipeline.arrRef spec0 w) := by
  dsimp only [dat0]

/-- What a point leaves in each staged block. -/
theorem after0_0 (c : Dev nD) (t : Fin cfg0.N) : (dat0 V c).after 0 t = iblk0 V c 0 t := by dsimp only [dat0]
theorem after0_1 (c : Dev nD) (t : Fin cfg0.N) : (dat0 V c).after 1 t = out0_1 (grid0.coords t) (iblk0 V c 0 t) := by dsimp only [dat0]
theorem after0_2 (c : Dev nD) (t : Fin cfg0.N) : (dat0 V c).after 2 t = out0_2 (grid0.coords t) (iblk0 V c 0 t) := by dsimp only [dat0]

/-- The keys' block is there when the point starts. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What a point starts from. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it ends with. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- A point, from the one to the other. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kprep c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The call's body is this point's body. -/
theorem defs₀_row0 (t : Fin cfg0.N) :
    defs₀ (F := F) .tc cfg0.body (cfg0.bodyArgs t (cfg0.slots t)) = bodyAt0 t := by
  unfold defs₀; rw [Defs.onTc_tc]

/-- Every point meets the call's obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.Named.Body.lean ====
/- What one grid point of the attention call computes, written as a function of the blocks it is given: the two heads'
   queries with their selection lanes, their own block's scores, the groups of key blocks one after the other with the
   scores of the next group made ahead, the odd group at the end, and the quotient. -/
module

public import proofs.«01_k».proof.Proof.Gen.KernelIdeal.Loops
public import Idealize.ShloMosaic.Lib.Pipeline.FrameBody
public import Idealize.ShloMosaic.Lib.ReshapeSlab

@[expose] public section

set_option maxRecDepth 16384

noncomputable section

namespace Cert.KernelIdeal.Own

open Cert.KernelIdeal.Gen
open Idealize.ShloMosaic Idealize.ShloMosaic.TcCoe

variable {F : FTy → Type} [FloatOps F] [Named F]

/-! ## The rectangles the body reads and writes -/

abbrev rQ : Rect S256x128 := Rect.unit (s := S256x128) ![0, 0] S256x128.size inb_S256x128_S256x128_0_0
abbrev rKm : Rect S64x128 := Rect.unit (s := S64x128) ![0, 0] S64x128.size inb_S64x128_S64x128_0_0
abbrev rOwnK0 (i : grid1.Coords) : Rect S2x16384x128 := Rect.unit (s := S2x16384x128) (k1_off1 i) S1x256x128.size (k1_off1_inb i)
abbrev rOwnK1 (i : grid1.Coords) : Rect S2x16384x128 := Rect.unit (s := S2x16384x128) (k1_off2 i) S1x256x128.size (k1_off2_inb i)
abbrev rOwnV (i : grid1.Coords) : Rect S128x16384 := Rect.unit (s := S128x16384) (k1_off3 i) S128x256.size (k1_off3_inb i)
abbrev rGrpK0 : Rect S2x16384x128 := Rect.unit (s := S2x16384x128) k1_off4 S1x2048x128.size k1_off4_inb
abbrev rGrpK1 : Rect S2x16384x128 := Rect.unit (s := S2x16384x128) k1_off5 S1x2048x128.size k1_off5_inb
abbrev rTripV (i : grid1.Coords) (k : Fin (k1_t1_loop i).trips) : Rect S128x16384 := Rect.unit (s := S128x16384) (k1_off6 i k) S128x2048.size (k1_off6_inb i k)
abbrev rTripK0 (i : grid1.Coords) (k : Fin (k1_t1_loop i).trips) : Rect S2x16384x128 := Rect.unit (s := S2x16384x128) (k1_off7 i k) S1x2048x128.size (k1_off7_inb i k)
abbrev rTripK1 (i : grid1.Coords) (k : Fin (k1_t1_loop i).trips) : Rect S2x16384x128 := Rect.unit (s := S2x16384x128) (k1_off8 i k) S1x2048x128.size (k1_off8_inb i k)
abbrev rTailV (i : grid1.Coords) (h : k1_cond1 i = 1#1) : Rect S128x16384 := Rect.unit (s := S128x16384) (k1_off12 i) S128x1024.size (k1_off12_inb i h)
/-- Head 0's scores in the scratch, and head 1's; -/
abbrev rS0 : Rect S2x2048x256 := Rect.unit (s := S2x2048x256) ![0, 0, 0] S1x2048x256.size inb_S2x2048x256_S1x2048x256_0_0_0
abbrev rOwn0 : Rect S2x2048x256 := Rect.unit (s := S2x2048x256) ![0, 0, 0] S1x256x256.size inb_S2x2048x256_S1x256x256_0_0_0
abbrev rOwn1 : Rect S2x2048x256 := Rect.unit (s := S2x2048x256) ![1, 0, 0] S1x256x256.size inb_S2x2048x256_S1x256x256_1_0_0
abbrev rS1 : Rect S2x2048x256 := Rect.unit (s := S2x2048x256) ![1, 0, 0] S1x2048x256.size inb_S2x2048x256_S1x2048x256_1_0_0
/-- their first half, which the odd group at the end reads; -/
abbrev rH0 : Rect S2x2048x256 := Rect.unit (s := S2x2048x256) ![0, 0, 0] S1x1024x256.size inb_S2x2048x256_S1x1024x256_0_0_0
abbrev rH1 : Rect S2x2048x256 := Rect.unit (s := S2x2048x256) ![1, 0, 0] S1x1024x256.size inb_S2x2048x256_S1x1024x256_1_0_0
/-- and the two heads' rows of the result. -/
abbrev rO0 : Rect S128x256 := Rect.unit (s := S128x256) ![0, 0] S64x256.size inb_S128x256_S64x256_0_0
abbrev rO1 : Rect S128x256 := Rect.unit (s := S128x256) ![64, 0] S64x256.size inb_S128x256_S64x256_64_0

/-- The first half of a head's scores, as the odd group reads it. -/
abbrev half (s : Vec F S1x2048x256 .f32) : Vec F S1x1024x256 .f32 := View.ld s (Rect.unit (s := S1x2048x256) ![0, 0, 0] S1x1024x256.size (by decide))

/-! ## The queries -/

/-- Column numbers of the query block, and block numbers of the mean keys. -/
abbrev laneIx : IVec S256x128 32 := iota .tc S256x128 32 [1] iota_S256x128_d1_w32
abbrev blkIx : IVec S64x256 32 := iota .tc S64x256 32 [0] iota_S64x256_d0_w32

section
variable (i : grid1.Coords) (x2 : Vec F S256x128 .bf16) (x5 : Vec F S64x128 .f32)

/-- Head 0's queries, each with its selection in the other head's lanes. -/
def qa0 : FVec F S256x128 .bf16 :=
  k1_pay31 k1_pay24 (k1_pay25 (View.ld x2 rQ))
    (k1_pay30 (k1_pay23 (F := F)) (k1_pay26 i (View.ld x2 rQ) (View.ld x5 rKm)) k1_pay27 (k1_pay28 i (View.ld x2 rQ) (View.ld x5 rKm)) (k1_pay29 i (View.ld x2 rQ) (View.ld x5 rKm)))
    (Scalar.ofBits .f32 0x00000000#32)
/-- Head 1's queries. -/
def qa1 : FVec F S256x128 .bf16 :=
  k1_pay41 (k1_pay33 laneIx) (k1_pay34 (k1_pay22 (View.ld x2 rQ)) laneIx)
    (k1_pay39 (k1_pay23 (F := F)) (k1_pay35 (BitVec.ofNat 32 (i 1).val) (k1_pay22 (View.ld x2 rQ)) laneIx blkIx (View.ld x5 rKm)) k1_pay36
      (k1_pay37 (BitVec.ofNat 32 (i 1).val) (k1_pay22 (View.ld x2 rQ)) laneIx blkIx (View.ld x5 rKm))
      (k1_pay38 (BitVec.ofNat 32 (i 1).val) (k1_pay22 (View.ld x2 rQ)) laneIx blkIx (View.ld x5 rKm)) (Scalar.ofBits .f32 0x42800000#32))
    (Named.named κ "mask" 0xF149F2CA#32) (k1_pay40 (F := F))
/-- Each head's queries with zeros in the other head's lanes, for its own block. -/
def qo0 : FVec F S256x128 .bf16 := k1_pay32 (k1_pay25 (View.ld x2 rQ))
def qo1 : FVec F S256x128 .f32 := k1_pay34 (k1_pay22 (View.ld x2 rQ)) laneIx
end

/-! ## The walk over the key blocks -/

/-- What is carried from group to group: per head the maximum so far, the weighted values with the weights' sum below
    them, the next group's maximum, and the next group's scores. -/
structure Carry (F : FTy → Type) where
  m0 : FVec F S1x256 .f32
  a0 : FVec F S80x256 .f32
  m1 : FVec F S1x256 .f32
  a1 : FVec F S80x256 .f32
  x0 : FVec F S1x256 .f32
  x1 : FVec F S1x256 .f32
  s0 : Vec F S1x2048x256 .f32
  s1 : Vec F S1x2048x256 .f32

section
variable (i : grid1.Coords) (q0 q1 : FVec F S256x128 .bf16) (x3 : Vec F S2x16384x128 .bf16) (x4 : Vec F S128x16384 .bf16)

/-- One group of eight key blocks taken in, the next one's scores made. -/
def tripF (k : Fin (k1_t1_loop i).trips) (s : Carry F) : Carry F where
  m0 := k1_pay5 s.m0 s.x0
  a0 := k1_pay9 s.m0 s.a0 s.x0 (View.ld x4 (rTripV i k)) s.s0
  m1 := k1_pay10 s.m1 s.x1
  a1 := k1_pay67 s.m1 s.a1 (k1_pay4 (View.ld x4 (rTripV i k))) (k1_pay10 s.m1 s.x1) s.s1
  x0 := k1_pay8 q0 (View.ld x3 (rTripK0 i k))
  x1 := k1_pay66 q1 (View.ld x3 (rTripK1 i k))
  s0 := k1_pay7 q0 (View.ld x3 (rTripK0 i k))
  s1 := k1_pay65 q1 (View.ld x3 (rTripK1 i k))

/-- The state before group `k`. -/
def walk (init : Carry F) : ℕ → Carry F
  | 0 => init
  | k + 1 => if h : k < (k1_t1_loop i).trips then tripF i q0 q1 x3 x4 ⟨k, h⟩ (walk init k) else walk init k

theorem walk_succ (init : Carry F) (k : Fin (k1_t1_loop i).trips) :
    walk i q0 q1 x3 x4 init (k.val + 1) = tripF i q0 q1 x3 x4 k (walk i q0 q1 x3 x4 init k.val) := by
  rw [walk.eq_2]; exact dif_pos k.isLt
end

section
variable (i : grid1.Coords) (x2 : Vec F S256x128 .bf16) (x3 : Vec F S2x16384x128 .bf16) (x4 : Vec F S128x16384 .bf16) (x5 : Vec F S64x128 .f32)

/-- After the query block's own key block, the first group's scores made. -/
def start : Carry F where
  m0 := k1_pay52 (k1_pay45 (qo0 x2) (View.ld x3 (rOwnK0 i)))
  a0 := k1_pay58 (k1_pay56 (k1_pay45 (qo0 x2) (View.ld x3 (rOwnK0 i))))
    (k1_pay57 (k1_pay45 (qo0 x2) (View.ld x3 (rOwnK0 i))) (View.ld x4 (rOwnV i)) (k1_pay44 (qo0 x2) (View.ld x3 (rOwnK0 i))))
  m1 := k1_pay59 (k1_pay48 (k1_pay46 (qo1 x2) (View.ld x3 (rOwnK1 i)))) (k1_pay49 (F := F))
  a1 := k1_pay63 (k1_pay48 (k1_pay46 (qo1 x2) (View.ld x3 (rOwnK1 i)))) (k1_pay49 (F := F)) (k1_pay50 (F := F)) (k1_pay51 (View.ld x4 (rOwnV i)))
    (k1_pay47 (qo1 x2) (View.ld x3 (rOwnK1 i)))
  x0 := k1_pay55 (qa0 i x2 x5) (View.ld x3 rGrpK0)
  x1 := k1_pay62 (qa1 i x2 x5) (View.ld x3 rGrpK1)
  s0 := k1_pay54 (qa0 i x2 x5) (View.ld x3 rGrpK0)
  s1 := k1_pay61 (qa1 i x2 x5) (View.ld x3 rGrpK1)

/-- What the scratch holds then, the last written first. -/
def scratch : List (View.Piece (Elt F) S2x2048x256 .f32) :=
  [⟨rS1, (start i x2 x3 x4 x5).s1⟩, ⟨rS0, (start i x2 x3 x4 x5).s0⟩,
    ⟨rOwn1, k1_pay47 (qo1 x2) (View.ld x3 (rOwnK1 i))⟩,
    ⟨rOwn0, k1_pay44 (qo0 x2) (View.ld x3 (rOwnK0 i))⟩]

/-- After the last whole group. -/
def walked : Carry F := walk i (qa0 i x2 x5) (qa1 i x2 x5) x3 x4 (start i x2 x3 x4 x5) (k1_t1_loop i).trips

/-- Head 0's sums at the end: with the odd group of four blocks where there is one. -/
def fin0 : FVec F S80x256 .f32 :=
  if h : k1_cond1 i = 1#1 then
    k1_pay19 (walked i x2 x3 x4 x5).m0 (walked i x2 x3 x4 x5).a0 (walked i x2 x3 x4 x5).x0 (View.ld x4 (rTailV i h)) (half (walked i x2 x3 x4 x5).s0)
  else (walked i x2 x3 x4 x5).a0
/-- Head 1's. -/
def fin1 : FVec F S80x256 .f32 :=
  if h : k1_cond1 i = 1#1 then
    k1_pay1 (walked i x2 x3 x4 x5).m1 (walked i x2 x3 x4 x5).a1 (k1_pay18 (View.ld x4 (rTailV i h))) (k1_pay20 (walked i x2 x3 x4 x5).m1 (walked i x2 x3 x4 x5).x1)
      (k1_pay21 (half (walked i x2 x3 x4 x5).s1))
  else (walked i x2 x3 x4 x5).a1

/-- The block of the result. -/
def outF : Vec F S128x256 .bf16 :=
  View.canon [⟨rO1, k1_pay3 (fin1 i x2 x3 x4 x5)⟩, ⟨rO0, k1_pay2 (fin0 i x2 x3 x4 x5)⟩]
end

/-! ## The recorded loop is the walk -/

/-- The scratch holds the heads' scores `s0` and `s1`. -/
def Holds {sig' : RefSig} {κ' : Kind} {sp' : Space} (v : View sig' κ' sp' S2x2048x256 .f32) (f : v.ty.Contents (Elt F)) (s0 s1 : Vec F S1x2048x256 .f32) : Prop :=
  v.readAt (Elt F) rS0.toLoadRect f = s0 ∧ v.readAt (Elt F) rS1.toLoadRect f = s1

/-- After the two heads' scores are written the scratch holds them, whatever was written before. -/
theorem holds_writes {sig' : RefSig} {κ' : Kind} {sp' : Space} (v : View sig' κ' sp' S2x2048x256 .f32) (f : v.ty.Contents (Elt F)) (s0 s1 : Vec F S1x2048x256 .f32)
    (L : List (View.Piece (Elt F) S2x2048x256 .f32)) : Holds v (v.writes (Elt F) f (⟨rS1, s1⟩ :: ⟨rS0, s0⟩ :: L)) s0 s1 := by
  constructor
  · rw [View.readAt_rect, View.writes_cons, View.read_slice_write_slice_of_disjoint _ _ _ _ _ (View.disjoint_slice_of_sep v _ _ 0 rfl rfl (.inl (show 0 + 1 ≤ 1 by omega))), View.writes_cons, View.read_write_univ]
  · rw [View.readAt_rect, View.writes_cons, View.read_write_univ]

/-- The first head's scores of the own block, read back after the second head's were stored. -/
theorem own_back0 {sig' : RefSig} {κ' : Kind} {sp' : Space} (v : View sig' κ' sp' S2x2048x256 .f32) (p0 p1 : Vec F S1x256x256 .f32)
    (L : List (View.Piece (Elt F) S2x2048x256 .f32)) : v.readCov (⟨rOwn1, p1⟩ :: ⟨rOwn0, p0⟩ :: L) rOwn0.toLoadRect = p0 := by
  show v.readAt (Elt F) rOwn0.toLoadRect (v.writes (Elt F) v.junk (⟨rOwn1, p1⟩ :: ⟨rOwn0, p0⟩ :: L)) = p0
  rw [View.readAt_rect, View.writes_cons, View.read_slice_write_slice_of_disjoint _ _ _ _ _ (View.disjoint_slice_of_sep v _ _ 0 rfl rfl (.inl (show 0 + 1 ≤ 1 by omega))), View.writes_cons, View.read_write_univ]

/-- The second head's scores of the own block, read back after the first head's next scores were stored. -/
theorem own_back1 {sig' : RefSig} {κ' : Kind} {sp' : Space} (v : View sig' κ' sp' S2x2048x256 .f32) (s0 : Vec F S1x2048x256 .f32) (p1 : Vec F S1x256x256 .f32)
    (L : List (View.Piece (Elt F) S2x2048x256 .f32)) : v.readCov (⟨rS0, s0⟩ :: ⟨rOwn1, p1⟩ :: L) rOwn1.toLoadRect = p1 := by
  show v.readAt (Elt F) rOwn1.toLoadRect (v.writes (Elt F) v.junk (⟨rS0, s0⟩ :: ⟨rOwn1, p1⟩ :: L)) = p1
  rw [View.readAt_rect, View.writes_cons, View.read_slice_write_slice_of_disjoint _ _ _ _ _ (View.disjoint_slice_of_sep v _ _ 0 rfl rfl (.inr (show 0 + 1 ≤ 1 by omega))), View.writes_cons, View.read_write_univ]

/-- The first half of what it holds. -/
theorem holds_half {sig' : RefSig} {κ' : Kind} {sp' : Space} {v : View sig' κ' sp' S2x2048x256 .f32} {f : v.ty.Contents (Elt F)} {s0 s1 : Vec F S1x2048x256 .f32}
    (h : Holds v f s0 s1) : v.readAt (Elt F) rH0.toLoadRect f = half s0 ∧ v.readAt (Elt F) rH1.toLoadRect f = half s1 := by
  obtain ⟨rfl, rfl⟩ := h
  constructor
  · funext x
    show v.read (Elt F) f (rH0.idx x) = v.read (Elt F) f (rS0.idx _)
    congr 1
    funext a
    apply Fin.ext
    fin_cases a <;> simp [Rect.unit]
  · funext x
    show v.read (Elt F) f (rH1.idx x) = v.read (Elt F) f (rS1.idx _)
    congr 1
    funext a
    apply Fin.ext
    fin_cases a <;> simp [Rect.unit]

section
variable (𝒱 : Variants) (c : Dev nD) (bd : Option 𝒱.V) (i : grid1.Coords)
  (arg2 : Memref sig .tc .vmem S256x128 .bf16) (harg2 : arg2.IsWhole) (arg3 : Memref sig .tc .vmem S2x16384x128 .bf16) (harg3 : arg3.IsWhole) (arg4 : Memref sig .tc .vmem S128x16384 .bf16) (harg4 : arg4.IsWhole) (arg5 : Memref sig .tc .vmem S64x128 .f32) (harg5 : arg5.IsWhole) (arg6 : Memref sig .tc .vmem S128x256 .bf16) (harg6 : arg6.IsWhole) (arg7 : Memref sig .tc .vmem S2x2048x256 .f32) (harg7 : arg7.IsWhole)
  (v94 : FVec F S256x128 .bf16) (v187 : FVec F S256x128 .bf16) (v227 : FVec F S1x256 .f32) (v246 : FVec F S1x256 .f32) (v255 : FVec F S80x256 .f32) (v256 : FVec F S1x256 .f32) (v275 : FVec F S1x256 .f32) (v284 : FVec F S80x256 .f32) (v286 : BitVec 32) (c4_i32_105 : BitVec 32) (v287 : BitVec 32) (v292 : BitVec 32)
  (X3 : BufTy.Contents (Elt F) arg3.view.ty) (X4 : BufTy.Contents (Elt F) arg4.view.ty) (G : BufTy.Contents (Elt F) arg7.view.ty)

/-- The six values carried in registers. -/
abbrev Carry.regs (s : Carry F) : FVec F S1x256 .f32 × FVec F S80x256 .f32 × FVec F S1x256 .f32 × FVec F S80x256 .f32 × FVec F S1x256 .f32 × FVec F S1x256 .f32 :=
  (s.m0, s.a0, s.m1, s.a1, s.x0, s.x1)

set_option maxRecDepth 65536 in
/-- One trip of the recorded loop, entered with the walk's state, yields the walk's next state and writes its scores. -/
theorem trip_eq (k : Fin (k1_t1_loop i).trips) (s : Carry F) (f : BufTy.Contents (Elt F) arg7.view.ty) (hf : Holds arg7.view f s.s0 s.s1) :
    tripR_k1_t1 (F := F) 𝒱 c bd i arg2 harg2 arg3 harg3 arg4 harg4 arg5 harg5 arg6 harg6 arg7 harg7 v94 v187 v227 v246 v255 v256 v275 v284 v286 c4_i32_105 v287 v292 X3 X4 k s.regs f
        = (tripF i v94 v187 (arg3.view.read (Elt F) X3) (arg4.view.read (Elt F) X4) k s).regs
    ∧ tripL_k1_t1 (F := F) 𝒱 c bd i arg2 harg2 arg3 harg3 arg4 harg4 arg5 harg5 arg6 harg6 arg7 harg7 v94 v187 v227 v246 v255 v256 v275 v284 v286 c4_i32_105 v287 v292 X3 X4 k s.regs f
        = [⟨rS1, (tripF i v94 v187 (arg3.view.read (Elt F) X3) (arg4.view.read (Elt F) X4) k s).s1⟩, ⟨rS0, (tripF i v94 v187 (arg3.view.read (Elt F) X3) (arg4.view.read (Elt F) X4) k s).s0⟩] := by
  obtain ⟨m0, a0, m1, a1, x0, x1, s0, s1⟩ := s
  obtain ⟨rfl, rfl⟩ := hf
  unfold tripR_k1_t1 tripL_k1_t1 trip_k1_t1
  dsimp only [tripF, Carry.regs]
  refine ⟨?_, ?_⟩
  · refine congrArg₂ Prod.mk rfl (congrArg₂ Prod.mk ?_ (congrArg₂ Prod.mk rfl (congrArg₂ Prod.mk rfl (congrArg₂ Prod.mk ?_ ?_))))
    · rfl
    · rfl
    · rfl
  · rfl

/-- Before every trip the recorded loop is at the walk's state, and the scratch holds its scores. -/
theorem st_eq (s : Carry F) (hG : Holds arg7.view G s.s0 s.s1) (k : ℕ) (hk : k ≤ (k1_t1_loop i).trips) :
    (st_k1_t1 (F := F) 𝒱 c bd i arg2 harg2 arg3 harg3 arg4 harg4 arg5 harg5 arg6 harg6 arg7 harg7 v94 v187 v227 v246 v255 v256 v275 v284 v286 c4_i32_105 v287 v292 X3 X4 G s.regs k).1
        = (walk i v94 v187 (arg3.view.read (Elt F) X3) (arg4.view.read (Elt F) X4) s k).regs
    ∧ Holds arg7.view (arg7.view.writes (Elt F) G (st_k1_t1 (F := F) 𝒱 c bd i arg2 harg2 arg3 harg3 arg4 harg4 arg5 harg5 arg6 harg6 arg7 harg7 v94 v187 v227 v246 v255 v256 v275 v284 v286 c4_i32_105 v287 v292 X3 X4 G s.regs k).2)
        (walk i v94 v187 (arg3.view.read (Elt F) X3) (arg4.view.read (Elt F) X4) s k).s0 (walk i v94 v187 (arg3.view.read (Elt F) X3) (arg4.view.read (Elt F) X4) s k).s1 := by
  induction k with
  | zero => exact ⟨rfl, hG⟩
  | succ k ih =>
    obtain ⟨h1, h2⟩ := ih (Nat.le_of_succ_le hk)
    have hs := st_k1_t1_succ (F := F) 𝒱 c bd i arg2 harg2 arg3 harg3 arg4 harg4 arg5 harg5 arg6 harg6 arg7 harg7 v94 v187 v227 v246 v255 v256 v275 v284 v286 c4_i32_105 v287 v292 X3 X4 G s.regs ⟨k, hk⟩
    have hw := walk_succ i v94 v187 (arg3.view.read (Elt F) X3) (arg4.view.read (Elt F) X4) s ⟨k, hk⟩
    dsimp only at hs hw
    obtain ⟨e1, e2⟩ := trip_eq 𝒱 c bd i arg2 harg2 arg3 harg3 arg4 harg4 arg5 harg5 arg6 harg6 arg7 harg7 v94 v187 v227 v246 v255 v256 v275 v284 v286 c4_i32_105 v287 v292 X3 X4 ⟨k, hk⟩ _ _ h2
    rw [hs, hw, h1]
    refine ⟨e1, ?_⟩
    dsimp only
    rw [e2]
    exact holds_writes _ _ _ _ _
end

end Cert.KernelIdeal.Own

end
-- ==== Proof.Named.Sound.lean ====
/- One grid point of the attention call as printed leaves `outF` of its blocks in the result's buffer. -/
module

public import proofs.«01_k».proof.Proof.Named.Body
public import proofs.«01_k».proof.Proof.Gen.KernelIdeal.Launch
public import proofs.«01_k».proof.Proof.Gen.KernelIdeal.Points
public import Idealize.ShloMosaic.Lib.LoopRemainder
public import Idealize.ShloMosaic.Lib.Claim
public import Idealize.ShloMosaic.Lib.Ring
public import Idealize.ShloMosaic.Lib.Tactic

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The two heads' rows are all the rows of the result's block. -/
theorem cover_out (p0 p1 : Vec F S64x256 .bf16) (y : S128x256.Idx) :
    ∃ pc ∈ ([⟨rO1, p1⟩, ⟨rO0, p0⟩] : List (View.Piece (Elt F) S128x256 .bf16)), y ∈ pc.1.set :=
  View.cover_of_tiled [⟨rO1, p1⟩, ⟨rO0, p0⟩] S64x256.size (by rfl) y

/-- The first group's maxima, from the keys read out of their buffer. -/
theorem grp0 {sig' : RefSig} {κ' : Kind} {sp' : Space} (v : View sig' κ' sp' S2x16384x128 .bf16) (f : v.ty.Contents (Elt F)) (q : FVec F S256x128 .bf16) :
    k1_pay55 q (v.readAt (Elt F) rGrpK0.toLoadRect f) = k1_pay55 q (View.ld (v.read (Elt F) f) rGrpK0) := rfl
/-- The second head's. -/
theorem grp1 {sig' : RefSig} {κ' : Kind} {sp' : Space} (v : View sig' κ' sp' S2x16384x128 .bf16) (f : v.ty.Contents (Elt F)) (q : FVec F S256x128 .bf16) :
    k1_pay62 q (v.readAt (Elt F) rGrpK1.toLoadRect f) = k1_pay62 q (View.ld (v.read (Elt F) f) rGrpK1) := rfl
/-- They are what the walk starts with. -/
theorem start_x0 (i : grid1.Coords) (x2 : Vec F S256x128 .bf16) (x3 : Vec F S2x16384x128 .bf16) (x4 : Vec F S128x16384 .bf16) (x5 : Vec F S64x128 .f32) :
    (start i x2 x3 x4 x5).x0 = k1_pay55 (qa0 i x2 x5) (View.ld x3 rGrpK0) := by
  simp only [start]
/-- The second head's. -/
theorem start_x1 (i : grid1.Coords) (x2 : Vec F S256x128 .bf16) (x3 : Vec F S2x16384x128 .bf16) (x4 : Vec F S128x16384 .bf16) (x5 : Vec F S64x128 .f32) :
    (start i x2 x3 x4 x5).x1 = k1_pay62 (qa1 i x2 x5) (View.ld x3 rGrpK1) := by
  simp only [start]

set_option maxHeartbeats 4000000 in
/-- The first head's last group, from what was carried there and the scratch. -/
theorem readOff0 {sig' : RefSig} {κ' : Kind} {sp' : Space} (v : View sig' κ' sp' S2x2048x256 .f32)
    (z : (FVec F S1x256 .f32 × FVec F S80x256 .f32 × FVec F S1x256 .f32 × FVec F S80x256 .f32 × FVec F S1x256 .f32 × FVec F S1x256 .f32) × List (View.Piece (Elt F) S2x2048x256 .f32))
    (H : List (View.Piece (Elt F) S2x2048x256 .f32)) (w : Carry F) (e : z.1 = (w.m0, w.a0, w.m1, w.a1, w.x0, w.x1))
    (h : v.readAt (Elt F) rH0.toLoadRect (v.writes (Elt F) (v.writes (Elt F) v.junk H) z.2) = half w.s0) (y : Vec F S128x1024 .bf16) :
    k1_pay19 z.1.1 z.1.2.1 z.1.2.2.2.2.1 y (v.readCov (z.2 ++ H) rH0.toLoadRect) = k1_pay19 w.m0 w.a0 w.x0 y (half w.s0) := by
  obtain ⟨z1, L⟩ := z
  subst e
  rw [← View.writes_append] at h
  exact congrArg _ h

/-- The second head's. -/
theorem readOff1 {sig' : RefSig} {κ' : Kind} {sp' : Space} (v : View sig' κ' sp' S2x2048x256 .f32)
    (z : (FVec F S1x256 .f32 × FVec F S80x256 .f32 × FVec F S1x256 .f32 × FVec F S80x256 .f32 × FVec F S1x256 .f32 × FVec F S1x256 .f32) × List (View.Piece (Elt F) S2x2048x256 .f32))
    (H : List (View.Piece (Elt F) S2x2048x256 .f32)) (w : Carry F) (e : z.1 = (w.m0, w.a0, w.m1, w.a1, w.x0, w.x1))
    (h : v.readAt (Elt F) rH1.toLoadRect (v.writes (Elt F) (v.writes (Elt F) v.junk H) z.2) = half w.s1) (y : Vec F S128x1024 .bf16) :
    k1_pay1 z.1.2.2.1 z.1.2.2.2.1 (k1_pay18 y) (k1_pay20 z.1.2.2.1 z.1.2.2.2.2.2) (k1_pay21 (v.readCov (z.2 ++ H) rH1.toLoadRect))
      = k1_pay1 w.m1 w.a1 (k1_pay18 y) (k1_pay20 w.m1 w.x1) (k1_pay21 (half w.s1)) := by
  obtain ⟨z1, L⟩ := z
  subst e
  rw [← View.writes_append] at h
  exact congrArg (fun t => k1_pay1 w.m1 w.a1 (k1_pay18 y) (k1_pay20 w.m1 w.x1) (k1_pay21 t)) h

set_option maxHeartbeats 4000000 in
set_option maxRecDepth 65536 in
/-- Where there is an odd group of four blocks at the end. -/
theorem sound_tail (c : Dev nD) (E : Set ℕ) (i : grid1.Coords)
  (arg2 : Memref sig .tc .vmem S256x128 .bf16) (harg2 : arg2.IsWhole) (arg3 : Memref sig .tc .vmem S2x16384x128 .bf16) (harg3 : arg3.IsWhole) (arg4 : Memref sig .tc .vmem S128x16384 .bf16) (harg4 : arg4.IsWhole) (arg5 : Memref sig .tc .vmem S64x128 .f32) (harg5 : arg5.IsWhole) (arg6 : Memref sig .tc .vmem S128x256 .bf16) (harg6 : arg6.IsWhole) (arg7 : Memref sig .tc .vmem S2x2048x256 .f32) (harg7 : arg7.IsWhole)
  (x2 : Vec F S256x128 .bf16) (x3 : Vec F S2x16384x128 .bf16) (x4 : Vec F S128x16384 .bf16) (x5 : Vec F S64x128 .f32) (K : PUnit → sProp 𝕄) (hc : k1_cond1 i = 1#1) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (outF i x2 x3 x4 x5) ∗ (∃ d, owns (c : Thread nD τ) arg7 fullShare d)) -∗ K ⟨⟩))
      ⊢ wp frame (wpE (defs₀ (F := F)) Variants.none c none) E (cc1_moba i arg2 harg2 arg3 harg3 arg4 harg4 arg5 harg5 arg6 harg6 arg7 harg7) K := by
  simp only [cc1_moba_eq_skeleton]; unfold cc1_moba_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover_out _ _)).trans ?_
    have e6 : sound_tail.sl.r_6 c i arg2 arg5 f2 f5 = qa0 i (arg2.view.read (Elt F) f2) (arg5.view.read (Elt F) f5) := by
      unfold sound_tail.sl.r_6
      rfl
    have e13 : sound_tail.sl.r_13 c i arg2 arg5 f2 f5 = qa1 i (arg2.view.read (Elt F) f2) (arg5.view.read (Elt F) f5) := by
      unfold sound_tail.sl.r_13
      rfl
    have e19 : sound_tail.sl.r_19 c i arg2 arg3 f2 f3 = (start i (arg2.view.read (Elt F) f2) (arg3.view.read (Elt F) f3) (arg4.view.read (Elt F) f4) (arg5.view.read (Elt F) f5)).m0 := by
      unfold sound_tail.sl.r_19 start
      rfl
    have e20 : sound_tail.sl.r_20 c i arg2 arg3 arg5 f2 f3 f5 = (start i (arg2.view.read (Elt F) f2) (arg3.view.read (Elt F) f3) (arg4.view.read (Elt F) f4) (arg5.view.read (Elt F) f5)).x0 := by
      unfold sound_tail.sl.r_20
      rw [e6]
      exact (grp0 arg3.view f3 _).trans (start_x0 i _ _ _ _).symm
    have e23 : sound_tail.sl.r_23 c i arg2 arg3 arg4 arg7 f2 f3 f4 = (start i (arg2.view.read (Elt F) f2) (arg3.view.read (Elt F) f3) (arg4.view.read (Elt F) f4) (arg5.view.read (Elt F) f5)).a0 := by
      unfold sound_tail.sl.r_23
      show _ = k1_pay58 _ _
      refine congr (congrArg k1_pay58 rfl) ?_
      unfold sound_tail.sl.r_22
      refine congr (congr (congrArg k1_pay57 rfl) rfl) ?_
      unfold sound_tail.sl.v228 sound_tail.sl.H7_2
      exact own_back0 _ _ _ _
    have e26 : sound_tail.sl.r_26 c i arg2 arg3 arg4 arg5 arg7 f2 f3 f4 f5 = (start i (arg2.view.read (Elt F) f2) (arg3.view.read (Elt F) f3) (arg4.view.read (Elt F) f4) (arg5.view.read (Elt F) f5)).a1 := by
      unfold sound_tail.sl.r_26
      refine congr (congr (congr (congr (congrArg k1_pay63 rfl) rfl) rfl) rfl) ?_
      unfold sound_tail.sl.v257 sound_tail.sl.H7_3 sound_tail.sl.H7_2
      exact own_back1 _ _ _ _
    have eH : sound_tail.sl.H7_4 c i arg2 arg3 arg5 f2 f3 f5 = scratch i (arg2.view.read (Elt F) f2) (arg3.view.read (Elt F) f3) (arg4.view.read (Elt F) f4) (arg5.view.read (Elt F) f5) := by
      unfold sound_tail.sl.H7_4 sound_tail.sl.H7_3 sound_tail.sl.H7_2 scratch start
      rw [e6, e13]
      refine congrArg₂ List.cons rfl (congrArg₂ List.cons rfl ?_)
      refine congrArg₂ List.cons (congrArg (fun p => (⟨rOwn1, p⟩ : View.Piece (Elt F) S2x2048x256 .f32)) ?_) (congrArg₂ List.cons (congrArg (fun p => (⟨rOwn0, p⟩ : View.Piece (Elt F) S2x2048x256 .f32)) ?_) rfl)
      · rfl
      · rfl
    have e24 : sound_tail.sl.r_24 c i arg2 arg3 f2 f3 = (start i (arg2.view.read (Elt F) f2) (arg3.view.read (Elt F) f3) (arg4.view.read (Elt F) f4) (arg5.view.read (Elt F) f5)).m1 := rfl
    have e25 : sound_tail.sl.r_25 c i arg2 arg3 arg5 f2 f3 f5 = (start i (arg2.view.read (Elt F) f2) (arg3.view.read (Elt F) f3) (arg4.view.read (Elt F) f4) (arg5.view.read (Elt F) f5)).x1 := by
      unfold sound_tail.sl.r_25
      rw [e13]
      exact (grp1 arg3.view f3 _).trans (start_x1 i _ _ _ _).symm
    unfold outF fin0 fin1
    rw [dif_pos hc, dif_pos hc]
    dsimp only
    have key := st_eq (F := F) Variants.none c none i arg2 harg2 arg3 harg3 arg4 harg4 arg5 harg5 arg6 harg6 arg7 harg7
      (qa0 i (arg2.view.read (Elt F) f2) (arg5.view.read (Elt F) f5)) (qa1 i (arg2.view.read (Elt F) f2) (arg5.view.read (Elt F) f5))
      (start i (arg2.view.read (Elt F) f2) (arg3.view.read (Elt F) f3) (arg4.view.read (Elt F) f4) (arg5.view.read (Elt F) f5)).m0
      (start i (arg2.view.read (Elt F) f2) (arg3.view.read (Elt F) f3) (arg4.view.read (Elt F) f4) (arg5.view.read (Elt F) f5)).x0
      (start i (arg2.view.read (Elt F) f2) (arg3.view.read (Elt F) f3) (arg4.view.read (Elt F) f4) (arg5.view.read (Elt F) f5)).a0
      (start i (arg2.view.read (Elt F) f2) (arg3.view.read (Elt F) f3) (arg4.view.read (Elt F) f4) (arg5.view.read (Elt F) f5)).m1
      (start i (arg2.view.read (Elt F) f2) (arg3.view.read (Elt F) f3) (arg4.view.read (Elt F) f4) (arg5.view.read (Elt F) f5)).x1
      (start i (arg2.view.read (Elt F) f2) (arg3.view.read (Elt F) f3) (arg4.view.read (Elt F) f4) (arg5.view.read (Elt F) f5)).a1
      (sound_tail.sl.v286 i) 4#32 (sound_tail.sl.v287 i) (sound_tail.sl.v292 i) f3 f4
      (arg7.view.writes (Elt F) arg7.view.junk (scratch i (arg2.view.read (Elt F) f2) (arg3.view.read (Elt F) f3) (arg4.view.read (Elt F) f4) (arg5.view.read (Elt F) f5)))
      (start i (arg2.view.read (Elt F) f2) (arg3.view.read (Elt F) f3) (arg4.view.read (Elt F) f4) (arg5.view.read (Elt F) f5))
      (holds_writes _ _ _ _ _) (k1_t1_loop i).trips le_rfl
    obtain ⟨e, hh⟩ := key
    obtain ⟨h0, h1⟩ := holds_half hh
    generalize hw : walk i (qa0 i (arg2.view.read (Elt F) f2) (arg5.view.read (Elt F) f5)) (qa1 i (arg2.view.read (Elt F) f2) (arg5.view.read (Elt F) f5)) (arg3.view.read (Elt F) f3) (arg4.view.read (Elt F) f4) (start i (arg2.view.read (Elt F) f2) (arg3.view.read (Elt F) f3) (arg4.view.read (Elt F) f4) (arg5.view.read (Elt F) f5)) (k1_t1_loop i).trips = w at e h0 h1
    unfold Carry.regs at e h0 h1
    rw [← eH, ← e6, ← e13, ← e19, ← e20, ← e23, ← e24, ← e25, ← e26] at e h0 h1
    have hw' : walked i (arg2.view.read (Elt F) f2) (arg3.view.read (Elt F) f3) (arg4.view.read (Elt F) f4) (arg5.view.read (Elt F) f5) = w := hw
    rw [hw']
    refine congrArg View.canon (congrArg₂ List.cons ?_ (congrArg₂ List.cons ?_ rfl))
    · refine congrArg (fun p => (⟨rO1, p⟩ : View.Piece (Elt F) S128x256 .bf16)) (congrArg k1_pay3 ?_)
      unfold sound_tail.sl.r_35 sound_tail.sl.r_29 sound_tail.sl.r_30 sound_tail.sl.r_32 sound_tail.sl.r_33 sound_tail.sl.r_36 sound_tail.sl.v394
      exact readOff1 _ _ _ _ e h1 _
    · refine congrArg (fun p => (⟨rO0, p⟩ : View.Piece (Elt F) S128x256 .bf16)) (congrArg k1_pay2 ?_)
      unfold sound_tail.sl.r_34 sound_tail.sl.r_27 sound_tail.sl.r_28 sound_tail.sl.r_31 sound_tail.sl.v378
      exact readOff0 _ _ _ _ e h0 _
  iexists _; iexists _; isplitr
  swap; · iexact H7
  ipureintro
  rfl

end Cert.KernelIdeal.Own

end
-- ==== Proof.Named.Even.lean ====
/- One grid point of the attention call as printed leaves `outF` of its blocks in the result's buffer: the points without
   an odd group at the end, and all of them. -/
module

public import proofs.«01_k».proof.Proof.Named.Sound
public import proofs.«01_k».proof.Proof.Gen.KernelIdeal.Launch
public import proofs.«01_k».proof.Proof.Gen.KernelIdeal.Points
public import Idealize.ShloMosaic.Lib.LoopRemainder
public import Idealize.ShloMosaic.Lib.Claim
public import Idealize.ShloMosaic.Lib.Ring
public import Idealize.ShloMosaic.Lib.Tactic

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
set_option maxRecDepth 65536 in
/-- Where there is no odd group. -/
theorem sound_even (c : Dev nD) (E : Set ℕ) (i : grid1.Coords)
  (arg2 : Memref sig .tc .vmem S256x128 .bf16) (harg2 : arg2.IsWhole) (arg3 : Memref sig .tc .vmem S2x16384x128 .bf16) (harg3 : arg3.IsWhole) (arg4 : Memref sig .tc .vmem S128x16384 .bf16) (harg4 : arg4.IsWhole) (arg5 : Memref sig .tc .vmem S64x128 .f32) (harg5 : arg5.IsWhole) (arg6 : Memref sig .tc .vmem S128x256 .bf16) (harg6 : arg6.IsWhole) (arg7 : Memref sig .tc .vmem S2x2048x256 .f32) (harg7 : arg7.IsWhole)
  (x2 : Vec F S256x128 .bf16) (x3 : Vec F S2x16384x128 .bf16) (x4 : Vec F S128x16384 .bf16) (x5 : Vec F S64x128 .f32) (K : PUnit → sProp 𝕄) (hc : ¬ k1_cond1 i = 1#1) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (outF i x2 x3 x4 x5) ∗ (∃ d, owns (c : Thread nD τ) arg7 fullShare d)) -∗ K ⟨⟩))
      ⊢ wp frame (wpE (defs₀ (F := F)) Variants.none c none) E (cc1_moba i arg2 harg2 arg3 harg3 arg4 harg4 arg5 harg5 arg6 harg6 arg7 harg7) K := by
  simp only [cc1_moba_eq_skeleton]; unfold cc1_moba_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover_out _ _)).trans ?_
    have e6 : sound_even.sl.r_6 c i arg2 arg5 f2 f5 = qa0 i (arg2.view.read (Elt F) f2) (arg5.view.read (Elt F) f5) := by
      unfold sound_even.sl.r_6
      rfl
    have e13 : sound_even.sl.r_13 c i arg2 arg5 f2 f5 = qa1 i (arg2.view.read (Elt F) f2) (arg5.view.read (Elt F) f5) := by
      unfold sound_even.sl.r_13
      rfl
    have e19 : sound_even.sl.r_19 c i arg2 arg3 f2 f3 = (start i (arg2.view.read (Elt F) f2) (arg3.view.read (Elt F) f3) (arg4.view.read (Elt F) f4) (arg5.view.read (Elt F) f5)).m0 := by
      unfold sound_even.sl.r_19 start
      rfl
    have e20 : sound_even.sl.r_20 c i arg2 arg3 arg5 f2 f3 f5 = (start i (arg2.view.read (Elt F) f2) (arg3.view.read (Elt F) f3) (arg4.view.read (Elt F) f4) (arg5.view.read (Elt F) f5)).x0 := by
      unfold sound_even.sl.r_20
      rw [e6]
      exact (grp0 arg3.view f3 _).trans (start_x0 i _ _ _ _).symm
    have e23 : sound_even.sl.r_23 c i arg2 arg3 arg4 arg7 f2 f3 f4 = (start i (arg2.view.read (Elt F) f2) (arg3.view.read (Elt F) f3) (arg4.view.read (Elt F) f4) (arg5.view.read (Elt F) f5)).a0 := by
      unfold sound_even.sl.r_23
      show _ = k1_pay58 _ _
      refine congr (congrArg k1_pay58 rfl) ?_
      unfold sound_even.sl.r_22
      refine congr (congr (congrArg k1_pay57 rfl) rfl) ?_
      unfold sound_even.sl.v228 sound_even.sl.H7_2
      exact own_back0 _ _ _ _
    have e26 : sound_even.sl.r_26 c i arg2 arg3 arg4 arg5 arg7 f2 f3 f4 f5 = (start i (arg2.view.read (Elt F) f2) (arg3.view.read (Elt F) f3) (arg4.view.read (Elt F) f4) (arg5.view.read (Elt F) f5)).a1 := by
      unfold sound_even.sl.r_26
      refine congr (congr (congr (congr (congrArg k1_pay63 rfl) rfl) rfl) rfl) ?_
      unfold sound_even.sl.v257 sound_even.sl.H7_3 sound_even.sl.H7_2
      exact own_back1 _ _ _ _
    have eH : sound_even.sl.H7_4 c i arg2 arg3 arg5 f2 f3 f5 = scratch i (arg2.view.read (Elt F) f2) (arg3.view.read (Elt F) f3) (arg4.view.read (Elt F) f4) (arg5.view.read (Elt F) f5) := by
      unfold sound_even.sl.H7_4 sound_even.sl.H7_3 sound_even.sl.H7_2 scratch start
      rw [e6, e13]
      refine congrArg₂ List.cons rfl (congrArg₂ List.cons rfl ?_)
      refine congrArg₂ List.cons (congrArg (fun p => (⟨rOwn1, p⟩ : View.Piece (Elt F) S2x2048x256 .f32)) ?_) (congrArg₂ List.cons (congrArg (fun p => (⟨rOwn0, p⟩ : View.Piece (Elt F) S2x2048x256 .f32)) ?_) rfl)
      · rfl
      · rfl
    have e24 : sound_even.sl.r_24 c i arg2 arg3 f2 f3 = (start i (arg2.view.read (Elt F) f2) (arg3.view.read (Elt F) f3) (arg4.view.read (Elt F) f4) (arg5.view.read (Elt F) f5)).m1 := rfl
    have e25 : sound_even.sl.r_25 c i arg2 arg3 arg5 f2 f3 f5 = (start i (arg2.view.read (Elt F) f2) (arg3.view.read (Elt F) f3) (arg4.view.read (Elt F) f4) (arg5.view.read (Elt F) f5)).x1 := by
      unfold sound_even.sl.r_25
      rw [e13]
      exact (grp1 arg3.view f3 _).trans (start_x1 i _ _ _ _).symm
    unfold outF fin0 fin1
    rw [dif_neg hc, dif_neg hc]
    dsimp only
    have key := st_eq (F := F) Variants.none c none i arg2 harg2 arg3 harg3 arg4 harg4 arg5 harg5 arg6 harg6 arg7 harg7
      (qa0 i (arg2.view.read (Elt F) f2) (arg5.view.read (Elt F) f5)) (qa1 i (arg2.view.read (Elt F) f2) (arg5.view.read (Elt F) f5))
      (start i (arg2.view.read (Elt F) f2) (arg3.view.read (Elt F) f3) (arg4.view.read (Elt F) f4) (arg5.view.read (Elt F) f5)).m0
      (start i (arg2.view.read (Elt F) f2) (arg3.view.read (Elt F) f3) (arg4.view.read (Elt F) f4) (arg5.view.read (Elt F) f5)).x0
      (start i (arg2.view.read (Elt F) f2) (arg3.view.read (Elt F) f3) (arg4.view.read (Elt F) f4) (arg5.view.read (Elt F) f5)).a0
      (start i (arg2.view.read (Elt F) f2) (arg3.view.read (Elt F) f3) (arg4.view.read (Elt F) f4) (arg5.view.read (Elt F) f5)).m1
      (start i (arg2.view.read (Elt F) f2) (arg3.view.read (Elt F) f3) (arg4.view.read (Elt F) f4) (arg5.view.read (Elt F) f5)).x1
      (start i (arg2.view.read (Elt F) f2) (arg3.view.read (Elt F) f3) (arg4.view.read (Elt F) f4) (arg5.view.read (Elt F) f5)).a1
      (sound_even.sl.v286 i) 4#32 (sound_even.sl.v287 i) (sound_even.sl.v292 i) f3 f4
      (arg7.view.writes (Elt F) arg7.view.junk (scratch i (arg2.view.read (Elt F) f2) (arg3.view.read (Elt F) f3) (arg4.view.read (Elt F) f4) (arg5.view.read (Elt F) f5)))
      (start i (arg2.view.read (Elt F) f2) (arg3.view.read (Elt F) f3) (arg4.view.read (Elt F) f4) (arg5.view.read (Elt F) f5))
      (holds_writes _ _ _ _ _) (k1_t1_loop i).trips le_rfl
    obtain ⟨e, hh⟩ := key
    obtain ⟨h0, h1⟩ := holds_half hh
    generalize hw : walk i (qa0 i (arg2.view.read (Elt F) f2) (arg5.view.read (Elt F) f5)) (qa1 i (arg2.view.read (Elt F) f2) (arg5.view.read (Elt F) f5)) (arg3.view.read (Elt F) f3) (arg4.view.read (Elt F) f4) (start i (arg2.view.read (Elt F) f2) (arg3.view.read (Elt F) f3) (arg4.view.read (Elt F) f4) (arg5.view.read (Elt F) f5)) (k1_t1_loop i).trips = w at e h0 h1
    unfold Carry.regs at e h0 h1
    rw [← eH, ← e6, ← e13, ← e19, ← e20, ← e23, ← e24, ← e25, ← e26] at e h0 h1
    have hw' : walked i (arg2.view.read (Elt F) f2) (arg3.view.read (Elt F) f3) (arg4.view.read (Elt F) f4) (arg5.view.read (Elt F) f5) = w := hw
    rw [hw']
    refine congrArg View.canon (congrArg₂ List.cons ?_ (congrArg₂ List.cons ?_ rfl))
    · refine congrArg (fun p => (⟨rO1, p⟩ : View.Piece (Elt F) S128x256 .bf16)) (congrArg k1_pay3 ?_)
      unfold sound_even.sl.r_30
      exact congrArg (fun t => t.2.2.2.1) e
    · refine congrArg (fun p => (⟨rO0, p⟩ : View.Piece (Elt F) S128x256 .bf16)) (congrArg k1_pay2 ?_)
      unfold sound_even.sl.r_28
      exact congrArg (fun t => t.2.1) e
  iexists _; iexists _; isplitr
  swap; · iexact H7
  ipureintro
  rfl

/-- At every grid point the body leaves `outF` of its blocks in the result's buffer. -/
theorem sound_moba (c : Dev nD) (E : Set ℕ) (i : grid1.Coords)
  (arg2 : Memref sig .tc .vmem S256x128 .bf16) (harg2 : arg2.IsWhole) (arg3 : Memref sig .tc .vmem S2x16384x128 .bf16) (harg3 : arg3.IsWhole) (arg4 : Memref sig .tc .vmem S128x16384 .bf16) (harg4 : arg4.IsWhole) (arg5 : Memref sig .tc .vmem S64x128 .f32) (harg5 : arg5.IsWhole) (arg6 : Memref sig .tc .vmem S128x256 .bf16) (harg6 : arg6.IsWhole) (arg7 : Memref sig .tc .vmem S2x2048x256 .f32) (harg7 : arg7.IsWhole)
  (x2 : Vec F S256x128 .bf16) (x3 : Vec F S2x16384x128 .bf16) (x4 : Vec F S128x16384 .bf16) (x5 : Vec F S64x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (outF i x2 x3 x4 x5) ∗ (∃ d, owns (c : Thread nD τ) arg7 fullShare d)) -∗ K ⟨⟩))
      ⊢ wp frame (wpE (defs₀ (F := F)) Variants.none c none) E (cc1_moba i arg2 harg2 arg3 harg3 arg4 harg4 arg5 harg5 arg6 harg6 arg7 harg7) K := by
  by_cases hc : k1_cond1 i = 1#1
  · exact sound_tail c E i arg2 harg2 arg3 harg3 arg4 harg4 arg5 harg5 arg6 harg6 arg7 harg7 x2 x3 x4 x5 K hc
  · exact sound_even c E i arg2 harg2 arg3 harg3 arg4 harg4 arg5 harg5 arg6 harg6 arg7 harg7 x2 x3 x4 x5 K hc

end Cert.KernelIdeal.Own

end
-- ==== Proof.Named.Region1.lean ====
/- The attention call, one grid point at a time. -/
module

public import proofs.«01_k».proof.Proof.Named.Even
public import proofs.«01_k».proof.Proof.Gen.KernelIdeal.Launch
public import proofs.«01_k».proof.Proof.Gen.KernelIdeal.Points
public import Idealize.ShloMosaic.Lib.LoopRemainder
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-- The block window `w` stages at point `t`, from the arrays `V` the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The call's proof data over the arrays `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outF (grid1.coords t) (iblk1 V c 0 t) (iblk1 V c 1 t) (iblk1 V c 2 t) (iblk1 V c 3 t)
  Φ _ := Pipeline.scopedRest spec1 c
  q _ := fullShare
  owed _ := 0

/-- Its arrays are `V`'s. -/
theorem A_eq1 (c : Dev nD) (w : Fin cfg1.W) : (dat1 V c).A w = V c (Pipeline.arrRef spec1 w) := by
  dsimp only [dat1]

/-- What a point leaves in each staged block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outF (grid1.coords t) (iblk1 V c 0 t) (iblk1 V c 1 t) (iblk1 V c 2 t) (iblk1 V c 3 t) := by
  dsimp only [dat1]

/-- Each input's block is there when the point starts. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- What a point starts from. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it ends with. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The scratch, whole at something, as one buffer. -/
theorem scratch_out (c : Dev nD) : iprop(∃ d, owns (c : Thread nD τ) (Memref.whole cc1_scratch0) fullShare d)
    ⊢ (iprop(∃ f : Buf (Elt F) ((c : Thread nD τ).loc cc1_scratch0), ((c : Thread nD τ).loc cc1_scratch0) ↦{fullShare} f) : sProp 𝕄) := by
  simp only [owns_whole_eq]
  iintro ⟨%d, %f, -, H⟩
  iexists f; iexact H

/-- A point, from the one to the other: the scratch is among the buffers the call may use. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = Pipeline.scopedRest spec1 c from rfl, show (dat1 V c).Φ t.castSucc = Pipeline.scopedRest spec1 c from rfl,
    show (dat1 V c).owesAt () t.succ = (dat1 V c).owesAt () t.castSucc from rfl,
    after1_0, after1_1, after1_2, after1_3, after1_4, scopedRest1_eq]
  iintro ⟨⟨Ha, Hb, Hc, Hd, He, Hf, ⟨%fs, Hs⟩⟩, Ho, ⟨%d0, H0⟩, ⟨%d1, H1⟩, ⟨%d2, H2⟩, ⟨%d3, H3⟩, ⟨%d4, H4⟩⟩
  iapply (sound_moba c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [Hs]
  · iexists fs
    rw [owns_whole_eq]
    iexists fs; isplitr; · ipureintro; rfl
    iexact Hs
  iintro ⟨H0, H1, H2, H3, H4, Hs⟩
  ihave Hs := (scratch_out c) $$ Hs
  isplitl [Ha Hb Hc Hd He Hf Hs]
  · isplitl [Ha]; · iexact Ha
    isplitl [Hb]; · iexact Hb
    isplitl [Hc]; · iexact Hc
    isplitl [Hd]; · iexact Hd
    isplitl [He]; · iexact He
    isplitl [Hf]; · iexact Hf
    iexact Hs
  isplitl [Ho]; · iexact Ho
  isplitl [H0]; · iexact H0
  isplitl [H1]; · iexact H1
  isplitl [H2]; · iexact H2
  isplitl [H3]; · iexact H3
  iexact H4

/-- The call's body is this point's body. -/
theorem defs₀_row1 (t : Fin cfg1.N) :
    defs₀ (F := F) .tc cfg1.body (cfg1.bodyArgs t (cfg1.slots t)) = bodyAt1 t := by
  unfold defs₀; rw [Defs.onTc_tc]

/-- Every point meets the call's obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Own

end
-- ==== Proof.Named.Run.lean ====
/- The whole program: the transpose, the key preparation, the attention call; what every fair run leaves. -/
module

public import proofs.«01_k».proof.Proof.Named.Region0
public import proofs.«01_k».proof.Proof.Named.Region1
public import proofs.«01_k».proof.Proof.Gen.KernelIdeal.Regions
public import Idealize.ShloMosaic.Lib.Pipeline.RegionArraysS
public import proofs.«01_k».proof.Proof.Gen.KernelIdeal.Launch
public import proofs.«01_k».proof.Proof.Gen.KernelIdeal.Points
public import Idealize.ShloMosaic.Lib.LoopRemainder
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers between the calls -/

/-- After the key preparation. -/
def W2 (c : Dev nD) : Valuation τ sig (Elt F) := Pipeline.afterRegion (dat0 (V1 m) c) (V1 m c)
/-- After the attention call. -/
def W3 (c : Dev nD) : Valuation τ sig (Elt F) := Pipeline.afterRegion (dat1 (W2 m) c) (W2 m c)

/-- The two calls' proof data. -/
def pdats : (p : Fin 2) → (c : Dev nD) → Dat τ (Elt F) Unit ℕ (UR sig nD τ) ℕ (cfgs p) c
  | ⟨0, _⟩ => fun c => dat0 (V1 m) c
  | ⟨1, _⟩ => fun c => dat1 (W2 m) c

/-- A queries-and-keys array and a values array as launched, after both calls. -/
theorem W3_arg0 (c : Dev nD) : W3 m c main_arg0 = m ((c : Thread nD τ).loc main_arg0) := by
  unfold W3
  rw [Pipeline.afterRegion_keeps (dat1 (W2 m) c) (W2 m c) launch1.win.arr_inj (A_eq1 (W2 m) c) main_arg0 (by decide)]
  unfold W2
  rw [Pipeline.afterRegion_keeps (dat0 (V1 m) c) (V1 m c) launch0.win.arr_inj (A_eq0 (V1 m) c) main_arg0 (by decide)]
  exact V1_of m c main_arg0 (by decide)
theorem W3_arg1 (c : Dev nD) : W3 m c main_arg1 = m ((c : Thread nD τ).loc main_arg1) := by
  unfold W3
  rw [Pipeline.afterRegion_keeps (dat1 (W2 m) c) (W2 m c) launch1.win.arr_inj (A_eq1 (W2 m) c) main_arg1 (by decide)]
  unfold W2
  rw [Pipeline.afterRegion_keeps (dat0 (V1 m) c) (V1 m c) launch0.win.arr_inj (A_eq0 (V1 m) c) main_arg1 (by decide)]
  exact V1_of m c main_arg1 (by decide)
/-- The result is what the attention call's points wrote. -/
theorem W3_res (c : Dev nD) : W3 m c main_v2 = (dat1 (W2 m) c).arrAt 4 cfg1.N :=
  Pipeline.afterRegion_arr (dat1 (W2 m) c) (W2 m c) launch1.win.arr_inj 4

/-! ## The calls as segments -/

/-- Every staging wait has its index on the vector core's cells. -/
abbrev L : GSem nD τ sig → Finset Unit := fun g => if g.1.2 = .tc then {()} else ∅
abbrev lv : GSem nD τ sig → Unit → ℕ := fun _ _ => 0

/-- Nothing is owed, so the levels say nothing more. -/
theorem cut (p : Fin 2) : Pipeline.LevelCut (pcfgs (F := F)) adm () L lv p (fun _ => 0) (fun _ => 0) where
  hι _ _ _ := by simp [L]
  hιb _ _ _ := le_refl 0
  hD _ _ _ h := absurd h (Nat.lt_irrefl 0)

/-- Nothing beside an invariant, dropped; -/
theorem drop_emp (A : sProp 𝕄) : iprop(A ∗ emp) ⊢ A := by
  iintro ⟨H, -⟩; iexact H
/-- and added. -/
theorem with_emp (A : sProp 𝕄) : A ⊢ iprop(A ∗ emp) := by
  iintro H; isplitl [H]; · iexact H
  iempintro

/-- Two empty resources beside others, added and dropped. -/
theorem ride (A B : sProp 𝕄) : iprop(A ∗ B) ⊢ iprop(A ∗ B ∗ emp ∗ emp) := by
  iintro ⟨HA, HB⟩
  isplitl [HA]; · iexact HA
  isplitl [HB]; · iexact HB
  isplitr <;> iempintro
theorem unride (A B : sProp 𝕄) : iprop(A ∗ B ∗ emp ∗ emp) ⊢ iprop(A ∗ B) := by
  iintro ⟨HA, HB, -⟩
  isplitl [HA]; · iexact HA
  iexact HB

/-- Each call's invariant is the buffers it may use, at something. -/
theorem inv0 (V : Dev nD → Valuation τ sig (Elt F)) (c : Dev nD) (t) : (dat0 V c).Φ t = Pipeline.scopedRest spec0 c := by dsimp only [dat0]
theorem inv1 (V : Dev nD → Valuation τ sig (Elt F)) (c : Dev nD) (t) : (dat1 V c).Φ t = Pipeline.scopedRest spec1 c := by dsimp only [dat1]
theorem in0 (c : Dev nD) : iprop(Pipeline.scopedRest spec0 c ∗ emp) ⊢ (dat0 (V1 m) c).Φ 0 := by rw [inv0]; exact drop_emp _
theorem in1 (c : Dev nD) : iprop(Pipeline.scopedRest spec1 c ∗ emp) ⊢ (dat1 (W2 m) c).Φ 0 := by rw [inv1]; exact drop_emp _
theorem out0 (c : Dev nD) : (dat0 (V1 m) c).Φ (Fin.last cfg0.N) ⊢ iprop(Pipeline.scopedRest spec0 c ∗ emp) := by rw [inv0]; exact with_emp _
theorem out1 (c : Dev nD) : (dat1 (W2 m) c).Φ (Fin.last cfg1.N) ⊢ iprop(Pipeline.scopedRest spec1 c ∗ emp) := by rw [inv1]; exact with_emp _
theorem p0 (c : Dev nD) : pdats m 0 c = dat0 (V1 m) c := rfl
theorem p1 (c : Dev nD) : pdats m 1 c = dat1 (W2 m) c := rfl

/-- The key preparation over the unscoped buffers. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) (fun _ => iprop(emp)) (fun _ => iprop(emp))
    launch0.toP rfl (fun c => (body_obligation0 (V1 m) c).loose) (fun _ _ => rfl) (fun _ => rfl) (fun c => (dat0 (V1 m) c).share_full fun _ => rfl)
    (in0 m) (out0 m)
    (fun _ => 0) (cut 0) (fun _ => iprop(emp)) (V1 m) (fun c w => A_eq0 (V1 m) c w)

/-- The attention call over them. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig) (fun _ => iprop(emp)) (fun _ => iprop(emp))
    launch1.toP rfl (fun c => (body_obligation1 (W2 m) c).loose) (fun _ _ => rfl) (fun _ => rfl) (fun c => (dat1 (W2 m) c).share_full fun _ => rfl)
    (in1 m) (out1 m)
    (fun _ => 0) (cut 1) (fun _ => iprop(emp)) (W2 m) (fun c w => A_eq1 (W2 m) c w)

/-- What rides beside the buffers: nothing is owed. -/
abbrev E (c : Dev nD) : sProp 𝕄 := iprop(∃ W, owes (c : Thread nD τ) (0 : CellTallies nD τ sig Unit) W)

theorem arrs0 : Pipeline.arrRefs (τ := τ) spec0 ⊆ Pipeline.ucRefs τ sig := by decide
theorem arrs1 : Pipeline.arrRefs (τ := τ) spec1 ⊆ Pipeline.ucRefs τ sig := by decide

theorem pre0 (c : Dev nD) : iprop(StableHlo.held (c : Thread nD τ) (Pipeline.ucRefs τ sig) (V1 m c) ∗ E c) ⊢ (reg0 m).pre c := by
  unfold reg0
  refine BI.Entails.trans ?_ (RegionSeg.ofHeldIn_pre arrs0 c)
  exact ride _ _
theorem post0 (c : Dev nD) : (reg0 m).post c ⊢ iprop(StableHlo.held (c : Thread nD τ) (Pipeline.ucRefs τ sig) (W2 m c) ∗ E c) := by
  unfold reg0
  refine BI.Entails.trans (RegionSeg.ofHeldIn_post arrs0 c) ?_
  rw [show W2 m c = Pipeline.afterRegion (pdats m 0 c) (V1 m c) from rfl]
  exact unride _ _
theorem pre1 (c : Dev nD) : iprop(StableHlo.held (c : Thread nD τ) (Pipeline.ucRefs τ sig) (W2 m c) ∗ E c) ⊢ (reg1 m).pre c := by
  unfold reg1
  refine BI.Entails.trans ?_ (RegionSeg.ofHeldIn_pre arrs1 c)
  exact ride _ _
theorem post1 (c : Dev nD) : (reg1 m).post c ⊢ iprop(StableHlo.held (c : Thread nD τ) (Pipeline.ucRefs τ sig) (W3 m c) ∗ E c) := by
  unfold reg1
  refine BI.Entails.trans (RegionSeg.ofHeldIn_post arrs1 c) ?_
  rw [show W3 m c = Pipeline.afterRegion (pdats m 1 c) (W2 m c) from rfl]
  exact unride _ _

/-! ## The run -/

set_option backward.isDefEq.respectTransparency.types false in
/-- Every fair run ends with both arguments as launched, the result as the attention call's points wrote it, and every
    semaphore counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v2) = (dat1 (W2 m) c).arrAt 4 cfg1.N)
      ∧ r.2.sem = fun _ => 0) := by
  refine Pipeline.θ_run_regions_kit_dev_sems (pcfgs (F := F)) adm (pdats m) () cellOf_inj emb₁ defs₀ Variants.none L lv m ρ main
    (segs m Variants.none L lv (fun _ => E) () (pdats m) (reg0 m) (reg1 m))
    (fun c Q => by
      rewrite [main_chain c, Seg.run_eq_chain,
        show (segs m Variants.none L lv (fun _ => E) () (pdats m) (reg0 m) (reg1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun g h => if_neg h) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ E c))
    (Tₙ := fun c => StableHlo.held (c : Thread nD τ) (Pipeline.ucRefs τ sig) (W3 m c))
    (hch := fun c => ⟨.rfl, pre0 m c, (post0 m c).trans (pre1 m c), post1 m c⟩)
    (hinit := ?_) (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v2) = (dat1 (W2 m) c).arrAt 4 cfg1.N)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (emb₁ (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (W3_arg0 m c),
        (h (Proc.devRef .tc main_arg1) (Finset.mem_filter.mpr ⟨StableHlo.devRef_mem_tcRefs main_arg1, by decide⟩)).trans (W3_arg1 m c),
        (h (Proc.devRef .tc main_v2) (Finset.mem_filter.mpr ⟨StableHlo.devRef_mem_tcRefs main_v2, by decide⟩)).trans (W3_res m c)⟩
    · iexact HSI

/-- The frame alone. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (run m ρ)

end Cert.KernelIdeal.Own

end
-- ==== Proof.Rows.Region.lean ====
/- The projection call, one grid point at a time: what it leaves in its three results' blocks and in its scratch. -/
module

public import proofs.«01_k».proof.Proof.Gen.ProjectionIdeal.Skeleton
public import proofs.«01_k».proof.Proof.Gen.ProjectionIdeal.Frame
public import Idealize.ShloMosaic.Lib.Pipeline.FrameBody
public import Idealize.ShloMosaic.Lib.Pipeline.ValueKit.Geometry
public import Idealize.ShloMosaic.Lib.Claim
public import Idealize.ShloMosaic.Lib.Ring
public import Idealize.ShloMosaic.Lib.Tactic

@[expose] public section

set_option maxRecDepth 16384

noncomputable section

namespace Cert.ProjectionIdeal.Own

open Cert.ProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole blocks, as the accesses name them. -/
abbrev rS : Rect S1024x1024 := Rect.unit (s := S1024x1024) ![0, 0] S1024x1024.size inb_S1024x1024_S1024x1024_0_0
abbrev rN : Rect S1x1024 := Rect.unit (s := S1x1024) ![0, 0] S1x1024.size inb_S1x1024_S1x1024_0_0
abbrev rW : Rect S1x1024x1024 := Rect.unit (s := S1x1024x1024) ![0, 0, 0] S1x1024x1024.size inb_S1x1024x1024_S1x1024x1024_0_0_0
abbrev rD : Rect S1x1024x128 := Rect.unit (s := S1x1024x128) ![0, 0, 0] S1x1024x128.size inb_S1x1024x128_S1x1024x128_0_0_0
abbrev rT : Rect S1024x128 := Rect.unit (s := S1024x128) ![0, 0] S1024x128.size inb_S1024x128_S1024x128_0_0

/-- The normalised rows a block of rows leaves in the scratch, -/
def hidF (x : Vec F S1024x1024 .f32) (n : Vec F S1x1024 .f32) : Vec F S1024x1024 .bf16 :=
  View.canon [⟨rS, k0_pay3 (View.ld x rS) (View.ld n rN)⟩]
/-- its values, one row per channel, -/
def valF (x : Vec F S1024x1024 .f32) (n : Vec F S1x1024 .f32) (w : Vec F S1x1024x1024 .bf16) : Vec F S1024x1024 .bf16 :=
  View.canon [⟨rS, k0_pay4 (View.ld x rS) (View.ld n rN) (View.ld w rW)⟩]
/-- its steps, -/
def stepF (x : Vec F S1024x1024 .f32) (n : Vec F S1x1024 .f32) (w : Vec F S1x1024x128 .f32) : Vec F S1024x128 .f32 :=
  View.canon [⟨rT, k0_pay5 (View.ld x rS) (View.ld n rN) (View.ld w rD)⟩]
/-- and the block of its other columns the scratch and the weights give. -/
def natF (h : Vec F S1024x1024 .bf16) (w : Vec F S1x1024x1024 .bf16) : Vec F S1024x1024 .bf16 :=
  View.canon [⟨rS, k0_pay6 (View.ld h rS) (View.ld w rW)⟩]

/-- A whole store covers its block. -/
theorem cover_S {e : EltTy} (p : Vec F S1024x1024 e) (y : S1024x1024.Idx) :
    ∃ pc ∈ ([⟨rS, p⟩] : List (View.Piece (Elt F) S1024x1024 e)), y ∈ pc.1.set :=
  View.cover_of_tiled [⟨rS, p⟩] S1024x1024.size (by rfl) y
theorem cover_T {e : EltTy} (p : Vec F S1024x128 e) (y : S1024x128.Idx) :
    ∃ pc ∈ ([⟨rT, p⟩] : List (View.Piece (Elt F) S1024x128 e)), y ∈ pc.1.set :=
  View.cover_of_tiled [⟨rT, p⟩] S1024x128.size (by rfl) y

set_option maxHeartbeats 2000000 in
/-- The first point of a block of rows fills the scratch and all three results' blocks. -/
theorem sound_first (c : Dev nD) (E : Set ℕ) (i : grid0.Coords) (hc : k0_cond1 i = 1#1)
  (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x128 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x1024 .bf16) (harg10 : arg10.IsWhole)
  (x : Vec F S1024x1024 .f32) (n : Vec F S1x1024 .f32) (w : Vec F S1x1024x1024 .bf16) (wv : Vec F S1x1024x1024 .bf16) (wd : Vec F S1x1024x128 .f32) (K : PUnit → sProp 𝕄) :
    iprop(owns (c : Thread nD τ) arg2 fullShare x ∗ owns (c : Thread nD τ) arg3 fullShare n ∗ owns (c : Thread nD τ) arg4 fullShare w ∗ owns (c : Thread nD τ) arg5 fullShare wv ∗ owns (c : Thread nD τ) arg6 fullShare wd
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x ∗ owns (c : Thread nD τ) arg3 fullShare n ∗ owns (c : Thread nD τ) arg4 fullShare w ∗ owns (c : Thread nD τ) arg5 fullShare wv ∗ owns (c : Thread nD τ) arg6 fullShare wd
            ∗ owns (c : Thread nD τ) arg7 fullShare (natF (hidF x n) w) ∗ owns (c : Thread nD τ) arg8 fullShare (valF x n wv) ∗ owns (c : Thread nD τ) arg9 fullShare (stepF x n wd)
            ∗ owns (c : Thread nD τ) arg10 fullShare (hidF x n)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10) K := by
  simp only [cc0_proj_eq_skeleton]; unfold cc0_proj_skel
  rw [dif_pos hc]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf2 hf3 hf4 hf5 hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_S _)).trans ?_
    have e := View.readCov_eq_canon_ld arg10.view [⟨rS, k0_pay3 (View.ld (View.read (Elt F) arg2.view f2) rS) (View.ld (View.read (Elt F) arg3.view f3) rN)⟩] rS (cover_S _)
    exact congrArg (fun h => View.canon ([⟨rS, k0_pay6 h (View.ld (View.read (Elt F) arg4.view f4) rW)⟩] : List (View.Piece (Elt F) S1024x1024 .bf16))) e
  isplitl [H8]
  · iexists _; isplitr
    swap; · iexact H8
    ipureintro
    refine (View.read_writes_eq_canon _ _ _ (cover_S _)).trans ?_
    rfl
  isplitl [H9]
  · iexists _; isplitr
    swap; · iexact H9
    ipureintro
    refine (View.read_writes_eq_canon _ _ _ (cover_T _)).trans ?_
    rfl
  iexists _; isplitr
  swap; · iexact H10
  ipureintro
  refine (View.read_writes_eq_canon _ _ _ (cover_S _)).trans ?_
  rfl

set_option maxHeartbeats 2000000 in
/-- A later point reads the scratch and fills the other columns' block only. -/
theorem sound_later (c : Dev nD) (E : Set ℕ) (i : grid0.Coords) (hc : ¬ k0_cond1 i = 1#1)
  (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x128 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x1024 .bf16) (harg10 : arg10.IsWhole)
  (h : Vec F S1024x1024 .bf16) (w : Vec F S1x1024x1024 .bf16) (K : PUnit → sProp 𝕄) :
    iprop(owns (c : Thread nD τ) arg4 fullShare w ∗ (∃ d, owns (c : Thread nD τ) arg7 fullShare d) ∗ owns (c : Thread nD τ) arg10 fullShare h
        ∗ (iprop(owns (c : Thread nD τ) arg4 fullShare w ∗ owns (c : Thread nD τ) arg7 fullShare (natF h w) ∗ owns (c : Thread nD τ) arg10 fullShare h) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10) K := by
  simp only [cc0_proj_eq_skeleton]; unfold cc0_proj_skel
  rw [dif_neg hc]
  unfold owns
  iintro ⟨⟨%f4, %hf4, H4⟩, ⟨%d7, %f7, -, H7⟩, ⟨%f10, %hf10, H10⟩, Hk⟩
  subst hf4 hf10
  sl_exec
  sl_step
  iapply Hk
  isplitl [H4]
  · iexists f4; isplitr; · ipureintro; rfl
    iexact H4
  isplitl [H7]
  · iexists _; isplitr
    swap; · iexact H7
    ipureintro
    refine (View.read_writes_eq_canon _ _ _ (cover_S _)).trans ?_
    rfl
  iexists _; isplitr
  swap; · iexact H10
  ipureintro
  rfl

/-! ## Which points begin a block of rows -/

/-- The kernel's own test is true at the first of the eleven points of a block of rows. -/
theorem first_iff : ∀ t : Fin cfg0.N, k0_cond1 (grid0.coords t) = 1#1 ↔ t.val % 11 = 0 :=
  (by decide +kernel : ∀ t : Fin grid0.N, k0_cond1 (grid0.coords t) = 1#1 ↔ t.val % 11 = 0)

/-- The values' and the steps' blocks are written at those points only. -/
theorem idle_6 (t : Fin cfg0.N) : cfg0.idle 6 (grid0.coords t) = !decide (t.val % 11 = 0) := by
  show (!(k0_cond1 (grid0.coords t) == 1#1)) = _
  by_cases h : t.val % 11 = 0
  · rw [(first_iff t).2 h]; simp [h]
  · have h' : ¬ k0_cond1 (grid0.coords t) = 1#1 := fun e => h ((first_iff t).1 e)
    simp [h, h']
theorem idle_7 (t : Fin cfg0.N) : cfg0.idle 7 (grid0.coords t) = !decide (t.val % 11 = 0) := by
  show (!(k0_cond1 (grid0.coords t) == 1#1)) = _
  by_cases h : t.val % 11 = 0
  · rw [(first_iff t).2 h]; simp [h]
  · have h' : ¬ k0_cond1 (grid0.coords t) = 1#1 := fun e => h ((first_iff t).1 e)
    simp [h, h']

/-- Where each window stands at a point. -/
theorem win0_0_index : ∀ t : Fin cfg0.N, win0_0.index t = ![t.val / 11, 0] := (by decide +kernel : ∀ t : Fin grid0.N, _)
theorem win0_1_index : ∀ t : Fin cfg0.N, win0_1.index t = ![0, 0] := (by decide +kernel : ∀ t : Fin grid0.N, _)
theorem win0_2_index : ∀ t : Fin cfg0.N, win0_2.index t = ![0, 0, t.val % 11] := (by decide +kernel : ∀ t : Fin grid0.N, _)
theorem win0_3_index : ∀ t : Fin cfg0.N, win0_3.index t = ![0, 0, 0] := (by decide +kernel : ∀ t : Fin grid0.N, _)
theorem win0_4_index : ∀ t : Fin cfg0.N, win0_4.index t = ![0, 0, 0] := (by decide +kernel : ∀ t : Fin grid0.N, _)
theorem win0_5_index : ∀ t : Fin cfg0.N, win0_5.index t = ![t.val / 11, t.val % 11] := (by decide +kernel : ∀ t : Fin grid0.N, _)
theorem win0_6_index : ∀ t : Fin cfg0.N, win0_6.index t = ![0, t.val / 11] := (by decide +kernel : ∀ t : Fin grid0.N, _)
theorem win0_7_index : ∀ t : Fin cfg0.N, win0_7.index t = ![t.val / 11, 0] := (by decide +kernel : ∀ t : Fin grid0.N, _)

/-- The point before. -/
abbrev prev (t : Fin cfg0.N) : Fin cfg0.N := ⟨t.val - 1, Nat.lt_of_le_of_lt (Nat.sub_le _ _) t.isLt⟩

/-- Within a block of rows the rows, the norm's weights and the two small weights do not move. -/
theorem iblk_0_prev (c : Dev nD) (t : Fin cfg0.N) (h : t.val % 11 ≠ 0) : iblk m c 0 (prev t) = iblk m c 0 t := by
  have e : (t.val - 1) / 11 = t.val / 11 := by omega
  funext y
  blk_simp [iblk]
  refine congrArg _ ?_
  blk_ext [win0_0_index, e]
theorem iblk_1_prev (c : Dev nD) (t : Fin cfg0.N) : iblk m c 1 (prev t) = iblk m c 1 t := by
  funext y
  blk_simp [iblk]
  refine congrArg _ ?_
  blk_ext [win0_1_index]
theorem iblk_3_prev (c : Dev nD) (t : Fin cfg0.N) : iblk m c 3 (prev t) = iblk m c 3 t := by
  funext y
  blk_simp [iblk]
  refine congrArg _ ?_
  blk_ext [win0_3_index]
theorem iblk_4_prev (c : Dev nD) (t : Fin cfg0.N) : iblk m c 4 (prev t) = iblk m c 4 t := by
  funext y
  blk_simp [iblk]
  refine congrArg _ ?_
  blk_ext [win0_4_index]

/-! ## The pipeline's proof data -/

/-- The normalised rows of a point's block. -/
def hidAt (c : Dev nD) (t : Fin cfg0.N) : Vec F S1024x1024 .bf16 := hidF (iblk m c 0 t) (iblk m c 1 t)

/-- What the scratch holds before the `n`-th point: something at first, then the normalised rows of the point before. -/
def held (c : Dev nD) : (n : ℕ) → n < cfg0.N + 1 → sProp 𝕄
  | 0, _ => iprop(∃ f : Buf (Elt F) ((c : Thread nD τ).loc cc0_scratch0), ((c : Thread nD τ).loc cc0_scratch0) ↦{fullShare} f)
  | n + 1, h => owns (c : Thread nD τ) (Memref.whole cc0_scratch0) fullShare (hidAt m c ⟨n, Nat.lt_of_succ_lt_succ h⟩)

/-- The call's proof data. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => natF (hidAt m c t) (iblk m c 2 t)
    | ⟨6, _⟩ => valF (iblk m c 0 t) (iblk m c 1 t) (iblk m c 3 t)
    | ⟨7, _⟩ => stepF (iblk m c 0 t) (iblk m c 1 t) (iblk m c 4 t)
  Φ t := iprop(held m c t.val t.isLt ∗ ∃ r, prngReg c r)
  q _ := fullShare
  owed _ := 0

/-- Its arrays are the ones the call finds. -/
theorem A_eq (c : Dev nD) (w : Fin cfg0.W) : (dat m c).A w = V m c (Pipeline.arrRef spec0 w) := by dsimp only [dat]

/-- What a point leaves in each staged block. -/
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = natF (hidAt m c t) (iblk m c 2 t) := by dsimp only [dat]
theorem after_6 (c : Dev nD) (t : Fin cfg0.N) : (dat m c).after 6 t = valF (iblk m c 0 t) (iblk m c 1 t) (iblk m c 3 t) := by dsimp only [dat]
theorem after_7 (c : Dev nD) (t : Fin cfg0.N) : (dat m c).after 7 t = stepF (iblk m c 0 t) (iblk m c 1 t) (iblk m c 4 t) := by dsimp only [dat]

/-- The five operands' blocks are there when the point starts. -/
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d

/-- The values and the steps of a block of rows, carried through its later points. -/
theorem after_6_prev (c : Dev nD) (t : Fin cfg0.N) (h : t.val % 11 ≠ 0) : (dat m c).after 6 (prev t) = (dat m c).after 6 t := by
  rw [after_6, after_6, iblk_0_prev m c t h, iblk_1_prev, iblk_3_prev]
theorem after_7_prev (c : Dev nD) (t : Fin cfg0.N) (h : t.val % 11 ≠ 0) : (dat m c).after 7 (prev t) = (dat m c).after 7 t := by
  rw [after_7, after_7, iblk_0_prev m c t h, iblk_1_prev, iblk_4_prev]

/-- A later point finds the values its block of rows' first point left. -/
theorem before_6 (c : Dev nD) (n : ℕ) : ∀ (t : Fin cfg0.N) (_ : t.val = n) (_ : t.val % 11 ≠ 0) (d),
    (dat m c).before 6 t d = (dat m c).after 6 t := by
  induction n with
  | zero => intro t ht h d; omega
  | succ n ih =>
    intro t ht h d
    have hfl : (cfg0.win 6).flush (prev t) = false := by
      rw [← Bool.not_eq_true, flush0_6]; show ¬ (t.val - 1) % 11 = 10; omega
    rw [(dat m c).before_of_pos 6 t (by omega) (Pipeline.Window.fetch_out _ rfl _) d, if_neg (by rw [hfl]; exact Bool.false_ne_true), ← after_6_prev m c t h]
    show (dat m c).left 6 (prev t) d = _
    unfold Dat.left
    by_cases h0 : (prev t).val % 11 = 0
    · rw [show cfg0.idle 6 (cfg0.grid.coords (prev t)) = false from (idle_6 (prev t)).trans (by rw [decide_eq_true h0]; rfl)]
      rfl
    · rw [show cfg0.idle 6 (cfg0.grid.coords (prev t)) = true from (idle_6 (prev t)).trans (by rw [decide_eq_false h0]; rfl)]
      exact ih (prev t) (by show t.val - 1 = n; omega) h0 d
theorem before_7 (c : Dev nD) (n : ℕ) : ∀ (t : Fin cfg0.N) (_ : t.val = n) (_ : t.val % 11 ≠ 0) (d),
    (dat m c).before 7 t d = (dat m c).after 7 t := by
  induction n with
  | zero => intro t ht h d; omega
  | succ n ih =>
    intro t ht h d
    have hfl : (cfg0.win 7).flush (prev t) = false := by
      rw [← Bool.not_eq_true, flush0_7]; show ¬ (t.val - 1) % 11 = 10; omega
    rw [(dat m c).before_of_pos 7 t (by omega) (Pipeline.Window.fetch_out _ rfl _) d, if_neg (by rw [hfl]; exact Bool.false_ne_true), ← after_7_prev m c t h]
    show (dat m c).left 7 (prev t) d = _
    unfold Dat.left
    by_cases h0 : (prev t).val % 11 = 0
    · rw [show cfg0.idle 7 (cfg0.grid.coords (prev t)) = false from (idle_7 (prev t)).trans (by rw [decide_eq_true h0]; rfl)]
      rfl
    · rw [show cfg0.idle 7 (cfg0.grid.coords (prev t)) = true from (idle_7 (prev t)).trans (by rw [decide_eq_false h0]; rfl)]
      exact ih (prev t) (by show t.val - 1 = n; omega) h0 d

/-! ## The body obligation -/

/-- The scratch before a point is the scratch at something; -/
theorem held_some (c : Dev nD) (n : ℕ) (h : n < cfg0.N + 1) :
    held m c n h ⊢ iprop(∃ d, owns (c : Thread nD τ) (Memref.whole cc0_scratch0) fullShare d) := by
  cases n with
  | zero =>
    unfold held
    iintro ⟨%f, H⟩
    iexists f
    rw [owns_whole_eq]
    iexists f; isplitr; · ipureintro; rfl
    iexact H
  | succ n =>
    unfold held
    iintro H
    iexists _; iexact H
/-- and the buffer at some contents. -/
theorem held_buf (c : Dev nD) (n : ℕ) (h : n < cfg0.N + 1) :
    held m c n h ⊢ (iprop(∃ f : Buf (Elt F) ((c : Thread nD τ).loc cc0_scratch0), ((c : Thread nD τ).loc cc0_scratch0) ↦{fullShare} f) : sProp 𝕄) := by
  refine (held_some m c n h).trans ?_
  simp only [owns_whole_eq]
  iintro ⟨%d, %f, -, H⟩
  iexists f; iexact H
/-- Before a later point it is the normalised rows of that point's own block. -/
theorem held_later (c : Dev nD) (t : Fin cfg0.N) (h : t.val % 11 ≠ 0) (hn) :
    held m c t.val hn = owns (c : Thread nD τ) (Memref.whole cc0_scratch0) fullShare (hidAt m c t) := by
  obtain ⟨n, hN⟩ := t
  cases n with
  | zero => exact absurd rfl h
  | succ n =>
    have e0 := iblk_0_prev m c ⟨n + 1, hN⟩ h
    have e1 := iblk_1_prev m c ⟨n + 1, hN⟩
    unfold held hidAt
    exact congrArg (owns (c : Thread nD τ) (Memref.whole cc0_scratch0) fullShare) (congrArg₂ hidF e0 e1)

/-- What a point starts from. -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d)))

/-- What it ends with. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ owns (c : Thread nD τ) (st0_7 t) fullShare ((dat m c).after 7 t))

/-- The invariant around a point. -/
theorem inv_before (c : Dev nD) (t : Fin cfg0.N) : (dat m c).Φ t.castSucc = iprop(held m c t.val (Nat.lt_succ_of_lt t.isLt) ∗ ∃ r, prngReg c r) := rfl
theorem inv_after (c : Dev nD) (t : Fin cfg0.N) : (dat m c).Φ t.succ = iprop(owns (c : Thread nD τ) (Memref.whole cc0_scratch0) fullShare (hidAt m c t) ∗ ∃ r, prngReg c r) := rfl

/-- A point, from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [inv_before, inv_after, show (dat m c).owesAt () t.succ = (dat m c).owesAt () t.castSucc from rfl,
    after_0, after_1, after_2, after_3, after_4, after_5]
  by_cases h : t.val % 11 = 0
  · rw [after_6, after_7]
    iintro ⟨⟨Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    ihave Hs := (held_some m c _ _) $$ Hs
    iapply (sound_first c Set.univ (grid0.coords t) ((first_iff t).2 h) _ _ _ _ _ _ _ _ _ _ _ _ _ _ _ _ _ _ (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [Hs]; · iexact Hs
    iintro ⟨H0, H1, H2, H3, H4, H5, H6, H7, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [held_later m c t h]
    simp only [before_6 m c t.val t rfl h, before_7 m c t.val t rfl h]
    iintro ⟨⟨Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later c Set.univ (grid0.coords t) (fun e => h ((first_iff t).1 e)) _ _ _ _ _ _ _ _ _ _ _ _ _ _ _ _ _ _ (hidAt m c t) (iblk m c 2 t) _)
    isplitl [H2]; · iexact H2
    isplitl [H5]; · iexists _; iexact H5
    isplitl [Hs]; · iexact Hs
    iintro ⟨H2, H5, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The call's body is this point's body. -/
theorem defs₀_row (t : Fin cfg0.N) :
    defs₀ (F := F) .tc cfg0.body (cfg0.bodyArgs t (cfg0.slots t)) = bodyAt0 t := by
  unfold defs₀; rw [Defs.onTc_tc]

/-- A block held at what a point leaves is a block as the obligation wants it left, whether the point stored into
    it or not. -/
theorem leaves_6 (c : Dev nD) (t : Fin cfg0.N) :
    owns (c : Thread nD τ) (st0_6 t) fullShare ((dat m c).after 6 t) ⊢ (dat m c).leavesExact 6 t := by
  unfold Dat.leavesExact
  by_cases h : t.val % 11 = 0
  · rw [show cfg0.idle 6 (cfg0.grid.coords t) = false from (idle_6 t).trans (by rw [decide_eq_true h]; rfl)]
  · rw [show cfg0.idle 6 (cfg0.grid.coords t) = true from (idle_6 t).trans (by rw [decide_eq_false h]; rfl)]
    cases (cfg0.win 6).flush t
    · iintro H
      iexists (dat m c).after 6 t
      rw [before_6 m c t.val t rfl h]
      iexact H
    · exact .rfl
theorem leaves_7 (c : Dev nD) (t : Fin cfg0.N) :
    owns (c : Thread nD τ) (st0_7 t) fullShare ((dat m c).after 7 t) ⊢ (dat m c).leavesExact 7 t := by
  unfold Dat.leavesExact
  by_cases h : t.val % 11 = 0
  · rw [show cfg0.idle 7 (cfg0.grid.coords t) = false from (idle_7 t).trans (by rw [decide_eq_true h]; rfl)]
  · rw [show cfg0.idle 7 (cfg0.grid.coords t) = true from (idle_7 t).trans (by rw [decide_eq_false h]; rfl)]
    cases (cfg0.win 7).flush t
    · iintro H
      iexists (dat m c).after 7 t
      rw [before_7 m c t.val t rfl h]
      iexact H
    · exact .rfl

/-- Every point meets the call's obligation. -/
theorem body_obligation (c : Dev nD) : BodyObligation (dat (F := F) m c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6, H7⟩
  ihave H6 := (leaves_6 m c t) $$ H6
  ihave H7 := (leaves_7 m c t) $$ H7
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The run -/

/-- The one call's proof data. -/
def dats : (p : Fin 1) → (c : Dev nD) → Dat τ (Elt F) Unit ℕ (UR sig nD τ) ℕ (cfgs p) c
  | ⟨0, _⟩ => fun c => dat m c

/-- The invariant is entered from the buffers the call may use, and left to them. -/
theorem inv_in (c : Dev nD) : Pipeline.ΦA spec0 c ⊢ (dat m c).Φ 0 := by
  unfold Pipeline.ΦA
  rw [scopedRest0_eq]
  exact .rfl
theorem inv_out (c : Dev nD) : (dat m c).Φ (Fin.last cfg0.N) ⊢ Pipeline.ΦA spec0 c := by
  unfold Pipeline.ΦA
  rw [scopedRest0_eq]
  exact sep_mono (held_buf m c _ _) .rfl

/-- EVERY FAIR RUN ends with the three results at what the points wrote, the arguments as they were, and every counter at zero. -/
theorem run : θ_run defs (onTc (τ := τ) (main (F := F))) ⟨m, fun _ => 0, ρ⟩ (fun r => (∀ c : Dev nD,
      r.2.mem ((c.tc : Thread nD τ).loc main_v13_0) = (dat m c).arrAt 5 cfg0.N
      ∧ r.2.mem ((c.tc : Thread nD τ).loc main_v13_1) = (dat m c).arrAt 6 cfg0.N
      ∧ r.2.mem ((c.tc : Thread nD τ).loc main_v13_2) = (dat m c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_track cfgs (dats m) 0 launch0 defs₀ Variants.none m ρ main
    (fun c => (body_obligation m c).loose) (fun c => (dat m c).share_full fun _ => rfl) (fun _ _ => rfl)
    (V m) (hmain m Variants.none) (A_eq m) (inv_in m) (inv_out m) _
    (fun _ h => ⟨fun c => ⟨(h.1 c).1 5, (h.1 c).1 6, (h.1 c).1 7,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)

end Cert.ProjectionIdeal.Own

end
-- ==== Proof.Rows.Math.lean ====
/- The normalised input projection, plainly: a row scaled by its root mean square and its weights, times a column. -/
module

public import Idealize.ShloMosaic.Lib.Pointwise

@[expose] public section

noncomputable section

namespace Cert.Math

open Idealize.ShloMosaic

/-- A row's entry, normalised: over the root of the row's mean square and a small constant, times its weight. -/
def normed (x n : Fin 1024 → EReal) (d : Fin 1024) : EReal :=
  x d * Ideal.rsqrt (Ideal.div (∑ e, x e * x e) (Ideal.ofBits FTy.f32 1149239296#32) + Ideal.ofBits FTy.f32 897988541#32) * n d

/-- The normalised row's product with a column. -/
def projected (x n w : Fin 1024 → EReal) : EReal := ∑ d, normed x n d * w d

/-- The column of the whole weights a kept column is: the steps' sixteen and the values' thousand are left out. -/
def colOf (n : Fin 11264) : Fin 12304 :=
  ⟨if n.val < 3072 then n.val else if n.val < 7168 then n.val + 16 else n.val + 1040, by have := n.isLt; split <;> [omega; split <;> omega]⟩

end Cert.Math

end
-- ==== Proof.Rows.Values.lean ====
/- What the projection call leaves in its three results, entry by entry. -/
module

public import proofs.«01_k».proof.Proof.Rows.Region
public import proofs.«01_k».proof.Proof.Rows.Math
public import Idealize.ShloMosaic.Lib.Pointwise
public import Idealize.ShloMosaic.Lib.Pipeline.Value
public import Idealize.ShloMosaic.Lib.StableHlo.Run

@[expose] public section

set_option maxRecDepth 16384

noncomputable section

namespace Cert.ProjectionIdeal.Own

open Cert.ProjectionIdeal.Gen
open Idealize.ShloMosaic Idealize.ShloMosaic.TcCoe Cert.Math

/-! ## One block, from its operands' blocks -/

section
variable (x : Vec Ideal S1024x1024 .f32) (n : Vec Ideal S1x1024 .f32)

theorem pay1_at (r d : Fin 1024) : k0_pay1 x n (ix2 r d) = normed (fun e => x (ix2 r e)) (fun e => n (ix2 0 e)) d := by
  unfold k0_pay1 normed
  pointwise

theorem zero2 : (![0, 0] : Fin 2 → ℕ) = fun _ => 0 := by funext a; fin_cases a <;> rfl
theorem zero3 : (![0, 0, 0] : Fin 3 → ℕ) = fun _ => 0 := by funext a; fin_cases a <;> rfl

/-- A whole block read is the block. -/
theorem ld_S {e : EltTy} (v : Vec Ideal S1024x1024 e) : View.ld v rS = v := View.ld_unit_zero zero2 _ v
theorem ld_N (v : Vec Ideal S1x1024 .f32) : View.ld v rN = v := View.ld_unit_zero zero2 _ v
theorem ld_W (v : Vec Ideal S1x1024x1024 .bf16) : View.ld v rW = v := View.ld_unit_zero zero3 _ v
theorem ld_D (v : Vec Ideal S1x1024x128 .f32) : View.ld v rD = v := View.ld_unit_zero zero3 _ v

/-- The scratch: the normalised rows. -/
theorem hidF_at (r d : Fin 1024) : hidF x n (ix2 r d) = normed (fun e => x (ix2 r e)) (fun e => n (ix2 0 e)) d := by
  have h : hidF x n = k0_pay3 x n := (View.canon_unit_zero zero2 _ _).trans (by rw [ld_S, ld_N])
  rw [h, ← pay1_at]
  unfold k0_pay3 k0_pay2
  generalize k0_pay1 x n = h
  pointwise

/-- The values: a channel's weights with each normalised row. -/
theorem valF_at (w : Vec Ideal S1x1024x1024 .bf16) (ch r : Fin 1024) :
    valF x n w (ix2 ch r) = projected (fun e => x (ix2 r e)) (fun e => n (ix2 0 e)) (fun e => w (ix3 0 ch e)) := by
  have h : valF x n w = k0_pay4 x n w := (View.canon_unit_zero zero2 _ _).trans (by rw [ld_S, ld_N, ld_W])
  have h' : k0_pay4 x n w (ix2 ch r) = ∑ e, w (ix3 0 ch e) * k0_pay1 x n (ix2 r e) := by
    unfold k0_pay4 k0_pay2
    generalize k0_pay1 x n = h
    pointwise
  rw [h, h']
  exact Finset.sum_congr rfl fun e _ => by rw [pay1_at, mul_comm]

/-- The steps: each normalised row with a step's weights. -/
theorem stepF_at (w : Vec Ideal S1x1024x128 .f32) (r : Fin 1024) (l : Fin 128) :
    stepF x n w (ix2 r l) = projected (fun e => x (ix2 r e)) (fun e => n (ix2 0 e)) (fun e => w (ix3 0 e l)) := by
  have h : stepF x n w = k0_pay5 x n w := (View.canon_unit_zero zero2 _ _).trans (by rw [ld_S, ld_N, ld_D])
  have h' : k0_pay5 x n w (ix2 r l) = ∑ e, k0_pay1 x n (ix2 r e) * w (ix3 0 e l) := by
    unfold k0_pay5
    generalize k0_pay1 x n = h
    pointwise
  rw [h, h']
  exact Finset.sum_congr rfl fun e _ => by rw [pay1_at]

/-- The other columns: each normalised row with a column's weights. -/
theorem natF_at (w : Vec Ideal S1x1024x1024 .bf16) (r k : Fin 1024) :
    natF (hidF x n) w (ix2 r k) = projected (fun e => x (ix2 r e)) (fun e => n (ix2 0 e)) (fun e => w (ix3 0 e k)) := by
  have h : natF (hidF x n) w = k0_pay6 (hidF x n) w := (View.canon_unit_zero zero2 _ _).trans (by rw [ld_S, ld_W])
  have h' : k0_pay6 (hidF x n) w (ix2 r k) = ∑ e, hidF x n (ix2 r e) * w (ix3 0 e k) := by
    unfold k0_pay6
    generalize hidF x n = h
    pointwise
  rw [h, h']
  exact Finset.sum_congr rfl fun e _ => by rw [hidF_at]
end

/-! ## The operands' blocks, from the launched arrays -/

variable (m : (ℓ : Loc nD τ sig) → Buf (Elt Ideal) ℓ) (c : Dev nD)

/-- The launched rows, norm weights and projection weights. -/
abbrev X : FVec Ideal S16384x1024 .f32 := m ((c : Thread nD τ).loc main_arg0)
abbrev N : FVec Ideal S2x1024 .f32 := m ((c : Thread nD τ).loc main_arg1)
abbrev W : FVec Ideal S2x1024x12304 .f32 := m ((c : Thread nD τ).loc main_arg2)

/-- The host's row of norm weights, -/
def normRow (n : FVec Ideal S2x1024 .f32) : FVec Ideal S1x1024 .f32 :=
  shapeCast S1x1024 (shapeCast S1024 (extractStridedSlice S1x1024 ![0, 0] n slices_S2x1024_S1x1024_0_0) shapeCasts_S1x1024_S1024) shapeCasts_S1024_S1x1024
/-- its columns kept by rows, -/
def keptCols (w : FVec Ideal S2x1024x12304 .f32) : FVec Ideal S2x1024x11264 .bf16 :=
  truncf .bf16 (concatenate S2x1024x11264 2 [⟨S2x1024x3072, extractStridedSlice S2x1024x3072 ![0, 0, 0] w slices_S2x1024x12304_S2x1024x3072_0_0_0⟩, ⟨S2x1024x4096, extractStridedSlice S2x1024x4096 ![0, 0, 3088] w slices_S2x1024x12304_S2x1024x4096_0_0_3088⟩, ⟨S2x1024x4096, extractStridedSlice S2x1024x4096 ![0, 0, 8208] w slices_S2x1024x12304_S2x1024x4096_0_0_8208⟩] concatenates_S2x1024x3072_S2x1024x4096_S2x1024x4096_S2x1024x11264_d2) bitsLt_bf16_f32
/-- its values' columns, turned, -/
def valCols (w : FVec Ideal S2x1024x12304 .f32) : FVec Ideal S2x1024x1024 .bf16 :=
  truncf .bf16 (transpose S2x1024x1024 [0, 2, 1] (extractStridedSlice S2x1024x1024 ![0, 0, 7184] w slices_S2x1024x12304_S2x1024x1024_0_0_7184) transposes_S2x1024x1024_S2x1024x1024_0_2_1) bitsLt_bf16_f32
/-- and its steps' columns, among zeros. -/
def stepCols (w : FVec Ideal S2x1024x12304 .f32) : FVec Ideal S2x1024x128 .f32 :=
  pad S2x1024x128 ![0, 0, 0] ![0, 0, 112] ![0, 0, 0] (extractStridedSlice S2x1024x16 ![0, 0, 3072] w slices_S2x1024x12304_S2x1024x16_0_0_3072) (sitofp (F := Ideal) .f32 (constantI S_ 32 0#32)) pads_S2x1024x16_S2x1024x128_000_000_01120 h_S_

/-- They are what the call finds. -/
theorem V_norm : V m c main_v12 = normRow (N m c) := by
  show StableHlo.after (List.flatten [hostOps0, hostOps0_1, hostOps0_2]) (fun b => m (c, b)) main_v12 = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl
theorem V_kept : V m c main_v4 = keptCols (W m c) := by
  show StableHlo.after (List.flatten [hostOps0, hostOps0_1, hostOps0_2]) (fun b => m (c, b)) main_v4 = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl
theorem V_vals : V m c main_v7 = valCols (W m c) := by
  show StableHlo.after (List.flatten [hostOps0, hostOps0_1, hostOps0_2]) (fun b => m (c, b)) main_v7 = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl
theorem V_steps : V m c main_v9 = stepCols (W m c) := by
  show StableHlo.after (List.flatten [hostOps0, hostOps0_1, hostOps0_2]) (fun b => m (c, b)) main_v9 = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

theorem normRow_at (n : FVec Ideal S2x1024 .f32) (d : Fin 1024) : normRow n (ix2 0 d) = n (ix2 0 d) := by
  unfold normRow
  pointwise
theorem keptCols_at (w : FVec Ideal S2x1024x12304 .f32) (e : Fin 1024) (n : Fin 11264) : keptCols w (ix3 0 e n) = w (ix3 0 e (colOf n)) := by
  have h : ∀ a b : Fin 12304, a.val = b.val → w (ix3 0 e a) = w (ix3 0 e b) := fun a b h => by rw [Fin.ext h]
  unfold keptCols
  pointwise
  have hn := n.isLt
  split_ifs <;> (apply h; unfold colOf; dsimp only; split_ifs <;> omega)
theorem valCols_at (w : FVec Ideal S2x1024x12304 .f32) (ch e : Fin 1024) : valCols w (ix3 0 ch e) = w (ix3 0 e ⟨7184 + ch.val, by omega⟩) := by
  unfold valCols
  pointwise
theorem stepCols_at (w : FVec Ideal S2x1024x12304 .f32) (e : Fin 1024) (l : Fin 128) :
    stepCols w (ix3 0 e l) = if h : l.val < 16 then w (ix3 0 e ⟨3072 + l.val, by omega⟩) else 0 := by
  have z : FloatOps.sitofp (F := Ideal) FTy.f32 (0#32) = (0 : EReal) := by
    show ((((0#32 : BitVec 32).toInt : ℝ)) : EReal) = 0
    simp
  unfold stepCols
  pointwise
  simp only [z]

/-- A point's rows; -/
theorem rows_block (t : Fin cfg0.N) (r e : Fin 1024) (h : 1024 * (t.val / 11) + r.val < 16384) :
    iblk m c 0 t (ix2 r e) = X m c (ix2 ⟨1024 * (t.val / 11) + r.val, h⟩ e) := by
  blk_simp [iblk]
  refine (congrFun (V_main_arg0 m c) _).trans (congrArg (m _) ?_)
  blk_ext [win0_0_index]
/-- its norm weights; -/
theorem norm_block (t : Fin cfg0.N) (e : Fin 1024) : iblk m c 1 t (ix2 0 e) = N m c (ix2 0 e) := by
  refine Eq.trans ?_ (normRow_at (N m c) e)
  rw [← V_norm]
  blk_simp [iblk]
  refine congrArg (V m c _) ?_
  blk_ext [win0_1_index]
/-- its columns; -/
theorem kept_block (t : Fin cfg0.N) (e k : Fin 1024) (h : 1024 * (t.val % 11) + k.val < 11264) :
    iblk m c 2 t (ix3 0 e k) = W m c (ix3 0 e (colOf ⟨1024 * (t.val % 11) + k.val, h⟩)) := by
  refine Eq.trans ?_ (keptCols_at (W m c) e _)
  rw [← V_kept]
  blk_simp [iblk]
  refine congrArg (V m c _) ?_
  blk_ext [win0_2_index]
/-- the values' columns; -/
theorem vals_block (t : Fin cfg0.N) (ch e : Fin 1024) : iblk m c 3 t (ix3 0 ch e) = W m c (ix3 0 e ⟨7184 + ch.val, by omega⟩) := by
  refine Eq.trans ?_ (valCols_at (W m c) ch e)
  rw [← V_vals]
  blk_simp [iblk]
  refine congrArg (V m c _) ?_
  blk_ext [win0_3_index]
/-- the steps' columns. -/
theorem steps_block (t : Fin cfg0.N) (e : Fin 1024) (l : Fin 128) :
    iblk m c 4 t (ix3 0 e l) = if h : l.val < 16 then W m c (ix3 0 e ⟨3072 + l.val, by omega⟩) else 0 := by
  refine Eq.trans ?_ (stepCols_at (W m c) e l)
  rw [← V_steps]
  blk_simp [iblk]
  refine congrArg (V m c _) ?_
  blk_ext [win0_4_index]

/-! ## The three results, whole -/

/-- A row's product with a column of the launched weights. -/
def entry (r : Fin 16384) (n : Fin 12304) : EReal :=
  projected (fun e => X m c (ix2 r e)) (fun e => N m c (ix2 0 e)) (fun e => W m c (ix3 0 e n))

/-- A product with a column of zeros. -/
theorem projected_zero (x n : Fin 1024 → EReal) : projected x n (fun _ => 0) = 0 := by
  unfold projected
  simp

/-- The attention's values, turned. -/
def valsOut : FVec Ideal S1024x16384 .bf16 := fun y => entry m c (y 1) ⟨7184 + (y 0).val, by have : (y 0).val < 1024 := (y 0).isLt; omega⟩
/-- The steps, among zeros. -/
def stepsOut : FVec Ideal S16384x128 .f32 := fun y => if h : (y 1).val < 16 then entry m c (y 0) ⟨3072 + (y 1).val, by omega⟩ else 0
theorem stepsOut_at (r : Fin 16384) (l : Fin 128) :
    stepsOut m c (ix2 r l) = if h : l.val < 16 then entry m c r ⟨3072 + l.val, by omega⟩ else 0 := rfl

/-- The columns kept by rows; -/
theorem kept_arr : (dat m c).arrAt 5 cfg0.N = fun y => entry m c (y 0) (colOf (y 1)) := by
  refine (dat m c).arrAt_eq_of_covers 5 _ (by decide +kernel) fun t hf y => ?_
  blk_simp [win0_5_index]
  rw [after_5]
  obtain ⟨r, k, rfl⟩ : ∃ r k : Fin 1024, y = ix2 r k := ⟨y 0, y 1, eq_ix2 y⟩
  have ht : t.val < 176 := t.isLt
  have he : (win0_5.blk t).view.emb (ix2 r k) = ix2 ⟨1024 * (t.val / 11) + r.val, by omega⟩ ⟨1024 * (t.val % 11) + k.val, by omega⟩ := by
    blk_ext [win0_5_index]
  rw [he]
  refine (natF_at _ _ _ r k).trans ?_
  unfold entry
  simp only [norm_block, kept_block m c t _ k (by omega), rows_block m c t r _ (by omega)]
  rfl
/-- the values; -/
theorem vals_arr : (dat m c).arrAt 6 cfg0.N = valsOut m c := by
  refine (dat m c).arrAt_eq_of_covers 6 _ (by decide +kernel) fun t hf y => ?_
  blk_simp [win0_6_index]
  rw [after_6]
  obtain ⟨ch, r, rfl⟩ : ∃ ch r : Fin 1024, y = ix2 ch r := ⟨y 0, y 1, eq_ix2 y⟩
  have ht : t.val < 176 := t.isLt
  have he : (win0_6.blk t).view.emb (ix2 ch r) = ix2 ch ⟨1024 * (t.val / 11) + r.val, by omega⟩ := by
    blk_ext [win0_6_index]
  refine Eq.trans ?_ (congrArg (valsOut m c) he).symm
  refine (valF_at _ _ _ ch r).trans ?_
  unfold valsOut entry
  simp only [norm_block, vals_block, rows_block m c t r _ (by omega)]
  rfl
/-- the steps. -/
theorem steps_arr : (dat m c).arrAt 7 cfg0.N = stepsOut m c := by
  refine (dat m c).arrAt_eq_of_covers 7 _ (by decide +kernel) fun t hf y => ?_
  blk_simp [win0_7_index]
  rw [after_7]
  obtain ⟨r, l, rfl⟩ : ∃ (r : Fin 1024) (l : Fin 128), y = ix2 r l := ⟨y 0, y 1, eq_ix2 y⟩
  have ht : t.val < 176 := t.isLt
  have he : (win0_7.blk t).view.emb (ix2 r l) = ix2 ⟨1024 * (t.val / 11) + r.val, by omega⟩ l := by
    blk_ext [win0_7_index]
  refine Eq.trans ?_ (congrArg (stepsOut m c) he).symm
  rw [stepsOut_at]
  refine (stepF_at _ _ _ r l).trans ?_
  unfold entry
  simp only [norm_block, steps_block, rows_block m c t r _ (by omega)]
  by_cases h : l.val < 16
  · simp only [dif_pos h]
  · simp only [dif_neg h, projected_zero]

end Cert.ProjectionIdeal.Own
-- ==== Proof.Rows.Reference.lean ====
/- The reference projection, read entry by entry. -/
module

public import proofs.«01_k».proof.Proof.Gen.ProjectedIdeal.Run
public import proofs.«01_k».proof.Proof.Rows.Math
public import Idealize.ShloMosaic.Lib.Pointwise

@[expose] public section

set_option maxRecDepth 16384

noncomputable section

namespace Cert.ProjectedIdeal.Own

open Cert.ProjectedIdeal Cert.ProjectedIdeal.Gen Cert.ProjectedIdeal.Value
open Idealize.ShloMosaic Idealize.ShloMosaic.TcCoe Cert.Math

variable (X : FVec Ideal S16384x1024 .f32) (N : FVec Ideal S2x1024 .f32) (W : FVec Ideal S2x1024x12304 .f32)

/-- The normalised rows. -/
def rows : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32))))))
    (broadcastInDim S16384x1024 ![0, 1] bcast_S1x1024_S16384x1024_0_1 (broadcastInDim S1x1024 ![1] bcast_S1024_S1x1024_1 (shapeCast S1024 (extractStridedSlice S1x1024 ![0, 0] N slices_S2x1024_S1x1024_0_0) shapeCasts_S1x1024_S1024)))
/-- Their products with every column of the weights. -/
def cols : FVec Ideal S16384x12304 .f32 :=
  Host.dotGeneral dot_S16384x1024_S1024x12304_S16384x12304_1_0_0_1_n_n none (rows X N) (shapeCast S1024x12304 (extractStridedSlice S1x1024x12304 ![0, 0, 0] W slices_S2x1024x12304_S1x1024x12304_0_0_0) shapeCasts_S1x1024x12304_S1024x12304)

variable (P : FVec Ideal S16384x12304 .f32)

/-- The columns the layer uses by rows, together, -/
def kept : FVec Ideal S16384x11264 .bf16 :=
  truncf .bf16 (concatenate S16384x11264 1 [⟨S16384x1024, extractStridedSlice S16384x1024 ![0, 0] P slices_S16384x12304_S16384x1024_0_0⟩, ⟨S16384x2048, extractStridedSlice S16384x2048 ![0, 1024] P slices_S16384x12304_S16384x2048_0_1024⟩, ⟨S16384x1024, extractStridedSlice S16384x1024 ![0, 3088] P slices_S16384x12304_S16384x1024_0_3088⟩, ⟨S16384x1024, extractStridedSlice S16384x1024 ![0, 4112] P slices_S16384x12304_S16384x1024_0_4112⟩, ⟨S16384x1024, extractStridedSlice S16384x1024 ![0, 5136] P slices_S16384x12304_S16384x1024_0_5136⟩, ⟨S16384x1024, extractStridedSlice S16384x1024 ![0, 6160] P slices_S16384x12304_S16384x1024_0_6160⟩, ⟨S16384x1024, extractStridedSlice S16384x1024 ![0, 8208] P slices_S16384x12304_S16384x1024_0_8208⟩, ⟨S16384x3072, extractStridedSlice S16384x3072 ![0, 9232] P slices_S16384x12304_S16384x3072_0_9232⟩] concatenates_S16384x1024_S16384x2048_S16384x1024_S16384x1024_S16384x1024_S16384x1024_S16384x1024_S16384x3072_S16384x11264_d1) bitsLt_bf16_f32
/-- the values, by channels, -/
def turned : FVec Ideal S1024x16384 .bf16 :=
  truncf .bf16 (transpose S1024x16384 [1, 0] (extractStridedSlice S16384x1024 ![0, 7184] P slices_S16384x12304_S16384x1024_0_7184) transposes_S16384x1024_S1024x16384_1_0) bitsLt_bf16_f32
/-- and the steps, among zeros. -/
def padded : FVec Ideal S16384x128 .f32 :=
  pad S16384x128 ![0, 0] ![0, 112] ![0, 0] (extractStridedSlice S16384x16 ![0, 3072] P slices_S16384x12304_S16384x16_0_3072) (sitofp (F := Ideal) .f32 (constantI S_ 32 0#32)) pads_S16384x16_S16384x128_000_01120 h_S_

theorem rows_at (r : Fin 16384) (d : Fin 1024) : rows X N (ix2 r d) = normed (fun e => X (ix2 r e)) (fun e => N (ix2 0 e)) d := by
  unfold rows normed
  pointwise
theorem cols_at (r : Fin 16384) (n : Fin 12304) :
    cols X N W (ix2 r n) = projected (fun e => X (ix2 r e)) (fun e => N (ix2 0 e)) (fun e => W (ix3 0 e n)) := by
  have h : cols X N W (ix2 r n) = ∑ d, rows X N (ix2 r d) * W (ix3 0 d n) := by
    unfold cols
    generalize rows X N = h
    pointwise
  rw [h]
  exact Finset.sum_congr rfl fun d _ => by rw [rows_at]

theorem kept_at (r : Fin 16384) (n : Fin 11264) : kept P (ix2 r n) = P (ix2 r (colOf n)) := by
  have e : ∀ a b : Fin 12304, a.val = b.val → P (ix2 r a) = P (ix2 r b) := fun a b h => by rw [Fin.ext h]
  unfold kept
  pointwise
  have hn := n.isLt
  split_ifs <;> (apply e; unfold colOf; dsimp only; split_ifs <;> omega)
theorem turned_at (n : Fin 1024) (r : Fin 16384) : turned P (ix2 n r) = P (ix2 r ⟨7184 + n.val, by omega⟩) := by
  unfold turned
  pointwise
theorem padded_at (r : Fin 16384) (l : Fin 128) : padded P (ix2 r l) = if h : l.val < 16 then P (ix2 r ⟨3072 + l.val, by omega⟩) else 0 := by
  have z : FloatOps.sitofp (F := Ideal) FTy.f32 (0#32) = (0 : EReal) := by
    show ((((0#32 : BitVec 32).toInt : ℝ)) : EReal) = 0
    simp
  unfold padded
  pointwise
  simp only [z]

end Cert.ProjectedIdeal.Own

end
-- ==== Proof.Merge.Math.lean ====
/- The layer's last step, plainly: the mixers' results through their gates and projections, merged, and the final norm. -/
module

public import Idealize.ShloMosaic.Lib.Pointwise
public import proofs.«01_k».proof.Proof.Rows.Math

@[expose] public section

noncomputable section

namespace Cert.Math

open Idealize.ShloMosaic

/-! ## The sigmoid, through the exponential and through the hyperbolic tangent -/

/-- The literals, as they are written. -/
abbrev one : EReal := Ideal.ofBits FTy.f32 0x3F800000#32
abbrev half : EReal := Ideal.ofBits FTy.f32 0x3F000000#32

theorem one_bits : one = ((1 : ℝ) : EReal) := by
  simp [one, Ideal.ofBits, Ideal.ieee, -EReal.coe_mul]
  norm_num
theorem half_bits : half = ((1 / 2 : ℝ) : EReal) := by
  simp [half, Ideal.ofBits, Ideal.ieee, -EReal.coe_mul]
  norm_num

/-- The sigmoid as the reference writes it. -/
def sgm (x : EReal) : EReal := Ideal.div one (one + Ideal.exp (-x))

/-- Over the reals a half of the tangent of the half, and a half, is the sigmoid. -/
theorem half_tanh_real (r : ℝ) : 1 / 2 * Real.tanh (1 / 2 * r) + 1 / 2 = 1 / (1 + Real.exp (-r)) := by
  have h : Real.exp (-r) = Real.exp (-(1 / 2 * r)) * Real.exp (-(1 / 2 * r)) := by rw [← Real.exp_add]; ring_nf
  have h1 : Real.exp (1 / 2 * r) * Real.exp (-(1 / 2 * r)) = 1 := by rw [← Real.exp_add]; simp
  have ha := Real.exp_pos (1 / 2 * r)
  have hb := Real.exp_pos (-(1 / 2 * r))
  rw [Real.tanh_eq_sinh_div_cosh, Real.sinh_eq, Real.cosh_eq, h]
  generalize Real.exp (1 / 2 * r) = a at *
  generalize Real.exp (-(1 / 2 * r)) = b at *
  have hab : a + b ≠ 0 := by positivity
  have hbb : 1 + b * b ≠ 0 := by positivity
  field_simp
  nlinarith [h1]

/-- And at the infinities. -/
theorem half_tanh (x : EReal) : half * Ideal.tanh (half * x) + half = sgm x := by
  unfold sgm
  rw [one_bits, half_bits]
  induction x using EReal.rec with
  | bot =>
    rw [EReal.coe_mul_bot_of_pos (by norm_num), Ideal.tanh_bot, EReal.neg_bot, Ideal.exp_top, EReal.coe_add_top]
    have h : Ideal.div ((1 : ℝ) : EReal) ⊤ = 0 := by simp [Ideal.div]
    rw [h, show (-1 : EReal) = ((-1 : ℝ) : EReal) from rfl, ← EReal.coe_mul, ← EReal.coe_add]
    norm_num
  | top =>
    rw [EReal.coe_mul_top_of_pos (by norm_num), Ideal.tanh_top, EReal.neg_top, Ideal.exp_bot, add_zero, Ideal.div_coe one_ne_zero,
      show (1 : EReal) = ((1 : ℝ) : EReal) from rfl, ← EReal.coe_mul, ← EReal.coe_add, ← EReal.coe_mul]
    norm_num
  | coe r =>
    have h : (1 : ℝ) + Real.exp (-r) ≠ 0 := by have := Real.exp_pos (-r); positivity
    rw [← EReal.coe_mul, Ideal.tanh_coe, ← EReal.coe_neg, Ideal.exp_coe, ← EReal.coe_add, Ideal.div_coe h, ← EReal.coe_mul, ← EReal.coe_mul,
      ← EReal.coe_add, half_tanh_real, one_mul]

/-! ## The last step's arithmetic, on one row -/

/-- The GELU by the tangent. -/
def gel (y : EReal) : EReal :=
  y * (half * (one + Ideal.tanh (Ideal.ofBits FTy.f32 0x3F4C422A#32 * (y + Ideal.ofBits FTy.f32 0x3D372713#32 * (y * y * y)))))
/-- A value times its sigmoid. -/
def silu (x : EReal) : EReal := x * sgm x
/-- A row times a column of weights. -/
def dot (x : Fin 1024 → EReal) (w : Fin 1024 → Fin 1024 → EReal) (n : Fin 1024) : EReal := ∑ k, x k * w k n

/-- The S5 mixer's row with its skip, through the GELU; -/
def skipped (y d u : Fin 1024 → EReal) (n : Fin 1024) : EReal := gel (y n + d n * u n)
/-- through the GLU; -/
def glued (h : Fin 1024 → EReal) (w : Fin 1024 → Fin 1024 → EReal) (b : Fin 1024 → EReal) (n : Fin 1024) : EReal := h n * sgm (dot h w n + b n)
/-- a row through a gate path. -/
def gated (h g : Fin 1024 → EReal) (n : Fin 1024) : EReal := h n * silu (g n)
/-- The three branches, each through its sigmoid gate. -/
def mixed (g0 g1 g2 pa pb pc : Fin 1024 → EReal) (n : Fin 1024) : EReal := sgm (g0 n) * pa n + sgm (g1 n) * pb n + sgm (g2 n) * pc n

/-- The layer's input with the merged branches projected; -/
def summed (x mix : Fin 1024 → EReal) (w : Fin 1024 → Fin 1024 → EReal) (n : Fin 1024) : EReal := x n + dot mix w n
/-- and the whole row: the layer's input `x`, the mixers' rows `ya`, `ys`, `att`, the S5 mixer's input `u`, the gate paths `sg` and `mg`,
    the branches' gates `g0`, `g1`, `g2` with their biases, the S5 mixer's skip `d` and GLU bias `b`, the final norm's `f`, and the weights. -/
def lastRow (x ya ys u sg mg att g0 g1 g2 d b f : Fin 1024 → EReal) (wg wa wb wc wo : Fin 1024 → Fin 1024 → EReal) (n : Fin 1024) : EReal :=
  normed (summed x (mixed g0 g1 g2 (dot ya wa) (dot (gated (glued (skipped ys d u) wg b) sg) wb) (dot (gated att mg) wc)) wo) f n

end Cert.Math

end
-- ==== Proof.Merge.Block.lean ====
/- What one block of rows of the merge holds, from its operands' blocks. -/
module

public import proofs.«01_k».proof.Proof.Gen.MergeIdeal.Value
public import proofs.«01_k».proof.Proof.Merge.Math
public import Idealize.ShloMosaic.Lib.Pipeline.Value

@[expose] public section

set_option maxRecDepth 16384

noncomputable section

namespace Cert.MergeIdeal.Own

open Cert.MergeIdeal.Gen
open Idealize.ShloMosaic Idealize.ShloMosaic.TcCoe Cert.Math

/-! ## The parts of the body, entry by entry -/

section
variable (r : Fin 512) (n : Fin 1024)

/-- The S5 mixer's rows after the GLU. -/
theorem pay2_at (y : Vec Ideal S512x1024 .bf16) (d : Vec Ideal S1x1024 .f32) (u : Vec Ideal S512x1024 .bf16) (w : Vec Ideal S1x1024x1024 .bf16) (b : Vec Ideal S1x1024 .f32) :
    k0_pay2 y d u w b (ix2 r n)
      = glued (skipped (fun k => y (ix2 r k)) (fun k => d (ix2 0 k)) (fun k => u (ix2 r k))) (fun k j => w (ix3 0 k j)) (fun k => b (ix2 0 k)) n := by
  unfold k0_pay2 glued skipped gel dot
  rw [← half_tanh]
  pointwise
  simp only [mul_assoc]
/-- After the gate path. -/
theorem pay3_at (h : FVec Ideal S512x1024 .f32) (s : Vec Ideal S512x1024 .bf16) :
    k0_pay3 h s (ix2 r n) = gated (fun k => h (ix2 r k)) (fun k => s (ix2 r k)) n := by
  unfold k0_pay3 gated silu
  rw [← half_tanh]
  pointwise
/-- The attention's rows after theirs. -/
theorem pay4_at (g : Vec Ideal S512x1024 .bf16) (a : Vec Ideal S1024x512 .bf16) :
    k0_pay4 g a (ix2 r n) = gated (fun k => a (ix2 k r)) (fun k => g (ix2 r k)) n := by
  unfold k0_pay4 gated silu
  rw [← half_tanh]
  pointwise
/-- A branch's gate. -/
theorem pay5_at (g : Vec Ideal S512x1024 .bf16) (b : Vec Ideal S1x1024 .f32) : k0_pay5 g b (ix2 r n) = sgm (g (ix2 r n) + b (ix2 0 n)) := by
  unfold k0_pay5
  rw [← half_tanh]
  pointwise
theorem pay7_at (g : Vec Ideal S512x1024 .bf16) (b : Vec Ideal S1x1024 .f32) : k0_pay7 g b (ix2 r n) = sgm (g (ix2 r n) + b (ix2 0 n)) := by
  unfold k0_pay7
  rw [← half_tanh]
  pointwise
theorem pay8_at (h : FVec Ideal S512x1024 .f32) : k0_pay8 h (ix2 r n) = h (ix2 r n) := by
  unfold k0_pay8
  pointwise
/-- The first two branches. -/
theorem pay6_at (h ga : FVec Ideal S512x1024 .f32) (ya : Vec Ideal S512x1024 .bf16) (wa : Vec Ideal S1x1024x1024 .bf16) (g : Vec Ideal S512x1024 .bf16)
    (b : Vec Ideal S1x1024 .f32) (wb : Vec Ideal S1x1024x1024 .bf16) :
    k0_pay6 h ga ya wa g b wb (ix2 r n)
      = ga (ix2 r n) * dot (fun k => ya (ix2 r k)) (fun k j => wa (ix3 0 k j)) n
        + sgm (g (ix2 r n) + b (ix2 0 n)) * dot (fun k => h (ix2 r k)) (fun k j => wb (ix3 0 k j)) n := by
  unfold k0_pay6 dot
  rw [← half_tanh]
  pointwise
/-- The branches merged and projected, with the layer's input, through the final norm. -/
theorem pay1_at (mix gc : FVec Ideal S512x1024 .f32) (a : FVec Ideal S512x1024 .bf16) (wc : Vec Ideal S1x1024x1024 .bf16) (x : Vec Ideal S512x1024 .f32)
    (wo : Vec Ideal S1x1024x1024 .bf16) (f : Vec Ideal S1x1024 .f32) :
    k0_pay1 mix gc a wc x wo f (ix2 r n)
      = normed (summed (fun k => x (ix2 r k)) (fun j => mix (ix2 r j) + gc (ix2 r j) * dot (fun k => a (ix2 r k)) (fun k j => wc (ix3 0 k j)) j) (fun k j => wo (ix3 0 k j)))
          (fun k => f (ix2 0 k)) n := by
  unfold k0_pay1 normed summed dot
  pointwise
end

/-! ## The block -/

theorem zero2 : (![0, 0] : Fin 2 → ℕ) = fun _ => 0 := by funext a; fin_cases a <;> rfl
theorem zero3 : (![0, 0, 0] : Fin 3 → ℕ) = fun _ => 0 := by funext a; fin_cases a <;> rfl

/-- A whole block read is the block, -/
theorem ld_rows {e : EltTy} (v : Vec Ideal S512x1024 e) : View.ld v r0_0 = v := View.ld_unit_zero zero2 _ v
theorem ld_row (v : Vec Ideal S1x1024 .f32) : View.ld v r0_1 = v := View.ld_unit_zero zero2 _ v
theorem ld_weights (v : Vec Ideal S1x1024x1024 .bf16) : View.ld v r0_2 = v := View.ld_unit_zero zero3 _ v
theorem ld_att (v : Vec Ideal S1024x512 .bf16) : View.ld v r0_3 = v := View.ld_unit_zero zero2 _ v
/-- and of the gates' biases a third. -/
theorem ld_bias0 (v : Vec Ideal S1x3072 .f32) (n : Fin 1024) : View.ld v r0_4 (ix2 0 n) = v (ix2 0 ⟨n.val, by omega⟩) :=
  congrArg v (by funext a; fin_cases a <;> (apply Fin.ext; simp [Rect.unit, Rect.emb]))
theorem ld_bias1 (v : Vec Ideal S1x3072 .f32) (n : Fin 1024) : View.ld v r0_5 (ix2 0 n) = v (ix2 0 ⟨1024 + n.val, by omega⟩) :=
  congrArg v (by funext a; fin_cases a <;> (apply Fin.ext; simp [Rect.unit, Rect.emb]))
theorem ld_bias2 (v : Vec Ideal S1x3072 .f32) (n : Fin 1024) : View.ld v r0_6 (ix2 0 n) = v (ix2 0 ⟨2048 + n.val, by omega⟩) :=
  congrArg v (by funext a; fin_cases a <;> (apply Fin.ext; simp [Rect.unit, Rect.emb]))

/-- So the three gates. -/
theorem gate0 (g : Vec Ideal S512x1024 .bf16) (v : Vec Ideal S1x3072 .f32) (r : Fin 512) (n : Fin 1024) :
    k0_pay5 g (View.ld v r0_4) (ix2 r n) = sgm (g (ix2 r n) + v (ix2 0 ⟨n.val, by omega⟩)) :=
  (pay5_at r n g _).trans (congrArg (fun z => sgm (g (ix2 r n) + z)) (ld_bias0 v n))
theorem gate1 (h ga : FVec Ideal S512x1024 .f32) (ya : Vec Ideal S512x1024 .bf16) (wa : Vec Ideal S1x1024x1024 .bf16) (g : Vec Ideal S512x1024 .bf16)
    (v : Vec Ideal S1x3072 .f32) (wb : Vec Ideal S1x1024x1024 .bf16) (r : Fin 512) (n : Fin 1024) :
    k0_pay6 h ga ya wa g (View.ld v r0_5) wb (ix2 r n)
      = ga (ix2 r n) * dot (fun k => ya (ix2 r k)) (fun k j => wa (ix3 0 k j)) n
        + sgm (g (ix2 r n) + v (ix2 0 ⟨1024 + n.val, by omega⟩)) * dot (fun k => h (ix2 r k)) (fun k j => wb (ix3 0 k j)) n :=
  (pay6_at r n h ga ya wa g _ wb).trans (congrArg (fun z => ga (ix2 r n) * dot (fun k => ya (ix2 r k)) (fun k j => wa (ix3 0 k j)) n
    + sgm (g (ix2 r n) + z) * dot (fun k => h (ix2 r k)) (fun k j => wb (ix3 0 k j)) n) (ld_bias1 v n))
theorem gate2 (g : Vec Ideal S512x1024 .bf16) (v : Vec Ideal S1x3072 .f32) (r : Fin 512) (n : Fin 1024) :
    k0_pay7 g (View.ld v r0_6) (ix2 r n) = sgm (g (ix2 r n) + v (ix2 0 ⟨2048 + n.val, by omega⟩)) :=
  (pay7_at r n g _).trans (congrArg (fun z => sgm (g (ix2 r n) + z)) (ld_bias2 v n))

/-- What the body stores. -/
theorem out_at (x0 : Vec Ideal S512x1024 .f32) (x1 x2 x3 x4 : Vec Ideal S512x1024 .bf16) (x5 : Vec Ideal S1024x512 .bf16) (x6 x7 x8 x9 : Vec Ideal S512x1024 .bf16)
    (x10 : Vec Ideal S1x3072 .f32) (x11 x12 x13 : Vec Ideal S1x1024 .f32) (x14 x15 x16 x17 x18 : Vec Ideal S1x1024x1024 .bf16) (r : Fin 512) (n : Fin 1024) :
    out0_19 x0 x1 x2 x3 x4 x5 x6 x7 x8 x9 x10 x11 x12 x13 x14 x15 x16 x17 x18 (ix2 r n)
      = lastRow (fun k => x0 (ix2 r k)) (fun k => x1 (ix2 r k)) (fun k => x2 (ix2 r k)) (fun k => x3 (ix2 r k)) (fun k => x4 (ix2 r k)) (fun k => x6 (ix2 r k))
          (fun k => x5 (ix2 k r)) (fun k => x7 (ix2 r k) + x10 (ix2 0 ⟨k.val, by omega⟩)) (fun k => x8 (ix2 r k) + x10 (ix2 0 ⟨1024 + k.val, by omega⟩))
          (fun k => x9 (ix2 r k) + x10 (ix2 0 ⟨2048 + k.val, by omega⟩)) (fun k => x11 (ix2 0 k)) (fun k => x12 (ix2 0 k)) (fun k => x13 (ix2 0 k))
          (fun k j => x14 (ix3 0 k j)) (fun k j => x15 (ix3 0 k j)) (fun k j => x16 (ix3 0 k j)) (fun k j => x17 (ix3 0 k j)) (fun k j => x18 (ix3 0 k j)) n := by
  unfold out0_19
  refine (congrFun (View.canon_unit_zero zero2 _ _) _).trans ?_
  simp only [ld_rows, ld_row, ld_weights, ld_att]
  rw [pay1_at]
  simp only [gate0, gate1, gate2, pay3_at, pay2_at, pay8_at, pay4_at]
  rfl

end Cert.MergeIdeal.Own

end
-- ==== Proof.Merge.Values.lean ====
/- What the merge leaves in its result, entry by entry. -/
module

public import proofs.«01_k».proof.Proof.Merge.Block
public import Idealize.ShloMosaic.Lib.Pipeline.ValueKit.Geometry
public import Idealize.ShloMosaic.Lib.StableHlo.Run

@[expose] public section

set_option maxRecDepth 16384

noncomputable section

namespace Cert.MergeIdeal.Own

open Cert.MergeIdeal.Gen
open Idealize.ShloMosaic Idealize.ShloMosaic.TcCoe Cert.Math

/-! ## Which block of its array each window holds at a point -/

theorem win_0 : ∀ t : Fin cfg0.N, win0_0.index t = ![t.val, 0] := (by decide +kernel : ∀ t : Fin grid0.N, _)
theorem win_1 : ∀ t : Fin cfg0.N, win0_1.index t = ![t.val, 0] := (by decide +kernel : ∀ t : Fin grid0.N, _)
theorem win_2 : ∀ t : Fin cfg0.N, win0_2.index t = ![t.val, 0] := (by decide +kernel : ∀ t : Fin grid0.N, _)
theorem win_3 : ∀ t : Fin cfg0.N, win0_3.index t = ![t.val, 3] := (by decide +kernel : ∀ t : Fin grid0.N, _)
theorem win_4 : ∀ t : Fin cfg0.N, win0_4.index t = ![t.val, 4] := (by decide +kernel : ∀ t : Fin grid0.N, _)
theorem win_5 : ∀ t : Fin cfg0.N, win0_5.index t = ![0, t.val] := (by decide +kernel : ∀ t : Fin grid0.N, _)
theorem win_6 : ∀ t : Fin cfg0.N, win0_6.index t = ![t.val, 7] := (by decide +kernel : ∀ t : Fin grid0.N, _)
theorem win_7 : ∀ t : Fin cfg0.N, win0_7.index t = ![t.val, 8] := (by decide +kernel : ∀ t : Fin grid0.N, _)
theorem win_8 : ∀ t : Fin cfg0.N, win0_8.index t = ![t.val, 9] := (by decide +kernel : ∀ t : Fin grid0.N, _)
theorem win_9 : ∀ t : Fin cfg0.N, win0_9.index t = ![t.val, 10] := (by decide +kernel : ∀ t : Fin grid0.N, _)
theorem win_10 : ∀ t : Fin cfg0.N, win0_10.index t = ![0, 0] := (by decide +kernel : ∀ t : Fin grid0.N, _)
theorem win_11 : ∀ t : Fin cfg0.N, win0_11.index t = ![0, 0] := (by decide +kernel : ∀ t : Fin grid0.N, _)
theorem win_12 : ∀ t : Fin cfg0.N, win0_12.index t = ![0, 0] := (by decide +kernel : ∀ t : Fin grid0.N, _)
theorem win_13 : ∀ t : Fin cfg0.N, win0_13.index t = ![0, 0] := (by decide +kernel : ∀ t : Fin grid0.N, _)
theorem win_14 : ∀ t : Fin cfg0.N, win0_14.index t = ![1, 0, 0] := (by decide +kernel : ∀ t : Fin grid0.N, _)
theorem win_15 : ∀ t : Fin cfg0.N, win0_15.index t = ![1, 0, 0] := (by decide +kernel : ∀ t : Fin grid0.N, _)
theorem win_16 : ∀ t : Fin cfg0.N, win0_16.index t = ![1, 0, 0] := (by decide +kernel : ∀ t : Fin grid0.N, _)
theorem win_17 : ∀ t : Fin cfg0.N, win0_17.index t = ![1, 0, 0] := (by decide +kernel : ∀ t : Fin grid0.N, _)
theorem win_18 : ∀ t : Fin cfg0.N, win0_18.index t = ![1, 0, 0] := (by decide +kernel : ∀ t : Fin grid0.N, _)
theorem win_19 : ∀ t : Fin cfg0.N, win0_19.index t = ![t.val, 0] := (by decide +kernel : ∀ t : Fin grid0.N, _)

/-! ## The operands' blocks, from the launched arrays -/

variable (m : (ℓ : Loc nD τ sig) → Buf (Elt Ideal) ℓ) (c : Dev nD)

/-- The launched arrays. -/
abbrev X : FVec Ideal S16384x1024 .f32 := m ((c : Thread nD τ).loc main_arg0)
abbrev Ya : FVec Ideal S16384x1024 .bf16 := m ((c : Thread nD τ).loc main_arg1)
abbrev Ys : FVec Ideal S16384x1024 .bf16 := m ((c : Thread nD τ).loc main_arg2)
abbrev P : FVec Ideal S16384x11264 .bf16 := m ((c : Thread nD τ).loc main_arg3)
abbrev At : FVec Ideal S1024x16384 .bf16 := m ((c : Thread nD τ).loc main_arg4)
abbrev Gb : FVec Ideal S2x3072 .f32 := m ((c : Thread nD τ).loc main_arg5)
abbrev D : FVec Ideal S2x1024 .f32 := m ((c : Thread nD τ).loc main_arg6)
abbrev Lb : FVec Ideal S2x1024 .f32 := m ((c : Thread nD τ).loc main_arg7)
abbrev Fn : FVec Ideal S1024 .f32 := m ((c : Thread nD τ).loc main_arg8)
abbrev Wg : FVec Ideal S2x1024x1024 .f32 := m ((c : Thread nD τ).loc main_arg9)
abbrev Wa : FVec Ideal S2x1024x1024 .f32 := m ((c : Thread nD τ).loc main_arg10)
abbrev Wb : FVec Ideal S2x1024x1024 .f32 := m ((c : Thread nD τ).loc main_arg11)
abbrev Wc : FVec Ideal S2x1024x1024 .f32 := m ((c : Thread nD τ).loc main_arg12)
abbrev Wo : FVec Ideal S2x1024x1024 .f32 := m ((c : Thread nD τ).loc main_arg13)

/-- The host's rows: the gates' biases, -/
def biasRow (b : FVec Ideal S2x3072 .f32) : FVec Ideal S1x3072 .f32 :=
  shapeCast S1x3072 (shapeCast S3072 (extractStridedSlice S1x3072 ![1, 0] b slices_S2x3072_S1x3072_1_0) shapeCasts_S1x3072_S3072) shapeCasts_S3072_S1x3072
/-- a layer's row of 1024, -/
def layerRow (b : FVec Ideal S2x1024 .f32) : FVec Ideal S1x1024 .f32 :=
  shapeCast S1x1024 (shapeCast S1024 (extractStridedSlice S1x1024 ![1, 0] b slices_S2x1024_S1x1024_1_0) shapeCasts_S1x1024_S1024) shapeCasts_S1024_S1x1024
/-- the final norm's, -/
def finalRow (f : FVec Ideal S1024 .f32) : FVec Ideal S1x1024 .f32 := shapeCast S1x1024 f shapeCasts_S1024_S1x1024
/-- and its weights. -/
def hostWeights (w : FVec Ideal S2x1024x1024 .f32) : FVec Ideal S2x1024x1024 .bf16 := truncf .bf16 w bitsLt_bf16_f32

theorem biasRow_at (b : FVec Ideal S2x3072 .f32) (k : Fin 3072) : biasRow b (ix2 0 k) = b (ix2 1 k) := by
  unfold biasRow
  pointwise
theorem layerRow_at (b : FVec Ideal S2x1024 .f32) (k : Fin 1024) : layerRow b (ix2 0 k) = b (ix2 1 k) := by
  unfold layerRow
  pointwise
theorem finalRow_at (f : FVec Ideal S1024 .f32) (k : Fin 1024) : finalRow f (ix2 0 k) = f (ix1 k) := by
  unfold finalRow
  pointwise
theorem hostWeights_at (w : FVec Ideal S2x1024x1024 .f32) (l : Fin 2) (k j : Fin 1024) : hostWeights w (ix3 l k j) = w (ix3 l k j) := by
  unfold hostWeights
  pointwise

/-- They are what the call finds. -/
theorem V_v7 : V m c main_v7 = biasRow (Gb m c) := by
  show StableHlo.after hostOps0 (fun b => m (c, b)) main_v7 = _
  simp only [hostOps0]
  after_results_simp
  rfl
theorem V_v10 : V m c main_v10 = layerRow (D m c) := by
  show StableHlo.after hostOps0 (fun b => m (c, b)) main_v10 = _
  simp only [hostOps0]
  after_results_simp
  rfl
theorem V_v13 : V m c main_v13 = layerRow (Lb m c) := by
  show StableHlo.after hostOps0 (fun b => m (c, b)) main_v13 = _
  simp only [hostOps0]
  after_results_simp
  rfl
theorem V_v14 : V m c main_v14 = finalRow (Fn m c) := by
  show StableHlo.after hostOps0 (fun b => m (c, b)) main_v14 = _
  simp only [hostOps0]
  after_results_simp
  rfl
theorem V_v0 : V m c main_v0 = hostWeights (Wg m c) := by
  show StableHlo.after hostOps0 (fun b => m (c, b)) main_v0 = _
  simp only [hostOps0]
  after_results_simp
  rfl
theorem V_v1 : V m c main_v1 = hostWeights (Wa m c) := by
  show StableHlo.after hostOps0 (fun b => m (c, b)) main_v1 = _
  simp only [hostOps0]
  after_results_simp
  rfl
theorem V_v2 : V m c main_v2 = hostWeights (Wb m c) := by
  show StableHlo.after hostOps0 (fun b => m (c, b)) main_v2 = _
  simp only [hostOps0]
  after_results_simp
  rfl
theorem V_v3 : V m c main_v3 = hostWeights (Wc m c) := by
  show StableHlo.after hostOps0 (fun b => m (c, b)) main_v3 = _
  simp only [hostOps0]
  after_results_simp
  rfl
theorem V_v4 : V m c main_v4 = hostWeights (Wo m c) := by
  show StableHlo.after hostOps0 (fun b => m (c, b)) main_v4 = _
  simp only [hostOps0]
  after_results_simp
  rfl

variable (t : Fin cfg0.N)

/-- A point's rows of the layer's input, of the mixers' results -/
theorem block_0 (r : Fin 512) (k : Fin 1024) (h : 512 * t.val + r.val < 16384) : iblk m c 0 t (ix2 r k) = X m c (ix2 ⟨512 * t.val + r.val, h⟩ k) := by
  blk_simp [iblk]
  refine (congrFun (V_main_arg0 m c) _).trans (congrArg (m _) ?_)
  blk_ext [win_0]
theorem block_1 (r : Fin 512) (k : Fin 1024) (h : 512 * t.val + r.val < 16384) : iblk m c 1 t (ix2 r k) = Ya m c (ix2 ⟨512 * t.val + r.val, h⟩ k) := by
  blk_simp [iblk]
  refine (congrFun (V_main_arg1 m c) _).trans (congrArg (m _) ?_)
  blk_ext [win_1]
theorem block_2 (r : Fin 512) (k : Fin 1024) (h : 512 * t.val + r.val < 16384) : iblk m c 2 t (ix2 r k) = Ys m c (ix2 ⟨512 * t.val + r.val, h⟩ k) := by
  blk_simp [iblk]
  refine (congrFun (V_main_arg2 m c) _).trans (congrArg (m _) ?_)
  blk_ext [win_2]
/-- and of the projected columns; -/
theorem block_3 (r : Fin 512) (k : Fin 1024) (h : 512 * t.val + r.val < 16384) : iblk m c 3 t (ix2 r k) = P m c (ix2 ⟨512 * t.val + r.val, h⟩ ⟨3072 + k.val, by omega⟩) := by
  blk_simp [iblk]
  refine (congrFun (V_main_arg3 m c) _).trans (congrArg (m _) ?_)
  blk_ext [win_3]
theorem block_4 (r : Fin 512) (k : Fin 1024) (h : 512 * t.val + r.val < 16384) : iblk m c 4 t (ix2 r k) = P m c (ix2 ⟨512 * t.val + r.val, h⟩ ⟨4096 + k.val, by omega⟩) := by
  blk_simp [iblk]
  refine (congrFun (V_main_arg3 m c) _).trans (congrArg (m _) ?_)
  blk_ext [win_4]
theorem block_6 (r : Fin 512) (k : Fin 1024) (h : 512 * t.val + r.val < 16384) : iblk m c 6 t (ix2 r k) = P m c (ix2 ⟨512 * t.val + r.val, h⟩ ⟨7168 + k.val, by omega⟩) := by
  blk_simp [iblk]
  refine (congrFun (V_main_arg3 m c) _).trans (congrArg (m _) ?_)
  blk_ext [win_6]
theorem block_7 (r : Fin 512) (k : Fin 1024) (h : 512 * t.val + r.val < 16384) : iblk m c 7 t (ix2 r k) = P m c (ix2 ⟨512 * t.val + r.val, h⟩ ⟨8192 + k.val, by omega⟩) := by
  blk_simp [iblk]
  refine (congrFun (V_main_arg3 m c) _).trans (congrArg (m _) ?_)
  blk_ext [win_7]
theorem block_8 (r : Fin 512) (k : Fin 1024) (h : 512 * t.val + r.val < 16384) : iblk m c 8 t (ix2 r k) = P m c (ix2 ⟨512 * t.val + r.val, h⟩ ⟨9216 + k.val, by omega⟩) := by
  blk_simp [iblk]
  refine (congrFun (V_main_arg3 m c) _).trans (congrArg (m _) ?_)
  blk_ext [win_8]
theorem block_9 (r : Fin 512) (k : Fin 1024) (h : 512 * t.val + r.val < 16384) : iblk m c 9 t (ix2 r k) = P m c (ix2 ⟨512 * t.val + r.val, h⟩ ⟨10240 + k.val, by omega⟩) := by
  blk_simp [iblk]
  refine (congrFun (V_main_arg3 m c) _).trans (congrArg (m _) ?_)
  blk_ext [win_9]
/-- the attention's columns; -/
theorem block_5 (k : Fin 1024) (r : Fin 512) (h : 512 * t.val + r.val < 16384) : iblk m c 5 t (ix2 k r) = At m c (ix2 k ⟨512 * t.val + r.val, h⟩) := by
  blk_simp [iblk]
  refine (congrFun (V_main_arg4 m c) _).trans (congrArg (m _) ?_)
  blk_ext [win_5]
/-- the host's rows; -/
theorem block_10 (k : Fin 3072) : iblk m c 10 t (ix2 0 k) = Gb m c (ix2 1 k) := by
  refine Eq.trans ?_ (biasRow_at (Gb m c) k)
  rw [← V_v7]
  blk_simp [iblk]
  refine congrArg (V m c _) ?_
  blk_ext [win_10]
theorem block_11 (k : Fin 1024) : iblk m c 11 t (ix2 0 k) = D m c (ix2 1 k) := by
  refine Eq.trans ?_ (layerRow_at (D m c) k)
  rw [← V_v10]
  blk_simp [iblk]
  refine congrArg (V m c _) ?_
  blk_ext [win_11]
theorem block_12 (k : Fin 1024) : iblk m c 12 t (ix2 0 k) = Lb m c (ix2 1 k) := by
  refine Eq.trans ?_ (layerRow_at (Lb m c) k)
  rw [← V_v13]
  blk_simp [iblk]
  refine congrArg (V m c _) ?_
  blk_ext [win_12]
theorem block_13 (k : Fin 1024) : iblk m c 13 t (ix2 0 k) = Fn m c (ix1 k) := by
  refine Eq.trans ?_ (finalRow_at (Fn m c) k)
  rw [← V_v14]
  blk_simp [iblk]
  refine congrArg (V m c _) ?_
  blk_ext [win_13]
/-- the weights. -/
theorem block_14 (k j : Fin 1024) : iblk m c 14 t (ix3 0 k j) = Wg m c (ix3 1 k j) := by
  refine Eq.trans ?_ (hostWeights_at (Wg m c) 1 k j)
  rw [← V_v0]
  blk_simp [iblk]
  refine congrArg (V m c _) ?_
  blk_ext [win_14]
theorem block_15 (k j : Fin 1024) : iblk m c 15 t (ix3 0 k j) = Wa m c (ix3 1 k j) := by
  refine Eq.trans ?_ (hostWeights_at (Wa m c) 1 k j)
  rw [← V_v1]
  blk_simp [iblk]
  refine congrArg (V m c _) ?_
  blk_ext [win_15]
theorem block_16 (k j : Fin 1024) : iblk m c 16 t (ix3 0 k j) = Wb m c (ix3 1 k j) := by
  refine Eq.trans ?_ (hostWeights_at (Wb m c) 1 k j)
  rw [← V_v2]
  blk_simp [iblk]
  refine congrArg (V m c _) ?_
  blk_ext [win_16]
theorem block_17 (k j : Fin 1024) : iblk m c 17 t (ix3 0 k j) = Wc m c (ix3 1 k j) := by
  refine Eq.trans ?_ (hostWeights_at (Wc m c) 1 k j)
  rw [← V_v3]
  blk_simp [iblk]
  refine congrArg (V m c _) ?_
  blk_ext [win_17]
theorem block_18 (k j : Fin 1024) : iblk m c 18 t (ix3 0 k j) = Wo m c (ix3 1 k j) := by
  refine Eq.trans ?_ (hostWeights_at (Wo m c) 1 k j)
  rw [← V_v4]
  blk_simp [iblk]
  refine congrArg (V m c _) ?_
  blk_ext [win_18]

/-! ## The result, whole -/

/-- An entry of the last layer's output, from the launched arrays. -/
def entry (r : Fin 16384) (n : Fin 1024) : EReal :=
  lastRow (fun k => X m c (ix2 r k)) (fun k => Ya m c (ix2 r k)) (fun k => Ys m c (ix2 r k)) (fun k => P m c (ix2 r ⟨3072 + k.val, by omega⟩))
    (fun k => P m c (ix2 r ⟨4096 + k.val, by omega⟩)) (fun k => P m c (ix2 r ⟨7168 + k.val, by omega⟩)) (fun k => At m c (ix2 k r))
    (fun k => P m c (ix2 r ⟨8192 + k.val, by omega⟩) + Gb m c (ix2 1 ⟨k.val, by omega⟩))
    (fun k => P m c (ix2 r ⟨9216 + k.val, by omega⟩) + Gb m c (ix2 1 ⟨1024 + k.val, by omega⟩))
    (fun k => P m c (ix2 r ⟨10240 + k.val, by omega⟩) + Gb m c (ix2 1 ⟨2048 + k.val, by omega⟩))
    (fun k => D m c (ix2 1 k)) (fun k => Lb m c (ix2 1 k)) (fun k => Fn m c (ix1 k)) (fun k j => Wg m c (ix3 1 k j)) (fun k j => Wa m c (ix3 1 k j))
    (fun k j => Wb m c (ix3 1 k j)) (fun k j => Wc m c (ix3 1 k j)) (fun k j => Wo m c (ix3 1 k j)) n
/-- The output. -/
def out : FVec Ideal S16384x1024 .f32 := fun y => entry m c (y 0) (y 1)
theorem arr : (dats m 0 c).arrAt 19 cfg0.N = out m c := by
  refine (dats m 0 c).arrAt_eq_of_covers 19 _ (by decide +kernel) fun t hf y => ?_
  blk_simp [win_19]
  rw [after0_19]
  obtain ⟨r, k, rfl⟩ : ∃ (r : Fin 512) (k : Fin 1024), y = ix2 r k := ⟨y 0, y 1, eq_ix2 y⟩
  have ht : t.val < 32 := t.isLt
  have h : 512 * t.val + r.val < 16384 := by omega
  have he : (win0_19.blk t).view.emb (ix2 r k) = ix2 ⟨512 * t.val + r.val, h⟩ k := by
    blk_ext [win_19]
  refine Eq.trans ?_ (congrArg (out m c) he).symm
  refine (out_at _ _ _ _ _ _ _ _ _ _ _ _ _ _ _ _ _ _ _ r k).trans ?_
  simp only [block_0 m c t r _ h, block_1 m c t r _ h, block_2 m c t r _ h, block_3 m c t r _ h, block_4 m c t r _ h, block_5 m c t _ r h, block_6 m c t r _ h, block_7 m c t r _ h, block_8 m c t r _ h, block_9 m c t r _ h,
    block_10, block_11, block_12, block_13, block_14, block_15, block_16, block_17, block_18]
  rfl

end Cert.MergeIdeal.Own

end
-- ==== Proof.Merge.Reference.lean ====
/- The reference's last step, read entry by entry. -/
module

public import proofs.«01_k».proof.Proof.Gen.MergedIdeal.Run
public import proofs.«01_k».proof.Proof.Merge.Math
public import Idealize.ShloMosaic.Lib.Pointwise

@[expose] public section

set_option maxRecDepth 16384

noncomputable section

namespace Cert.MergedIdeal.Own

open Cert.MergedIdeal Cert.MergedIdeal.Gen Cert.MergedIdeal.Value
open Idealize.ShloMosaic Idealize.ShloMosaic.TcCoe Cert.Math

/-! ## The reference's lines -/

/-- Rows with a layer's weights. -/
def times (h : FVec Ideal S16384x1024 .f32) (w : FVec Ideal S2x1024x1024 .f32) : FVec Ideal S16384x1024 .f32 :=
  Host.dotGeneral dot_S16384x1024_S1024x1024_S16384x1024_1_0_0_1_n_n none h (shapeCast S1024x1024 (extractStridedSlice S1x1024x1024 ![1, 0, 0] w slices_S2x1024x1024_S1x1024x1024_1_0_0) shapeCasts_S1x1024x1024_S1024x1024)
/-- The S5 mixer's input, its gate path's and the attention's, of the projected columns. -/
def colU (p : FVec Ideal S16384x11264 .bf16) : FVec Ideal S16384x1024 .f32 := extf .f32 (extractStridedSlice S16384x1024 ![0, 3072] p slices_S16384x11264_S16384x1024_0_3072) bitsLt_bf16_f32
def colS (p : FVec Ideal S16384x11264 .bf16) : FVec Ideal S16384x1024 .f32 := extf .f32 (extractStridedSlice S16384x1024 ![0, 4096] p slices_S16384x11264_S16384x1024_0_4096) bitsLt_bf16_f32
def colM (p : FVec Ideal S16384x11264 .bf16) : FVec Ideal S16384x1024 .f32 := extf .f32 (extractStridedSlice S16384x1024 ![0, 7168] p slices_S16384x11264_S16384x1024_0_7168) bitsLt_bf16_f32
/-- The S5 mixer's skip, -/
def skip (y : FVec Ideal S16384x1024 .bf16) (d : FVec Ideal S2x1024 .f32) (u : FVec Ideal S16384x1024 .f32) : FVec Ideal S16384x1024 .f32 := addf (extf .f32 y bitsLt_bf16_f32) (mulf (broadcastInDim S16384x1024 ![0, 1] bcast_S1x1024_S16384x1024_0_1 (broadcastInDim S1x1024 ![1] bcast_S1024_S1x1024_1 (shapeCast S1024 (extractStridedSlice S1x1024 ![1, 0] d slices_S2x1024_S1x1024_1_0) shapeCasts_S1x1024_S1024))) u)
/-- the GELU, -/
def gelu (y : FVec Ideal S16384x1024 .f32) : FVec Ideal S16384x1024 .f32 :=
  mulf y (mulf (broadcastInDim S16384x1024 ![] bcast_S_S16384x1024 (constant (F := Ideal) S_ .f32 0x3F000000#32)) (addf (broadcastInDim S16384x1024 ![] bcast_S_S16384x1024 (constant (F := Ideal) S_ .f32 0x3F800000#32)) (Host.tanh (mulf (broadcastInDim S16384x1024 ![] bcast_S_S16384x1024 (constant (F := Ideal) S_ .f32 0x3F4C422A#32)) (addf y (mulf (broadcastInDim S16384x1024 ![] bcast_S_S16384x1024 (constant (F := Ideal) S_ .f32 0x3D372713#32)) (mulf (mulf y y) y)))))))
/-- the GLU, -/
def glu (y : FVec Ideal S16384x1024 .f32) (w : FVec Ideal S2x1024x1024 .f32) (g : FVec Ideal S2x1024 .f32) : FVec Ideal S16384x1024 .f32 := mulf y (Host.divf (broadcastInDim S16384x1024 ![] bcast_S_S16384x1024 (constant (F := Ideal) S_ .f32 0x3F800000#32)) (addf (broadcastInDim S16384x1024 ![] bcast_S_S16384x1024 (constant (F := Ideal) S_ .f32 0x3F800000#32)) (Host.exp (Host.negf (addf (times y w) (broadcastInDim S16384x1024 ![0, 1] bcast_S1x1024_S16384x1024_0_1 (broadcastInDim S1x1024 ![1] bcast_S1024_S1x1024_1 (shapeCast S1024 (extractStridedSlice S1x1024 ![1, 0] g slices_S2x1024_S1x1024_1_0) shapeCasts_S1x1024_S1024))))))))
/-- a gate path. -/
def path (h s : FVec Ideal S16384x1024 .f32) : FVec Ideal S16384x1024 .f32 := mulf h (mulf s (Host.divf (broadcastInDim S16384x1024 ![] bcast_S_S16384x1024 (constant (F := Ideal) S_ .f32 0x3F800000#32)) (addf (broadcastInDim S16384x1024 ![] bcast_S_S16384x1024 (constant (F := Ideal) S_ .f32 0x3F800000#32)) (Host.exp (Host.negf s)))))
/-- The attention's rows. -/
def attRows (a : FVec Ideal S1024x16384 .bf16) : FVec Ideal S16384x1024 .f32 := extf .f32 (transpose S16384x1024 [1, 0] a transposes_S1024x16384_S16384x1024_1_0) bitsLt_bf16_f32
/-- The three branches' gates, -/
def gates (p : FVec Ideal S16384x11264 .bf16) (g : FVec Ideal S2x3072 .f32) : FVec Ideal S16384x3x1024 .f32 :=
  shapeCast S16384x3x1024 (Host.divf (broadcastInDim S16384x3072 ![] bcast_S_S16384x3072 (constant (F := Ideal) S_ .f32 0x3F800000#32)) (addf (broadcastInDim S16384x3072 ![] bcast_S_S16384x3072 (constant (F := Ideal) S_ .f32 0x3F800000#32)) (Host.exp (Host.negf (addf (extf .f32 (extractStridedSlice S16384x3072 ![0, 8192] p slices_S16384x11264_S16384x3072_0_8192) bitsLt_bf16_f32) (broadcastInDim S16384x3072 ![0, 1] bcast_S1x3072_S16384x3072_0_1 (broadcastInDim S1x3072 ![1] bcast_S3072_S1x3072_1 (shapeCast S3072 (extractStridedSlice S1x3072 ![1, 0] g slices_S2x3072_S1x3072_1_0) shapeCasts_S1x3072_S3072)))))))) shapeCasts_S16384x3072_S16384x3x1024
/-- the merge, -/
def merge (g : FVec Ideal S16384x3x1024 .f32) (a b c : FVec Ideal S16384x1024 .f32) : FVec Ideal S16384x1024 .f32 :=
  addf (addf (mulf (shapeCast S16384x1024 (extractStridedSlice S16384x1x1024 ![0, 0, 0] g slices_S16384x3x1024_S16384x1x1024_0_0_0) shapeCasts_S16384x1x1024_S16384x1024) a)
    (mulf (shapeCast S16384x1024 (extractStridedSlice S16384x1x1024 ![0, 1, 0] g slices_S16384x3x1024_S16384x1x1024_0_1_0) shapeCasts_S16384x1x1024_S16384x1024) b))
    (mulf (shapeCast S16384x1024 (extractStridedSlice S16384x1x1024 ![0, 2, 0] g slices_S16384x3x1024_S16384x1x1024_0_2_0) shapeCasts_S16384x1x1024_S16384x1024) c)
/-- the final norm. -/
def normAll (x : FVec Ideal S16384x1024 .f32) (f : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32))))))
    (broadcastInDim S16384x1024 ![0, 1] bcast_S1x1024_S16384x1024_0_1 (broadcastInDim S1x1024 ![1] bcast_S1024_S1x1024_1 f))

/-! ## Each, entry by entry -/

section
variable (r : Fin 16384) (n : Fin 1024)

theorem times_at (h : FVec Ideal S16384x1024 .f32) (w : FVec Ideal S2x1024x1024 .f32) : times h w (ix2 r n) = dot (fun k => h (ix2 r k)) (fun k j => w (ix3 1 k j)) n := by
  unfold times dot
  pointwise
theorem colU_at (p : FVec Ideal S16384x11264 .bf16) : colU p (ix2 r n) = p (ix2 r ⟨3072 + n.val, by omega⟩) := by
  unfold colU
  pointwise
theorem colS_at (p : FVec Ideal S16384x11264 .bf16) : colS p (ix2 r n) = p (ix2 r ⟨4096 + n.val, by omega⟩) := by
  unfold colS
  pointwise
theorem colM_at (p : FVec Ideal S16384x11264 .bf16) : colM p (ix2 r n) = p (ix2 r ⟨7168 + n.val, by omega⟩) := by
  unfold colM
  pointwise
theorem skip_at (y : FVec Ideal S16384x1024 .bf16) (d : FVec Ideal S2x1024 .f32) (u : FVec Ideal S16384x1024 .f32) : skip y d u (ix2 r n) = y (ix2 r n) + d (ix2 1 n) * u (ix2 r n) := by
  unfold skip
  pointwise
theorem gelu_at (y : FVec Ideal S16384x1024 .f32) : gelu y (ix2 r n) = gel (y (ix2 r n)) := by
  unfold gelu gel
  pointwise
theorem glu_at (y : FVec Ideal S16384x1024 .f32) (w : FVec Ideal S2x1024x1024 .f32) (g : FVec Ideal S2x1024 .f32) :
    glu y w g (ix2 r n) = glued (fun k => y (ix2 r k)) (fun k j => w (ix3 1 k j)) (fun k => g (ix2 1 k)) n := by
  unfold glu glued sgm
  rw [← times_at]
  generalize times y w = h
  pointwise
theorem path_at (h s : FVec Ideal S16384x1024 .f32) : path h s (ix2 r n) = gated (fun k => h (ix2 r k)) (fun k => s (ix2 r k)) n := by
  unfold path gated silu sgm
  pointwise
theorem attRows_at (a : FVec Ideal S1024x16384 .bf16) : attRows a (ix2 r n) = a (ix2 n r) := by
  unfold attRows
  pointwise
theorem gates_at (p : FVec Ideal S16384x11264 .bf16) (g : FVec Ideal S2x3072 .f32) (e : Fin 3) (a : Fin 11264) (q : Fin 3072) (ha : a.val = 8192 + (e.val * 1024 + n.val))
    (hq : q.val = e.val * 1024 + n.val) : gates p g (ix3 r e n) = sgm (p (ix2 r a) + g (ix2 1 q)) := by
  have h : e.val * 1024 + n.val < 3072 := by have := e.isLt; have := n.isLt; omega
  have ea : a = ⟨8192 + (e.val * 1024 + n.val), (Nat.add_lt_add_left h 8192)⟩ := Fin.ext ha
  have eq : q = ⟨e.val * 1024 + n.val, h⟩ := Fin.ext hq
  rw [ea, eq]
  unfold gates sgm
  pointwise
theorem gates0_at (p : FVec Ideal S16384x11264 .bf16) (g : FVec Ideal S2x3072 .f32) :
    gates p g (ix3 r 0 n) = sgm (p (ix2 r ⟨8192 + n.val, by omega⟩) + g (ix2 1 ⟨n.val, by omega⟩)) :=
  gates_at r n p g 0 _ _ (by show 8192 + n.val = 8192 + (0 * 1024 + n.val); omega) (by show n.val = 0 * 1024 + n.val; omega)
theorem gates1_at (p : FVec Ideal S16384x11264 .bf16) (g : FVec Ideal S2x3072 .f32) :
    gates p g (ix3 r 1 n) = sgm (p (ix2 r ⟨9216 + n.val, by omega⟩) + g (ix2 1 ⟨1024 + n.val, by omega⟩)) :=
  gates_at r n p g 1 _ _ (by show 9216 + n.val = 8192 + (1 * 1024 + n.val); omega) (by show 1024 + n.val = 1 * 1024 + n.val; omega)
theorem gates2_at (p : FVec Ideal S16384x11264 .bf16) (g : FVec Ideal S2x3072 .f32) :
    gates p g (ix3 r 2 n) = sgm (p (ix2 r ⟨10240 + n.val, by omega⟩) + g (ix2 1 ⟨2048 + n.val, by omega⟩)) :=
  gates_at r n p g 2 _ _ (by show 10240 + n.val = 8192 + (2 * 1024 + n.val); omega) (by show 2048 + n.val = 2 * 1024 + n.val; omega)
theorem merge_at (g : FVec Ideal S16384x3x1024 .f32) (a b c : FVec Ideal S16384x1024 .f32) :
    merge g a b c (ix2 r n) = g (ix3 r 0 n) * a (ix2 r n) + g (ix3 r 1 n) * b (ix2 r n) + g (ix3 r 2 n) * c (ix2 r n) := by
  unfold merge
  pointwise
theorem normAll_at (x : FVec Ideal S16384x1024 .f32) (f : FVec Ideal S1024 .f32) : normAll x f (ix2 r n) = normed (fun k => x (ix2 r k)) (fun k => f (ix1 k)) n := by
  unfold normAll normed
  pointwise
end

/-! ## The result -/

variable (m : (ℓ : Loc nD τ sig) → Buf (Elt Ideal) ℓ) (c : Dev nD)

/-- The launched arrays. -/
abbrev X : FVec Ideal S16384x1024 .f32 := m ((c : Thread nD τ).loc main_arg0)
abbrev Ya : FVec Ideal S16384x1024 .bf16 := m ((c : Thread nD τ).loc main_arg1)
abbrev Ys : FVec Ideal S16384x1024 .bf16 := m ((c : Thread nD τ).loc main_arg2)
abbrev P : FVec Ideal S16384x11264 .bf16 := m ((c : Thread nD τ).loc main_arg3)
abbrev At : FVec Ideal S1024x16384 .bf16 := m ((c : Thread nD τ).loc main_arg4)
abbrev Gb : FVec Ideal S2x3072 .f32 := m ((c : Thread nD τ).loc main_arg5)
abbrev D : FVec Ideal S2x1024 .f32 := m ((c : Thread nD τ).loc main_arg6)
abbrev Lb : FVec Ideal S2x1024 .f32 := m ((c : Thread nD τ).loc main_arg7)
abbrev Fn : FVec Ideal S1024 .f32 := m ((c : Thread nD τ).loc main_arg8)
abbrev Wg : FVec Ideal S2x1024x1024 .f32 := m ((c : Thread nD τ).loc main_arg9)
abbrev Wa : FVec Ideal S2x1024x1024 .f32 := m ((c : Thread nD τ).loc main_arg10)
abbrev Wb : FVec Ideal S2x1024x1024 .f32 := m ((c : Thread nD τ).loc main_arg11)
abbrev Wc : FVec Ideal S2x1024x1024 .f32 := m ((c : Thread nD τ).loc main_arg12)
abbrev Wo : FVec Ideal S2x1024x1024 .f32 := m ((c : Thread nD τ).loc main_arg13)

/-- The branches merged, -/
def branches : FVec Ideal S16384x1024 .f32 :=
  merge (gates (P m c) (Gb m c)) (times (extf .f32 (Ya m c) bitsLt_bf16_f32) (Wa m c))
    (times (path (glu (gelu (skip (Ys m c) (D m c) (colU (P m c)))) (Wg m c) (Lb m c)) (colS (P m c))) (Wb m c))
    (times (path (attRows (At m c)) (colM (P m c))) (Wc m c))
/-- and the last layer's output. -/
def last : FVec Ideal S16384x1024 .f32 := normAll (addf (X m c) (times (branches m c) (Wo m c))) (Fn m c)

theorem res_eq : res_main_v98 m c = last m c := by
  unfold res_main_v98
  rfl

/-- An entry of the last layer's output, from the launched arrays. -/
def entry (r : Fin 16384) (n : Fin 1024) : EReal :=
  lastRow (fun k => X m c (ix2 r k)) (fun k => Ya m c (ix2 r k)) (fun k => Ys m c (ix2 r k)) (fun k => P m c (ix2 r ⟨3072 + k.val, by omega⟩))
    (fun k => P m c (ix2 r ⟨4096 + k.val, by omega⟩)) (fun k => P m c (ix2 r ⟨7168 + k.val, by omega⟩)) (fun k => At m c (ix2 k r))
    (fun k => P m c (ix2 r ⟨8192 + k.val, by omega⟩) + Gb m c (ix2 1 ⟨k.val, by omega⟩))
    (fun k => P m c (ix2 r ⟨9216 + k.val, by omega⟩) + Gb m c (ix2 1 ⟨1024 + k.val, by omega⟩))
    (fun k => P m c (ix2 r ⟨10240 + k.val, by omega⟩) + Gb m c (ix2 1 ⟨2048 + k.val, by omega⟩))
    (fun k => D m c (ix2 1 k)) (fun k => Lb m c (ix2 1 k)) (fun k => Fn m c (ix1 k)) (fun k j => Wg m c (ix3 1 k j)) (fun k j => Wa m c (ix3 1 k j))
    (fun k j => Wb m c (ix3 1 k j)) (fun k j => Wc m c (ix3 1 k j)) (fun k j => Wo m c (ix3 1 k j)) n

theorem last_at (r : Fin 16384) (n : Fin 1024) : last m c (ix2 r n) = entry m c r n := by
  have e : ∀ k, extf (F := Ideal) .f32 (Ya m c) bitsLt_bf16_f32 (ix2 r k) = Ya m c (ix2 r k) := fun k => rfl
  unfold last
  rw [normAll_at]
  have s : ∀ k, addf (F := Ideal) (X m c) (times (branches m c) (Wo m c)) (ix2 r k) = X m c (ix2 r k) + times (branches m c) (Wo m c) (ix2 r k) := fun k => rfl
  simp only [s, times_at]
  unfold branches
  simp only [merge_at, times_at, path_at, glu_at, gelu_at, skip_at, colU_at, colS_at, colM_at, attRows_at, gates0_at, gates1_at, gates2_at, e]
  rfl

end Cert.MergedIdeal.Own

end
-- ==== Proof.Value.Prep.lean ====
/- The key preparation, one grid point at a time: the means and the augmented keys at an entry. -/
module

public import proofs.«01_k».proof.Proof.Named.Region0
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Own

open Cert.KernelIdeal.Gen
open Idealize.ShloMosaic

/-- A lane's place in its head pair. -/
theorem laneOf_at (s : Fin 256) (col : Fin 1024) : k0_pay4 (ix2 s col) = BitVec.ofNat 32 (col.val % 128) := by
  unfold k0_pay4
  pointwise
  revert col
  decide +kernel

/-- The first head's lanes. -/
theorem low_at (s : Fin 256) (col : Fin 1024) : k0_pay5 (ix2 s col) = 1#1 ↔ col.val % 128 < 64 := by
  unfold k0_pay5
  pointwise
  rw [laneOf_at]
  exact WordCmp.cmpi_slt_ofNat_eq_one_iff (by omega) (by omega)

/-- A bit as a float. -/
theorem bit_eq (b : BitVec 1) : FloatOps.sitofp (F := Ideal) FTy.f32 (BitVec.setWidth 32 b) = if b = 1#1 then (1 : EReal) else 0 := by
  show ((((BitVec.setWidth 32 b).toInt : ℝ)) : EReal) = _
  rcases (by revert b; decide : b = 0#1 ∨ b = 1#1) with rfl | rfl <;> simp

theorem same_word (n b : ℕ) (hn : n < 128) (hb : b < 128) : IntOp.cmpi .eq (BitVec.ofNat 32 n) (BitVec.ofNat 32 b) = 1#1 ↔ n = b := by
  have h : ∀ n b : Fin 128, IntOp.cmpi .eq (BitVec.ofNat 32 n.val) (BitVec.ofNat 32 b.val) = 1#1 ↔ n.val = b.val := by decide +kernel
  exact h ⟨n, hn⟩ ⟨b, hb⟩

theorem same_word_sub (n b : ℕ) (hn : n < 128) (hb : b < 64) (h64 : ¬ n < 64) :
    IntOp.cmpi .eq (IntOp.subi (BitVec.ofNat 32 n) 64#32) (BitVec.ofNat 32 b) = 1#1 ↔ n = 64 + b := by
  have h : ∀ (n : Fin 128) (b : Fin 64), ¬ n.val < 64 →
      (IntOp.cmpi .eq (IntOp.subi (BitVec.ofNat 32 n.val) 64#32) (BitVec.ofNat 32 b.val) = 1#1 ↔ n.val = 64 + b.val) := by decide +kernel
  exact h ⟨n, hn⟩ ⟨b, hb⟩ h64

/-- Row `s` of block `b` in the first plane: the first head's keys, and a one in the block's lane of the second's. -/
def plane0 (b : ℕ) (x : FVec Ideal S256x1024 .bf16) (s : Fin 256) (col : Fin 1024) : EReal :=
  if col.val % 128 < 64 then x (ix2 s col) else if col.val % 128 = 64 + b then 1 else 0
/-- In the second plane: a one in the block's lane of the first head's, and the second head's keys. -/
def plane1 (b : ℕ) (x : FVec Ideal S256x1024 .bf16) (s : Fin 256) (col : Fin 1024) : EReal :=
  if col.val % 128 < 64 then (if col.val % 128 = b then 1 else 0) else x (ix2 s col)

theorem plane0_of (b : ℕ) (hb : b < 64) (w : BitVec 32) (hw : w = BitVec.ofNat 32 b) (x : FVec Ideal S256x1024 .bf16) (s : Fin 256) (col : Fin 1024) :
    Scalar.select (k0_pay5 (ix2 s col)) (x (ix2 s col))
      (FloatOps.sitofp (F := Ideal) FTy.f32 (BitVec.setWidth 32 (IntOp.cmpi CmpIPredicate.eq (IntOp.subi (k0_pay4 (ix2 s col)) 64#32) w)))
      = plane0 b x s col := by
  rw [Scalar.select_def, bit_eq, laneOf_at, hw]
  unfold plane0
  by_cases h : col.val % 128 < 64
  · rw [if_pos (show k0_pay5 (ix2 s col) = 1 from (low_at s col).mpr h), if_pos h]
  · rw [if_neg (show ¬ k0_pay5 (ix2 s col) = 1 from fun e => h ((low_at s col).mp e)), if_neg h]
    exact if_congr (same_word_sub _ b (by omega) hb h) rfl rfl

theorem plane1_of (b : ℕ) (hb : b < 64) (w : BitVec 32) (hw : w = BitVec.ofNat 32 b) (x : FVec Ideal S256x1024 .bf16) (s : Fin 256) (col : Fin 1024) :
    Scalar.select (k0_pay5 (ix2 s col))
      (FloatOps.sitofp (F := Ideal) FTy.f32 (BitVec.setWidth 32 (IntOp.cmpi CmpIPredicate.eq (k0_pay4 (ix2 s col)) w))) (x (ix2 s col))
      = plane1 b x s col := by
  rw [Scalar.select_def, bit_eq, laneOf_at, hw]
  unfold plane1
  exact if_congr (low_at s col) (if_congr (same_word _ b (by omega) (by omega)) rfl rfl) rfl

/-- A grid point's `r`-th block. -/
theorem word_of (i : grid0.Coords) (r : Fin 8) :
    Scalar.addi (Scalar.muli (BitVec.ofNat 32 (i 0).val) 8#32) (BitVec.ofNat 32 r.val) = BitVec.ofNat 32 (8 * (i 0).val + r.val) := by
  have h : ∀ i r : Fin 8, Scalar.addi (Scalar.muli (BitVec.ofNat 32 i.val) 8#32) (BitVec.ofNat 32 r.val) = BitVec.ofNat 32 (8 * i.val + r.val) := by decide
  exact h (i 0) r

section
variable (i : grid0.Coords) (x : Vec Ideal S256x1024 .bf16) (s : Fin 256) (col : Fin 1024)

theorem block_lt (r : Fin 8) : 8 * (i 0).val + r.val < 64 := by
  have : (i 0).val < 8 := (i 0).isLt
  omega

theorem plane0_0 : k0_pay7 i x (ix3 0 s col) = plane0 (8 * (i 0).val + 0) x s col := by
  unfold k0_pay7
  pointwise
  exact plane0_of _ (block_lt i 0) _ (word_of i 0) x s col
theorem plane0_1 : k0_pay10 (BitVec.ofNat 32 (i 0).val) k0_pay4 k0_pay5 x (ix3 0 s col) = plane0 (8 * (i 0).val + 1) x s col := by
  unfold k0_pay10
  pointwise
  exact plane0_of _ (block_lt i 1) _ (word_of i 1) x s col
theorem plane0_2 : k0_pay13 (BitVec.ofNat 32 (i 0).val) k0_pay4 k0_pay5 x (ix3 0 s col) = plane0 (8 * (i 0).val + 2) x s col := by
  unfold k0_pay13
  pointwise
  exact plane0_of _ (block_lt i 2) _ (word_of i 2) x s col
theorem plane0_3 : k0_pay16 (BitVec.ofNat 32 (i 0).val) k0_pay4 k0_pay5 x (ix3 0 s col) = plane0 (8 * (i 0).val + 3) x s col := by
  unfold k0_pay16
  pointwise
  exact plane0_of _ (block_lt i 3) _ (word_of i 3) x s col
theorem plane0_4 : k0_pay20 k0_pay5 x (k0_pay19 (F := Ideal) (BitVec.ofNat 32 (i 0).val) k0_pay4) (ix3 0 s col) = plane0 (8 * (i 0).val + 4) x s col := by
  unfold k0_pay20 k0_pay19
  pointwise
  exact plane0_of _ (block_lt i 4) _ (word_of i 4) x s col
theorem plane0_5 : k0_pay23 (BitVec.ofNat 32 (i 0).val) k0_pay4 k0_pay5 x (ix3 0 s col) = plane0 (8 * (i 0).val + 5) x s col := by
  unfold k0_pay23
  pointwise
  exact plane0_of _ (block_lt i 5) _ (word_of i 5) x s col
theorem plane0_6 : k0_pay27 (BitVec.ofNat 32 (i 0).val) k0_pay4 k0_pay5 x (ix3 0 s col) = plane0 (8 * (i 0).val + 6) x s col := by
  unfold k0_pay27
  pointwise
  exact plane0_of _ (block_lt i 6) _ (word_of i 6) x s col
theorem plane0_7 : k0_pay2 (BitVec.ofNat 32 (i 0).val) k0_pay4 k0_pay5 x (ix3 0 s col) = plane0 (8 * (i 0).val + 7) x s col := by
  unfold k0_pay2
  pointwise
  exact plane0_of _ (block_lt i 7) _ (word_of i 7) x s col
theorem plane1_0 : k0_pay8 k0_pay4 k0_pay5 x (Scalar.addi (Scalar.muli (BitVec.ofNat 32 (i 0).val) 8#32) 0#32) (ix3 0 s col) = plane1 (8 * (i 0).val + 0) x s col := by
  unfold k0_pay8
  pointwise
  exact plane1_of _ (block_lt i 0) _ (word_of i 0) x s col
theorem plane1_1 : k0_pay11 (BitVec.ofNat 32 (i 0).val) k0_pay4 k0_pay5 x (ix3 0 s col) = plane1 (8 * (i 0).val + 1) x s col := by
  unfold k0_pay11
  pointwise
  exact plane1_of _ (block_lt i 1) _ (word_of i 1) x s col
theorem plane1_2 : k0_pay14 (BitVec.ofNat 32 (i 0).val) k0_pay4 k0_pay5 x (ix3 0 s col) = plane1 (8 * (i 0).val + 2) x s col := by
  unfold k0_pay14
  pointwise
  exact plane1_of _ (block_lt i 2) _ (word_of i 2) x s col
theorem plane1_3 : k0_pay17 (BitVec.ofNat 32 (i 0).val) k0_pay4 k0_pay5 x (ix3 0 s col) = plane1 (8 * (i 0).val + 3) x s col := by
  unfold k0_pay17
  pointwise
  exact plane1_of _ (block_lt i 3) _ (word_of i 3) x s col
theorem plane1_4 : k0_pay21 k0_pay4 k0_pay5 x (Scalar.addi (Scalar.muli (BitVec.ofNat 32 (i 0).val) 8#32) 4#32) (ix3 0 s col) = plane1 (8 * (i 0).val + 4) x s col := by
  unfold k0_pay21
  pointwise
  exact plane1_of _ (block_lt i 4) _ (word_of i 4) x s col
theorem plane1_5 : k0_pay25 k0_pay5 x (k0_pay24 (F := Ideal) (BitVec.ofNat 32 (i 0).val) k0_pay4) (ix3 0 s col) = plane1 (8 * (i 0).val + 5) x s col := by
  unfold k0_pay25 k0_pay24
  pointwise
  exact plane1_of _ (block_lt i 5) _ (word_of i 5) x s col
theorem plane1_6 : k0_pay28 (BitVec.ofNat 32 (i 0).val) k0_pay4 k0_pay5 x (ix3 0 s col) = plane1 (8 * (i 0).val + 6) x s col := by
  unfold k0_pay28
  pointwise
  exact plane1_of _ (block_lt i 6) _ (word_of i 6) x s col
theorem plane1_7 : k0_pay3 (BitVec.ofNat 32 (i 0).val) k0_pay4 k0_pay5 x (ix3 0 s col) = plane1 (8 * (i 0).val + 7) x s col := by
  unfold k0_pay3
  pointwise
  exact plane1_of _ (block_lt i 7) _ (word_of i 7) x s col
theorem mean_0 : k0_pay6 x (ix2 0 col) = Ideal.div (∑ s, x (ix2 s col)) (Ideal.ofBits FTy.f32 0x43800000#32) := by
  unfold_payloads
  pointwise
theorem mean_1 : k0_pay9 x (ix2 0 col) = Ideal.div (∑ s, x (ix2 s col)) (Ideal.ofBits FTy.f32 0x43800000#32) := by
  unfold_payloads
  pointwise
theorem mean_2 : k0_pay12 x (ix2 0 col) = Ideal.div (∑ s, x (ix2 s col)) (Ideal.ofBits FTy.f32 0x43800000#32) := by
  unfold_payloads
  pointwise
theorem mean_3 : k0_pay15 x (ix2 0 col) = Ideal.div (∑ s, x (ix2 s col)) (Ideal.ofBits FTy.f32 0x43800000#32) := by
  unfold_payloads
  pointwise
theorem mean_4 : k0_pay18 x (ix2 0 col) = Ideal.div (∑ s, x (ix2 s col)) (Ideal.ofBits FTy.f32 0x43800000#32) := by
  unfold_payloads
  pointwise
theorem mean_5 : k0_pay22 x (ix2 0 col) = Ideal.div (∑ s, x (ix2 s col)) (Ideal.ofBits FTy.f32 0x43800000#32) := by
  unfold_payloads
  pointwise
theorem mean_6 : k0_pay26 x (ix2 0 col) = Ideal.div (∑ s, x (ix2 s col)) (Ideal.ofBits FTy.f32 0x43800000#32) := by
  unfold_payloads
  pointwise
theorem mean_7 : k0_pay1 (k0_pay29 x) (ix2 0 col) = Ideal.div (∑ s, x (ix2 s col)) (Ideal.ofBits FTy.f32 0x43800000#32) := by
  unfold_payloads
  pointwise

end

/-- A slice of a block's rows, at an entry. -/
theorem ld_at {S : Shape} {e : EltTy} (x : S.Idx → Elt Ideal e) (off size : Fin S.rank → ℕ) (inb : ∀ a, off a + size a ≤ S.size a)
    (j : (Rect.unit off size inb).shape.Idx) (y : S.Idx) (h : ∀ a, (y a : ℕ) = off a + (j a : ℕ)) : View.ld x (Rect.unit off size inb) j = x y := by
  unfold View.ld
  refine congrArg x (funext fun a => Fin.ext ?_)
  show off a + 1 * (j a : ℕ) = _
  rw [h a]
  omega

/-- One row of means, where the block reads it. -/
theorem mean_tile (x0 : Vec Ideal S2048x1024 .bf16) (r : Fin 8) (col : Fin 1024) (k : ℕ) (inb : ∀ a, (![256 * k, 0] : Fin 2 → ℕ) a + S256x1024.size a ≤ S2048x1024.size a)
    (w : Vec Ideal S1x1024 .f32)
    (hw : ∀ col, w (ix2 0 col) = Ideal.div (∑ s, View.ld x0 (Rect.unit (s := S2048x1024) ![256 * k, 0] S256x1024.size inb) (ix2 s col)) (Ideal.ofBits FTy.f32 0x43800000#32)) :
    View.TileAt (S := S8x1024) (ix2 r col) ![k, 0] S1x1024.size w
      (Ideal.div (∑ s : Fin 256, x0 (ix2 ⟨256 * r.val + s.val, by omega⟩ col)) (Ideal.ofBits FTy.f32 0x43800000#32)) := fun (j : S1x1024.Idx) h => by
  have h0 : r.val = k + (j 0).val := h 0
  have h1 : col.val = 0 + (j 1).val := h 1
  obtain ⟨a, b, rfl⟩ : ∃ (a : Fin 1) (b : Fin 1024), j = ix2 a b := ⟨j 0, j 1, funext (Fin.forall_fin_two.mpr ⟨rfl, rfl⟩)⟩
  obtain rfl : a = 0 := Subsingleton.elim _ _
  have hr : r.val = k := h0
  obtain rfl : col = b := Fin.ext (by simpa using h1)
  refine (hw col).trans (congrArg (Ideal.div · _) (Finset.sum_congr rfl fun s _ => ld_at _ _ _ _ _ _ (Fin.forall_fin_two.mpr ⟨?_, ?_⟩)))
  · show 256 * r.val + s.val = 256 * k + s.val
    rw [hr]
  · show col.val = 0 + col.val
    omega

/-- A block's means, at an entry: block `8 i + r`'s keys, summed and divided by 256. -/
theorem means_at (i : grid0.Coords) (x0 : Vec Ideal S2048x1024 .bf16) (r : Fin 8) (col : Fin 1024) :
    out0_1 i x0 (ix2 r col) = Ideal.div (∑ s : Fin 256, x0 (ix2 ⟨256 * r.val + s.val, by omega⟩ col)) (Ideal.ofBits FTy.f32 0x43800000#32) := by
  unfold out0_1
  refine View.canon_eq_of_allAt _ _ _ (cover0_1 _ _ _ _ _ _ _ _ _) ?_
  refine View.allAt_cons_unit _ _ _ _ _ (mean_tile x0 r col 7 _ _ fun _ => mean_7 _ _) ?_
  refine View.allAt_cons_unit _ _ _ _ _ (mean_tile x0 r col 6 _ _ fun _ => mean_6 _ _) ?_
  refine View.allAt_cons_unit _ _ _ _ _ (mean_tile x0 r col 5 _ _ fun _ => mean_5 _ _) ?_
  refine View.allAt_cons_unit _ _ _ _ _ (mean_tile x0 r col 4 _ _ fun _ => mean_4 _ _) ?_
  refine View.allAt_cons_unit _ _ _ _ _ (mean_tile x0 r col 3 _ _ fun _ => mean_3 _ _) ?_
  refine View.allAt_cons_unit _ _ _ _ _ (mean_tile x0 r col 2 _ _ fun _ => mean_2 _ _) ?_
  refine View.allAt_cons_unit _ _ _ _ _ (mean_tile x0 r col 1 _ _ fun _ => mean_1 _ _) ?_
  refine View.allAt_cons_unit _ _ _ _ _ (mean_tile x0 r col 0 _ _ fun _ => mean_0 _ _) ?_
  exact View.allAt_nil _ _

/-- The augmented keys of one plane, at row `n` of a grid point's eight blocks. -/
def augAt (i : grid0.Coords) (x0 : Vec Ideal S2048x1024 .bf16) (p : Fin 2) (n : Fin 2048) (col : Fin 1024) : EReal :=
  if p.val = 0 then (if col.val % 128 < 64 then x0 (ix2 n col) else if col.val % 128 = 64 + (8 * (i 0).val + n.val / 256) then 1 else 0)
  else (if col.val % 128 < 64 then (if col.val % 128 = 8 * (i 0).val + n.val / 256 then 1 else 0) else x0 (ix2 n col))

/-- One block of plane 0, where the two planes read it. -/
theorem aug_tile0 (i : grid0.Coords) (x0 : Vec Ideal S2048x1024 .bf16) (p : Fin 2) (n : Fin 2048) (col : Fin 1024) (k : ℕ)
    (inb : ∀ a, (![256 * k, 0] : Fin 2 → ℕ) a + S256x1024.size a ≤ S2048x1024.size a) (w : Vec Ideal S1x256x1024 .bf16)
    (hw : ∀ s col, w (ix3 0 s col) = plane0 (8 * (i 0).val + k) (View.ld x0 (Rect.unit (s := S2048x1024) ![256 * k, 0] S256x1024.size inb)) s col) :
    View.TileAt (S := S2x2048x1024) (ix3 p n col) ![0, 256 * k, 0] S1x256x1024.size w (augAt i x0 p n col) := fun (j : S1x256x1024.Idx) h => by
  have h0 : p.val = 0 + (j 0).val := h 0
  have h1 : n.val = 256 * k + (j 1).val := h 1
  have h2 : col.val = 0 + (j 2).val := h 2
  obtain ⟨a, s, b, rfl⟩ : ∃ (a : Fin 1) (s : Fin 256) (b : Fin 1024), j = ix3 a s b := ⟨j 0, j 1, j 2, funext fun a => by fin_cases a <;> rfl⟩
  obtain rfl : a = 0 := Subsingleton.elim _ _
  have hp : p.val = 0 := h0
  have hn : n.val = 256 * k + s.val := h1
  obtain rfl : col = b := Fin.ext (by simpa using h2)
  have hk : n.val / 256 = k := by omega
  have hl : View.ld x0 (Rect.unit (s := S2048x1024) ![256 * k, 0] S256x1024.size inb) (ix2 s col) = x0 (ix2 n col) :=
    ld_at _ _ _ _ _ _ (Fin.forall_fin_two.mpr ⟨hn, by show col.val = 0 + col.val; omega⟩)
  refine (hw s col).trans ?_
  unfold plane0 augAt
  rw [hl, hk, hp]
  rfl

/-- One block of plane 1, where the two planes read it. -/
theorem aug_tile1 (i : grid0.Coords) (x0 : Vec Ideal S2048x1024 .bf16) (p : Fin 2) (n : Fin 2048) (col : Fin 1024) (k : ℕ)
    (inb : ∀ a, (![256 * k, 0] : Fin 2 → ℕ) a + S256x1024.size a ≤ S2048x1024.size a) (w : Vec Ideal S1x256x1024 .bf16)
    (hw : ∀ s col, w (ix3 0 s col) = plane1 (8 * (i 0).val + k) (View.ld x0 (Rect.unit (s := S2048x1024) ![256 * k, 0] S256x1024.size inb)) s col) :
    View.TileAt (S := S2x2048x1024) (ix3 p n col) ![1, 256 * k, 0] S1x256x1024.size w (augAt i x0 p n col) := fun (j : S1x256x1024.Idx) h => by
  have h0 : p.val = 1 + (j 0).val := h 0
  have h1 : n.val = 256 * k + (j 1).val := h 1
  have h2 : col.val = 0 + (j 2).val := h 2
  obtain ⟨a, s, b, rfl⟩ : ∃ (a : Fin 1) (s : Fin 256) (b : Fin 1024), j = ix3 a s b := ⟨j 0, j 1, j 2, funext fun a => by fin_cases a <;> rfl⟩
  obtain rfl : a = 0 := Subsingleton.elim _ _
  have hp : p.val = 1 := h0
  have hn : n.val = 256 * k + s.val := h1
  obtain rfl : col = b := Fin.ext (by simpa using h2)
  have hk : n.val / 256 = k := by omega
  have hl : View.ld x0 (Rect.unit (s := S2048x1024) ![256 * k, 0] S256x1024.size inb) (ix2 s col) = x0 (ix2 n col) :=
    ld_at _ _ _ _ _ _ (Fin.forall_fin_two.mpr ⟨hn, by show col.val = 0 + col.val; omega⟩)
  refine (hw s col).trans ?_
  unfold plane1 augAt
  rw [hl, hk, hp]
  rfl

/-- Both planes of augmented keys, at an entry. -/
theorem aug_at (i : grid0.Coords) (x0 : Vec Ideal S2048x1024 .bf16) (p : Fin 2) (n : Fin 2048) (col : Fin 1024) :
    out0_2 i x0 (ix3 p n col) = augAt i x0 p n col := by
  unfold out0_2 k0_pay30 k0_pay31
  refine View.canon_eq_of_allAt _ _ _ (cover0_2 _ _ _ _ _ _ _ _ _ _ _ _ _ _ _ _ _) ?_
  refine View.allAt_cons_unit _ _ _ _ _ (aug_tile1 i x0 p n col 7 _ _ fun _ _ => plane1_7 i _ _ _) ?_
  refine View.allAt_cons_unit _ _ _ _ _ (aug_tile0 i x0 p n col 7 _ _ fun _ _ => plane0_7 i _ _ _) ?_
  refine View.allAt_cons_unit _ _ _ _ _ (aug_tile1 i x0 p n col 6 _ _ fun _ _ => plane1_6 i _ _ _) ?_
  refine View.allAt_cons_unit _ _ _ _ _ (aug_tile0 i x0 p n col 6 _ _ fun _ _ => plane0_6 i _ _ _) ?_
  refine View.allAt_cons_unit _ _ _ _ _ (aug_tile1 i x0 p n col 5 _ _ fun _ _ => plane1_5 i _ _ _) ?_
  refine View.allAt_cons_unit _ _ _ _ _ (aug_tile0 i x0 p n col 5 _ _ fun _ _ => plane0_5 i _ _ _) ?_
  refine View.allAt_cons_unit _ _ _ _ _ (aug_tile1 i x0 p n col 4 _ _ fun _ _ => plane1_4 i _ _ _) ?_
  refine View.allAt_cons_unit _ _ _ _ _ (aug_tile0 i x0 p n col 4 _ _ fun _ _ => plane0_4 i _ _ _) ?_
  refine View.allAt_cons_unit _ _ _ _ _ (aug_tile1 i x0 p n col 3 _ _ fun _ _ => plane1_3 i _ _ _) ?_
  refine View.allAt_cons_unit _ _ _ _ _ (aug_tile0 i x0 p n col 3 _ _ fun _ _ => plane0_3 i _ _ _) ?_
  refine View.allAt_cons_unit _ _ _ _ _ (aug_tile1 i x0 p n col 2 _ _ fun _ _ => plane1_2 i _ _ _) ?_
  refine View.allAt_cons_unit _ _ _ _ _ (aug_tile0 i x0 p n col 2 _ _ fun _ _ => plane0_2 i _ _ _) ?_
  refine View.allAt_cons_unit _ _ _ _ _ (aug_tile1 i x0 p n col 1 _ _ fun _ _ => plane1_1 i _ _ _) ?_
  refine View.allAt_cons_unit _ _ _ _ _ (aug_tile0 i x0 p n col 1 _ _ fun _ _ => plane0_1 i _ _ _) ?_
  refine View.allAt_cons_unit _ _ _ _ _ (aug_tile1 i x0 p n col 0 _ _ fun _ _ => plane1_0 i _ _ _) ?_
  refine View.allAt_cons_unit _ _ _ _ _ (aug_tile0 i x0 p n col 0 _ _ fun _ _ => plane0_0 i _ _ _) ?_
  exact View.allAt_nil _ _

end Cert.KernelIdeal.Own

end
-- ==== Proof.Value.Arrays.lean ====
/- The arrays the attention call finds: the means, the augmented keys, the transposed values. -/
module

public import proofs.«01_k».proof.Proof.Named.Run
public import proofs.«01_k».proof.Proof.Value.Prep

@[expose] public section

set_option maxRecDepth 16384

noncomputable section

namespace Cert.KernelIdeal.Own

open Cert.KernelIdeal.Gen
open Idealize.ShloMosaic Idealize.ShloMosaic.TcCoe

variable (m : (ℓ : Loc nD τ sig) → Buf (Elt Ideal) ℓ) (c : Dev nD)

/-- The queries and keys as launched, and the values. -/
abbrev arg0 : Vec Ideal S16384x11264 .bf16 := m ((c : Thread nD τ).loc main_arg0)
abbrev arg1 : Vec Ideal S16384x1024 .bf16 := m ((c : Thread nD τ).loc main_arg1)

/-- The keys' block moves with the grid point, -/
theorem keys_index : ∀ t : Fin cfg0.N, win0_0.index t = ![(grid0.coords t 0).val, 6] :=
  (by decide +kernel : ∀ t : Fin grid0.N, _)
/-- and so do the two results'. -/
theorem means_index : ∀ t : Fin cfg0.N, win0_1.index t = ![(grid0.coords t 0).val, 0] :=
  (by decide +kernel : ∀ t : Fin grid0.N, _)
theorem aug_index : ∀ t : Fin cfg0.N, win0_2.index t = ![0, (grid0.coords t 0).val, 0] :=
  (by decide +kernel : ∀ t : Fin grid0.N, _)

/-- Block `b`'s mean key, in column `col`. -/
def meanAt (b : Fin 64) (col : Fin 1024) : EReal :=
  Ideal.div (∑ s : Fin 256, arg0 m c (ix2 ⟨256 * b.val + s.val, by omega⟩ ⟨6144 + col.val, by omega⟩)) (Ideal.ofBits FTy.f32 0x43800000#32)

/-- A grid point's block of keys, in the array. -/
theorem keys_block (t : Fin cfg0.N) (n : Fin 2048) (col : Fin 1024) (h : 2048 * (grid0.coords t 0).val + n.val < 16384) :
    iblk0 (V1 m) c 0 t (ix2 n col) = arg0 m c (ix2 ⟨2048 * (grid0.coords t 0).val + n.val, h⟩ ⟨6144 + col.val, by omega⟩) := by
  blk_simp [iblk0, keys_index]
  refine (congrFun (V1_of m c main_arg0 (by decide)) _).trans (congrArg (m _) ?_)
  blk_ext [keys_index]

/-- The means, whole. -/
theorem means_arr : (dat0 (V1 m) c).arrAt 1 cfg0.N = fun y => meanAt m c (y 0) (y 1) := by
  refine (dat0 (V1 m) c).arrAt_eq_of_covers 1 _ (by decide +kernel) fun t hf y => ?_
  blk_simp [means_index]
  rw [after0_1]
  obtain ⟨r, col, rfl⟩ : ∃ (r : Fin 8) (col : Fin 1024), y = ix2 r col := ⟨y 0, y 1, eq_ix2 y⟩
  have hi : (grid0.coords t 0).val < 8 := (grid0.coords t 0).isLt
  have he : (win0_1.blk t).view.emb (ix2 r col) = ix2 ⟨8 * (grid0.coords t 0).val + r.val, by omega⟩ col := by
    blk_ext [means_index]
  refine (means_at _ _ r col).trans ?_
  rw [he]
  refine congrArg (Ideal.div · _) (Finset.sum_congr rfl fun s _ => ?_)
  rw [keys_block m c t _ col (by show 2048 * _ + (256 * r.val + s.val) < _; omega)]
  refine congrArg (arg0 m c) ?_
  blk_ext

/-- The augmented keys at plane `p`, row `j`, column `col`. -/
def augOf (p : Fin 2) (j : Fin 16384) (col : Fin 1024) : EReal :=
  if p.val = 0 then (if col.val % 128 < 64 then arg0 m c (ix2 j ⟨6144 + col.val, by omega⟩) else if col.val % 128 = 64 + j.val / 256 then 1 else 0)
  else (if col.val % 128 < 64 then (if col.val % 128 = j.val / 256 then 1 else 0) else arg0 m c (ix2 j ⟨6144 + col.val, by omega⟩))

/-- The augmented keys, whole. -/
theorem aug_arr : (dat0 (V1 m) c).arrAt 2 cfg0.N = fun y => augOf m c (y 0) (y 1) (y 2) := by
  refine (dat0 (V1 m) c).arrAt_eq_of_covers 2 _ (by decide +kernel) fun t hf y => ?_
  blk_simp [aug_index]
  rw [after0_2]
  obtain ⟨p, n, col, rfl⟩ : ∃ (p : Fin 2) (n : Fin 2048) (col : Fin 1024), y = ix3 p n col := ⟨y 0, y 1, y 2, eq_ix3 y⟩
  have hi : (grid0.coords t 0).val < 8 := (grid0.coords t 0).isLt
  have he : (win0_2.blk t).view.emb (ix3 p n col) = ix3 p ⟨2048 * (grid0.coords t 0).val + n.val, by omega⟩ col := by
    blk_ext [aug_index]
  refine (aug_at _ _ p n col).trans ?_
  rw [he]
  unfold augAt
  rw [keys_block m c t n col (by omega)]
  show _ = augOf m c p ⟨2048 * (grid0.coords t 0).val + n.val, _⟩ col
  unfold augOf
  have hb : 8 * (grid0.coords t 0).val + n.val / 256 = (2048 * (grid0.coords t 0).val + n.val) / 256 := by omega
  rw [hb]

/-! ## What the attention call finds -/

theorem W2_arg0 : W2 m c main_arg0 = m ((c : Thread nD τ).loc main_arg0) := by
  unfold W2
  rw [Pipeline.afterRegion_keeps (dat0 (V1 m) c) (V1 m c) launch0.win.arr_inj (A_eq0 (V1 m) c) main_arg0 (by decide)]
  exact V1_of m c main_arg0 (by decide)

theorem W2_means (b : Fin 64) (col : Fin 1024) : W2 m c main_v1_0 (ix2 b col) = meanAt m c b col :=
  congrFun ((Pipeline.afterRegion_arr (dat0 (V1 m) c) (V1 m c) launch0.win.arr_inj 1).trans (means_arr m c)) _

theorem W2_aug (p : Fin 2) (j : Fin 16384) (col : Fin 1024) : W2 m c main_v1_1 (ix3 p j col) = augOf m c p j col :=
  congrFun ((Pipeline.afterRegion_arr (dat0 (V1 m) c) (V1 m c) launch0.win.arr_inj 2).trans (aug_arr m c)) _

theorem W2_vals (col : Fin 1024) (j : Fin 16384) : W2 m c main_v0 (ix2 col j) = arg1 m c (ix2 j col) := by
  unfold W2
  rw [Pipeline.afterRegion_keeps (dat0 (V1 m) c) (V1 m c) launch0.win.arr_inj (A_eq0 (V1 m) c) main_v0 (by decide)]
  after_results
  pointwise

end Cert.KernelIdeal.Own

end
-- ==== Proof.Math.Online.lean ====
/- The arithmetic of a softmax taken group by group, over the extended reals: rescaling to a new maximum, and the
   quotient in which the maximum falls out. -/
module

public import Idealize.ShloMosaic.PureOps.Ideal

@[expose] public section

noncomputable section

namespace Cert.Math

open Idealize.ShloMosaic

/-- A nonnegative real factor moves into a finite sum of extended reals. -/
theorem coe_mul_sum {ι : Type} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The weight of a score: two to it, and zero at minus infinity. -/
def wt (x : EReal) : ℝ := if x = ⊥ then 0 else (2 : ℝ) ^ x.toReal

theorem wt_bot : wt ⊥ = 0 := if_pos rfl

theorem wt_coe (r : ℝ) : wt (r : EReal) = (2 : ℝ) ^ r := by
  rw [wt, if_neg (EReal.coe_ne_bot r), EReal.toReal_coe]

theorem wt_nonneg (x : EReal) : 0 ≤ wt x := by
  unfold wt; split
  · exact le_rfl
  · exact Real.rpow_nonneg (by norm_num) _

/-- Two to a score less a real maximum is the score's weight, scaled. -/
theorem exp2_sub (x : EReal) (hx : x ≠ ⊤) (μ : ℝ) :
    Ideal.exp2 (x - (μ : EReal)) = (((2 : ℝ) ^ (-μ) * wt x : ℝ) : EReal) := by
  induction x with
  | bot => rw [EReal.bot_sub, wt_bot, mul_zero]; rfl
  | top => exact absurd rfl hx
  | coe r =>
    rw [wt_coe, ← EReal.coe_sub, mul_comm, ← Real.rpow_add (by norm_num), ← sub_eq_add_neg]
    rfl

/-- A maximum of minus infinity or a real, and of a value that is not plus infinity, is real when one of them is. -/
theorem max_real {m x : EReal} (hm : m ≠ ⊤) (hx : x ≠ ⊤) (h : m ≠ ⊥ ∨ x ≠ ⊥) : ∃ μ : ℝ, max m x = (μ : EReal) := by
  have ht : max m x ≠ ⊤ := by
    rcases le_total m x with h | h
    · rwa [max_eq_right h]
    · rwa [max_eq_left h]
  have hb : max m x ≠ ⊥ := by
    rw [Ne, max_eq_bot]
    rintro ⟨rfl, rfl⟩
    rcases h with h | h <;> exact h rfl
  exact ⟨_, (EReal.coe_toReal ht hb).symm⟩

/-- One group taken in: the sum so far, scaled to the old maximum `μ`, and the group's weights, scaled to the new one,
    together are the longer sum scaled to the new one. -/
theorem online_step {ι : Type} (s : Finset ι) (μ μ' : ℝ) (S : EReal) (va x : ι → EReal) (hx : ∀ k ∈ s, x k ≠ ⊤) :
    Ideal.exp2 ((μ : EReal) - (μ' : EReal)) * ((((2 : ℝ) ^ (-μ) : ℝ) : EReal) * S) + ∑ k ∈ s, va k * Ideal.exp2 (x k - (μ' : EReal))
      = (((2 : ℝ) ^ (-μ') : ℝ) : EReal) * (S + ∑ k ∈ s, (wt (x k) : EReal) * va k) := by
  have h2 : (0 : ℝ) ≤ (2 : ℝ) ^ (-μ') := Real.rpow_nonneg (by norm_num) _
  rw [EReal.left_distrib_of_nonneg_of_ne_top (EReal.coe_nonneg.mpr h2) (EReal.coe_ne_top _), coe_mul_sum s _ h2]
  congr 1
  · rw [exp2_sub _ (EReal.coe_ne_top μ), wt_coe, ← mul_assoc, ← EReal.coe_mul, mul_assoc, ← Real.rpow_add (by norm_num),
      add_neg_cancel, Real.rpow_zero, mul_one]
  · refine Finset.sum_congr rfl fun k hk => ?_
    rw [exp2_sub _ (hx k hk), EReal.coe_mul, mul_comm, mul_assoc]

/-- The first group: from minus infinity and zero. -/
theorem online_first {ι : Type} (s : Finset ι) (μ' : ℝ) (va x : ι → EReal) (hx : ∀ k ∈ s, x k ≠ ⊤) :
    Ideal.exp2 (⊥ - (μ' : EReal)) * 0 + ∑ k ∈ s, va k * Ideal.exp2 (x k - (μ' : EReal))
      = (((2 : ℝ) ^ (-μ') : ℝ) : EReal) * ∑ k ∈ s, (wt (x k) : EReal) * va k := by
  have h2 : (0 : ℝ) ≤ (2 : ℝ) ^ (-μ') := Real.rpow_nonneg (by norm_num) _
  rw [coe_mul_sum s _ h2, mul_zero, zero_add]
  refine Finset.sum_congr rfl fun k hk => ?_
  rw [exp2_sub _ (hx k hk), EReal.coe_mul, mul_comm, mul_assoc]

/-- A quotient of two sums scaled alike is the quotient of the sums. -/
theorem div_scaled (c W : ℝ) (hc : 0 < c) (hW : 0 < W) (S : EReal) :
    Ideal.div ((c : EReal) * S) ((c : EReal) * (W : EReal)) = ((W⁻¹ : ℝ) : EReal) * S := by
  have hne : ((c : EReal) * (W : EReal)) ≠ 0 := by
    rw [← EReal.coe_mul]; exact_mod_cast (mul_pos hc hW).ne'
  rw [Ideal.div, if_neg hne, ← EReal.coe_mul, ← EReal.coe_inv, mul_comm (c : EReal) S, mul_assoc, ← EReal.coe_mul, mul_comm]
  congr 2
  field_simp

/-- The largest of finitely many values, none plus infinity, is not plus infinity. -/
theorem fold_max_ne_top {ι : Type} (s : Finset ι) (f : ι → EReal) (hf : ∀ k ∈ s, f k ≠ ⊤) : s.fold max ⊥ f ≠ ⊤ := by
  classical
  have : ∀ k ∈ s, f k < ⊤ := fun k hk => lt_top_iff_ne_top.mpr (hf k hk)
  exact (Finset.fold_max_lt ⊤ |>.mpr ⟨bot_lt_top, this⟩).ne

/-- It is at least each of them. -/
theorem le_fold_max {ι : Type} (s : Finset ι) (f : ι → EReal) (k : ι) (hk : k ∈ s) : f k ≤ s.fold max ⊥ f :=
  (Finset.le_fold_max (f k)).mpr (.inr ⟨k, hk, le_rfl⟩)

/-- It is one of them, when there is one. -/
theorem fold_max_mem {ι : Type} (s : Finset ι) (f : ι → EReal) (hs : s.Nonempty) : ∃ k ∈ s, s.fold max ⊥ f = f k := by
  obtain ⟨k, hk, h⟩ := s.exists_max_image f hs
  refine ⟨k, hk, le_antisymm ?_ (le_fold_max s f k hk)⟩
  exact (Finset.fold_max_le (f k)).mpr ⟨bot_le, h⟩

/-- A finite sum of real numbers is real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

end Cert.Math

end
-- ==== Proof.Math.Held.lean ====
/- What a softmax taken group by group holds for one query: a real maximum, and every row's weighted sum scaled to it. -/
module

public import proofs.«01_k».proof.Proof.Math.Online

@[expose] public section

noncomputable section

namespace Cert.Math

open Idealize.ShloMosaic

/-- One group taken in at one query and one row: the sum so far rescaled, and the group's weighted values. -/
def colStep {N : ℕ} (m x a : EReal) (va s : Fin N → EReal) : EReal :=
  Ideal.exp2 (m - max m x) * a + ∑ k, va k * Ideal.exp2 (s k - max m x)

variable {R : Type} (own : R → EReal) (sc : ℕ → EReal) (va : R → ℕ → EReal)

/-- The own block's sum and the weighted values of the first `N` keys, all scaled to the maximum `m`. -/
def Held (N : ℕ) (m : EReal) (a : R → EReal) : Prop :=
  ∃ μ : ℝ, m = (μ : EReal) ∧ ∀ r, a r = (((2 : ℝ) ^ (-μ) : ℝ) : EReal) * (own r + ∑ j ∈ Finset.range N, (wt (sc j) : EReal) * va r j)

variable {own sc va} in
/-- The same, with the maximum, the rows and the count written otherwise. -/
theorem Held.of_eq {N N' : ℕ} {m m' : EReal} {a a' : R → EReal} (h : Held own sc va N m a) (hN : N = N') (hm : m' = m) (ha : ∀ r, a' r = a r) :
    Held own sc va N' m' a' := by
  subst hN hm
  obtain rfl : a' = a := funext ha
  exact h

/-- The next `W` keys taken in. -/
theorem Held.step {N W : ℕ} {m x : EReal} {a : R → EReal} (h : Held own sc va N m a) (hs : ∀ j, sc j ≠ ⊤) (hx : x ≠ ⊤) :
    Held own sc va (N + W) (max m x) (fun r => colStep m x (a r) (fun k : Fin W => va r (N + k.val)) (fun k => sc (N + k.val))) := by
  obtain ⟨μ, rfl, ha⟩ := h
  obtain ⟨μ', hμ'⟩ := max_real (EReal.coe_ne_top μ) hx (.inl (EReal.coe_ne_bot μ))
  refine ⟨μ', hμ', fun r => ?_⟩
  dsimp only
  rw [colStep, hμ', ha r, online_step _ _ _ _ _ _ (fun k _ => hs _), Finset.sum_range_add, Finset.sum_range (n := W), add_assoc]

/-- The own block taken in first. -/
theorem Held.first {W : ℕ} {x : EReal} (v : R → Fin W → EReal) (s : Fin W → EReal) (hs : ∀ k, s k ≠ ⊤) (hx : x ≠ ⊤) (hb : x ≠ ⊥) :
    Held (fun r => ∑ k, (wt (s k) : EReal) * v r k) sc va 0 (max ⊥ x) (fun r => colStep ⊥ x 0 (v r) s) := by
  obtain ⟨μ', hμ'⟩ := max_real bot_ne_top hx (.inr hb)
  refine ⟨μ', hμ', fun r => ?_⟩
  dsimp only
  rw [colStep, hμ', online_first _ _ _ _ (fun k _ => hs _), Finset.sum_range_zero, add_zero]

/-- The quotient of a row by the row of the weights' sums. -/
theorem Held.quotient {N : ℕ} {m : EReal} {a : R → EReal} (h : Held own sc va N m a) (r o : R) (W : ℝ) (hW : 0 < W)
    (ho : own o + ∑ j ∈ Finset.range N, (wt (sc j) : EReal) * va o j = (W : EReal)) :
    Ideal.div (a r) (a o) = ((W⁻¹ : ℝ) : EReal) * (own r + ∑ j ∈ Finset.range N, (wt (sc j) : EReal) * va r j) := by
  obtain ⟨μ, rfl, ha⟩ := h
  rw [ha r, ha o, ho]
  exact div_scaled _ _ (Real.rpow_pos_of_pos (by norm_num) _) hW _

end Cert.Math

end
-- ==== Proof.Value.Offsets.lean ====
/- How many whole groups of eight key blocks a query block walks over, whether four more blocks follow, and where the
   walk reads. -/
module

public import proofs.«01_k».proof.Proof.Named.Body

@[expose] public section

set_option maxRecDepth 16384

noncomputable section

namespace Cert.KernelIdeal.Own

open Cert.KernelIdeal.Gen
open Idealize.ShloMosaic

/-- Every point of the attention's grid has block numbers below 64. -/
theorem coord_lt (i : grid1.Coords) : (i 1).val < 64 := (i 1).isLt

set_option maxHeartbeats 4000000 in
/-- The whole groups: half the groups of four blocks that cover the blocks before the query's own. -/
theorem trips_eq (i : grid1.Coords) : (k1_t1_loop i).trips = ((i 1).val + 3) / 4 / 2 := by
  revert i
  decide +kernel

/-- Four more blocks follow when the groups of four are odd in number. -/
theorem cond1_iff (i : grid1.Coords) : k1_cond1 i = 1#1 ↔ (((i 1).val + 3) / 4) % 2 = 1 := by
  revert i
  decide +kernel

/-- They follow the whole groups. -/
theorem off12_eq (i : grid1.Coords) (h : k1_cond1 i = 1#1) : k1_off12 i = ![0, 2048 * (((i 1).val + 3) / 4 / 2)] := by
  revert i
  decide +kernel

/-- A trip reads its own group's values, -/
theorem off6_eq (i : grid1.Coords) (k : Fin (k1_t1_loop i).trips) : k1_off6 i k = ![0, 2048 * k.val] := by
  have hk : k.val < 8 := Nat.lt_of_lt_of_le k.isLt (k1_t1_abs i).2.1
  obtain ⟨k, hk'⟩ := k
  unfold k1_off6
  dsimp only at hk ⊢
  interval_cases k <;> decide +kernel

/-- and the keys of the group after it, the last one's again at the end. -/
theorem off7_eq (i : grid1.Coords) (k : Fin (k1_t1_loop i).trips) : k1_off7 i k = ![0, 2048 * min (k.val + 1) 7, 0] := by
  have hk : k.val < 8 := Nat.lt_of_lt_of_le k.isLt (k1_t1_abs i).2.1
  obtain ⟨k, hk'⟩ := k
  unfold k1_off7
  dsimp only at hk ⊢
  interval_cases k <;> decide +kernel

/-- The same of the other head's keys. -/
theorem off8_eq (i : grid1.Coords) (k : Fin (k1_t1_loop i).trips) : k1_off8 i k = ![1, 2048 * min (k.val + 1) 7, 0] := by
  have hk : k.val < 8 := Nat.lt_of_lt_of_le k.isLt (k1_t1_abs i).2.1
  obtain ⟨k, hk'⟩ := k
  unfold k1_off8
  dsimp only at hk ⊢
  interval_cases k <;> decide +kernel

end Cert.KernelIdeal.Own
end
-- ==== Proof.Value.Read.lean ====
/- The attention's payloads at one query: the scores, their maxima, and one group taken in. -/
module

public import proofs.«01_k».proof.Proof.Named.Body
public import proofs.«01_k».proof.Proof.Math.Held
public import proofs.«01_k».proof.Proof.Value.Offsets
public import Idealize.ShloMosaic.Lib.Pointwise
public import Idealize.ShloMosaic.Lib.WordCmp

@[expose] public section

set_option maxRecDepth 16384

noncomputable section

namespace Cert.KernelIdeal.Own

open Cert.KernelIdeal.Gen
open Idealize.ShloMosaic Cert.Math

/-- Row `r` of the values with sixteen rows of ones below them: a value, or one. -/
def vrow {N : ℕ} (v : Fin 64 → Fin N → EReal) (r : Fin 80) (k : Fin N) : EReal := if h : r.val < 64 then v ⟨r.val, h⟩ k else 1

theorem exp2_eq {φ : FTy} (x : EReal) : FloatOps.exp2 (F := Ideal) (φ := φ) x = Ideal.exp2 x := rfl

theorem negInf_bits : Ideal.ofBits FTy.f32 0xFF800000#32 = (⊥ : EReal) := by simp [Ideal.ofBits, Ideal.ieee]

theorem mask_lookup : κ "mask" = some ⊥ := rfl
theorem scale_lookup : κ "log2_scale" = some (((1 / 8) * (Real.log 2)⁻¹ : ℝ) : EReal) := rfl

/-- The mask is minus infinity, -/
theorem mask_eq : Named.named (F := Ideal) κ (φ := FTy.f32) "mask" 0xF149F2CA#32 = (⊥ : EReal) :=
  (IdealRules.named_const.ideal_named_scalar (φ := FTy.f32) κ "mask" 0xF149F2CA#32 ⊥ mask_lookup :)

/-- and the scale is an eighth over the logarithm of two. -/
theorem scale_eq : Named.named (F := Ideal) κ (φ := FTy.f32) "log2_scale" 0x3E38AA3B#32 = (((1 / 8) * (Real.log 2)⁻¹ : ℝ) : EReal) :=
  (IdealRules.named_const.ideal_named_scalar (φ := FTy.f32) κ "log2_scale" 0x3E38AA3B#32 _ scale_lookup :)

/-! ## A group taken in -/

section
variable (m x : FVec Ideal S1x256 .f32) (a : FVec Ideal S80x256 .f32) (r : Fin 80) (c : Fin 256)

theorem pay9_at (v : Vec Ideal S128x2048 .bf16) (s : Vec Ideal S1x2048x256 .f32) :
    k1_pay9 m a x v s (ix2 r c) = colStep (m (ix2 0 c)) (x (ix2 0 c)) (a (ix2 r c))
      (vrow (fun d k => v (ix2 ⟨d.val, by omega⟩ k)) r) (fun k => s (ix3 0 k c)) := by
  unfold_payloads
  pointwise
  rfl

theorem pay67_at (v : Vec Ideal S128x2048 .bf16) (s : Vec Ideal S1x2048x256 .f32) :
    k1_pay67 m a (k1_pay4 v) (k1_pay10 m x) s (ix2 r c) = colStep (m (ix2 0 c)) (x (ix2 0 c)) (a (ix2 r c))
      (vrow (fun d k => v (ix2 ⟨64 + d.val, by omega⟩ k)) r) (fun k => s (ix3 0 k c)) := by
  unfold_payloads
  pointwise
  rfl

theorem pay19_at (v : Vec Ideal S128x1024 .bf16) (s : Vec Ideal S1x1024x256 .f32) :
    k1_pay19 m a x v s (ix2 r c) = colStep (m (ix2 0 c)) (x (ix2 0 c)) (a (ix2 r c))
      (vrow (fun d k => v (ix2 ⟨d.val, by omega⟩ k)) r) (fun k => s (ix3 0 k c)) := by
  unfold_payloads
  pointwise
  rfl

theorem pay1_at (v : Vec Ideal S128x1024 .bf16) (s : Vec Ideal S1x1024x256 .f32) :
    k1_pay1 m a (k1_pay18 v) (k1_pay20 m x) (k1_pay21 s) (ix2 r c) = colStep (m (ix2 0 c)) (x (ix2 0 c)) (a (ix2 r c))
      (vrow (fun d k => v (ix2 ⟨64 + d.val, by omega⟩ k)) r) (fun k => s (ix3 0 k c)) := by
  unfold_payloads
  pointwise
  rfl

theorem pay5_at : k1_pay5 m x (ix2 0 c) = max (m (ix2 0 c)) (x (ix2 0 c)) := by
  unfold_payloads
  pointwise

theorem pay10_at : k1_pay10 m x (ix2 0 c) = max (m (ix2 0 c)) (x (ix2 0 c)) := by
  unfold_payloads
  pointwise

/-- The query's own block, from minus infinity and zero. -/
theorem own0_at (v : Vec Ideal S128x256 .bf16) (s : Vec Ideal S1x256x256 .f32) :
    k1_pay58 (k1_pay56 x) (k1_pay57 x v s) (ix2 r c) = colStep ⊥ (x (ix2 0 c)) 0
      (vrow (fun d k => v (ix2 ⟨d.val, by omega⟩ k)) r) (fun k => s (ix3 0 k c)) := by
  unfold_payloads
  pointwise
  simp only [mask_eq]
  rfl

theorem own1_at (v : Vec Ideal S128x256 .bf16) (s : Vec Ideal S1x256x256 .f32) :
    k1_pay63 x (k1_pay49 (F := Ideal)) (k1_pay50 (F := Ideal)) (k1_pay51 v) s (ix2 r c) = colStep ⊥ (x (ix2 0 c)) 0
      (vrow (fun d k => v (ix2 ⟨64 + d.val, by omega⟩ k)) r) (fun k => s (ix3 0 k c)) := by
  unfold_payloads
  pointwise
  simp only [mask_eq]
  rfl

theorem pay52_at : k1_pay52 x (ix2 0 c) = max ⊥ (x (ix2 0 c)) := by
  unfold_payloads
  pointwise
  simp only [mask_eq]

theorem pay59_at : k1_pay59 x (k1_pay49 (F := Ideal)) (ix2 0 c) = max ⊥ (x (ix2 0 c)) := by
  unfold_payloads
  pointwise
  simp only [mask_eq]
end

/-! ## Scores -/

section
variable (q : FVec Ideal S256x128 .bf16) (k : Vec Ideal S1x2048x128 .bf16) (c : Fin 256)

/-- The score of key `n` of a group for query `c`. -/
def score {N : ℕ} (q : FVec Ideal S256x128 .bf16) (k : (⟨3, ![1, N, 128]⟩ : Shape).Idx → EReal) (c : Fin 256) (n : Fin N) : EReal :=
  ∑ l : Fin 128, k (ix3 0 n l) * q (ix2 c l)

theorem pay7_at (n : Fin 2048) : k1_pay7 q k (ix3 0 n c) = score q k c n := by
  unfold_payloads; pointwise; rfl
theorem pay54_at (n : Fin 2048) : k1_pay54 q k (ix3 0 n c) = score q k c n := by
  unfold_payloads; pointwise; rfl
theorem pay65_at (n : Fin 2048) : k1_pay65 q k (ix3 0 n c) = score q k c n := by
  unfold_payloads; pointwise; rfl
theorem pay61_at (n : Fin 2048) : k1_pay61 q k (ix3 0 n c) = score q k c n := by
  unfold_payloads; pointwise; rfl

theorem pay8_at : k1_pay8 q k (ix2 0 c) = Finset.univ.fold max ⊥ (score q k c) := by
  unfold_payloads; pointwise; rw [negInf_bits]; rfl
theorem pay55_at : k1_pay55 q k (ix2 0 c) = Finset.univ.fold max ⊥ (score q k c) := by
  unfold_payloads; pointwise; rw [negInf_bits]; rfl
theorem pay66_at : k1_pay66 q k (ix2 0 c) = Finset.univ.fold max ⊥ (score q k c) := by
  unfold_payloads; pointwise; rw [negInf_bits]; rfl
theorem pay62_at : k1_pay62 q k (ix2 0 c) = Finset.univ.fold max ⊥ (score q k c) := by
  unfold_payloads; pointwise; rw [negInf_bits]; rfl
end

section
variable (q : FVec Ideal S256x128 .bf16) (q' : FVec Ideal S256x128 .f32) (k : Vec Ideal S1x256x128 .bf16) (c : Fin 256)

/-- The scores of the query's own block: only the keys up to the query itself. -/
def ownScore (s : Fin 256 → EReal) (c : Fin 256) (n : Fin 256) : EReal := if n.val ≤ c.val then s n else ⊥

theorem causal_at (n c : Fin 256) : IntOp.cmpi .sle (BitVec.ofNat 32 n.val) (BitVec.ofNat 32 c.val) = 1#1 ↔ n.val ≤ c.val :=
  WordCmp.cmpi_sle_ofNat_eq_one_iff (by omega) (by omega)

/-- The causal mask, a choice between a score and minus infinity. -/
theorem select_causal (n c : Fin 256) (a : EReal) :
    Scalar.select (IntOp.cmpi .sle (BitVec.ofNat 32 n.val) (BitVec.ofNat 32 c.val)) a (Named.named (F := Ideal) κ (φ := FTy.f32) "mask" 0xF149F2CA#32)
      = if n.val ≤ c.val then a else ⊥ := by
  rw [mask_eq, Scalar.select_def]
  exact if_congr (causal_at n c) rfl rfl

theorem pay44_at (n : Fin 256) : k1_pay44 q k (ix3 0 n c) = ownScore (score q k c) c n := by
  unfold_payloads; pointwise
  exact select_causal n c _

theorem pay45_at : k1_pay45 q k (ix2 0 c) = Finset.univ.fold max ⊥ (ownScore (score q k c) c) := by
  unfold_payloads; pointwise
  rw [negInf_bits]
  exact Finset.fold_congr fun n _ => select_causal n c _

/-- Head 1's queries scaled, as its own block reads them. -/
def scaled (q : FVec Ideal S256x128 .f32) : FVec Ideal S256x128 .bf16 := fun j => q j * (((1 / 8) * (Real.log 2)⁻¹ : ℝ) : EReal)

theorem pay47_at (n : Fin 256) : k1_pay47 q' k (ix3 0 n c) = ownScore (score (scaled q') k c) c n := by
  unfold_payloads; pointwise
  rw [scale_eq]
  exact select_causal n c _

theorem pay48_at : k1_pay48 (k1_pay46 q' k) (ix2 0 c) = Finset.univ.fold max ⊥ (ownScore (score (scaled q') k c) c) := by
  unfold_payloads; pointwise
  rw [negInf_bits, scale_eq]
  exact Finset.fold_congr fun n _ => select_causal n c _
end

end Cert.KernelIdeal.Own
end
-- ==== Proof.Value.Walk.lean ====
/- The walk over the key blocks at one query: what each head's sums hold after every group, and the block of the result. -/
module

public import proofs.«01_k».proof.Proof.Value.Read

@[expose] public section

set_option maxRecDepth 16384

noncomputable section

namespace Cert.KernelIdeal.Own

open Cert.KernelIdeal.Gen
open Idealize.ShloMosaic Cert.Math

section
variable (i : grid1.Coords) (x3 : Vec Ideal S2x16384x128 .bf16) (x4 : Vec Ideal S128x16384 .bf16)

/-- The score of key `j` for query `c` in plane `p` of the prepared keys (minus infinity past the last key). -/
def keyScore (p : Fin 2) (q : FVec Ideal S256x128 .bf16) (c : Fin 256) (j : ℕ) : EReal :=
  if h : j < 16384 then ∑ l : Fin 128, x3 (ix3 p ⟨j, h⟩ l) * q (ix2 c l) else ⊥

/-- Row `r` of the values of a head whose rows begin at `64 * p`, with ones from row 64 on. -/
def keyVal (p : Fin 2) (r : Fin 80) (j : ℕ) : EReal :=
  if h : j < 16384 then vrow (fun d k => x4 (ix2 ⟨64 * p.val + d.val, by omega⟩ k)) r ⟨j, h⟩ else 0

theorem keyScore_of (p : Fin 2) (q : FVec Ideal S256x128 .bf16) (c : Fin 256) (j : ℕ) (h : j < 16384) :
    keyScore x3 p q c j = ∑ l : Fin 128, x3 (ix3 p ⟨j, h⟩ l) * q (ix2 c l) := dif_pos h

/-- The first half of a head's scores. -/
theorem half_at (s : Vec Ideal S1x2048x256 .f32) (n : Fin 1024) (c : Fin 256) : half s (ix3 0 n c) = s (ix3 0 ⟨n.val, by omega⟩ c) := by
  unfold half
  pointwise

/-- A group of keys loaded from place `o` of a plane, scored. -/
theorem score_ld {N : ℕ} (p : Fin 2) (o : ℕ) (off : Fin 3 → ℕ) (hoff : off = ![p.val, o, 0])
    (hb : ∀ a, off a + (![1, N, 128] : Fin 3 → ℕ) a ≤ S2x16384x128.size a) (q : FVec Ideal S256x128 .bf16) (c : Fin 256) (n : Fin N) :
    score q (View.ld x3 (Rect.unit (s := S2x16384x128) off ![1, N, 128] hb)) c n = keyScore x3 p q c (o + n.val) := by
  subst hoff
  have h1 : o + N ≤ 16384 := hb 1
  rw [keyScore_of x3 p q c _ (by omega)]
  unfold score
  refine Finset.sum_congr rfl fun l _ => ?_
  congr 1
  pointwise

/-- A head's rows of a group of values loaded from place `o`. -/
theorem vrow_ld {N : ℕ} (p : Fin 2) (o : ℕ) (off : Fin 2 → ℕ) (hoff : off = ![0, o])
    (hb : ∀ a, off a + (![128, N] : Fin 2 → ℕ) a ≤ S128x16384.size a) (r : Fin 80) (n : Fin N) (w : Fin 64 → Fin 128)
    (hw : ∀ d, (w d).val = 64 * p.val + d.val) :
    vrow (fun d k => View.ld x4 (Rect.unit (s := S128x16384) off ![128, N] hb) (ix2 (w d) k)) r n = keyVal x4 p r (o + n.val) := by
  subst hoff
  have h1 : o + N ≤ 16384 := hb 1
  rw [keyVal, dif_pos (by omega)]
  unfold vrow
  split
  · have := hw ⟨r.val, by assumption⟩
    pointwise
    congr 2
    apply Fin.ext
    simpa using this
  · rfl

end

/-! ## Head 0 -/

section
variable (i : grid1.Coords) (x2 : Vec Ideal S256x128 .bf16) (x3 : Vec Ideal S2x16384x128 .bf16) (x4 : Vec Ideal S128x16384 .bf16) (x5 : Vec Ideal S64x128 .f32) (c : Fin 256)

/-- Head 0's scores of its own block, and its sums over it. -/
def own0 (n : Fin 256) : EReal := ownScore (fun n => keyScore x3 0 (qo0 x2) c (256 * (i 1).val + n.val)) c n
def ownSum0 (r : Fin 80) : EReal := ∑ n : Fin 256, (wt (own0 i x2 x3 c n) : EReal) * keyVal x4 0 r (256 * (i 1).val + n.val)

/-- Head 0's scores of the keys from place `o` on. -/
abbrev sc0 : ℕ → EReal := keyScore x3 0 (qa0 i x2 x5) c

/-- What head 0 holds before trip `k`. -/
def Holds0 (k : ℕ) (s : Carry Ideal) : Prop :=
  Held (ownSum0 i x2 x3 x4 c) (sc0 i x2 x3 x5 c) (keyVal x4 0) (2048 * k) (s.m0 (ix2 0 c)) (fun r => s.a0 (ix2 r c))
    ∧ s.x0 (ix2 0 c) = Finset.univ.fold max ⊥ (fun n : Fin 2048 => sc0 i x2 x3 x5 c (2048 * min k 7 + n.val))
    ∧ ∀ n : Fin 2048, s.s0 (ix3 0 n c) = sc0 i x2 x3 x5 c (2048 * min k 7 + n.val)

theorem ownScores0 : ownScore (score (qo0 x2) (View.ld x3 (rOwnK0 i)) c) c = own0 i x2 x3 c := by
  funext n
  unfold own0 ownScore
  exact if_congr Iff.rfl (score_ld x3 0 (256 * (i 1).val) _ (k1_off1_eq i) _ _ _ _) rfl

/-- After the own block. -/
theorem start0 (hown : ∀ n, own0 i x2 x3 c n ≠ ⊤) (hreal : own0 i x2 x3 c 0 ≠ ⊥) :
    Holds0 i x2 x3 x4 x5 c 0 (start i x2 x3 x4 x5) := by
  refine ⟨?_, ?_, fun n => ?_⟩
  · have hx : Finset.univ.fold max ⊥ (own0 i x2 x3 c) ≠ ⊤ := fold_max_ne_top _ _ fun n _ => hown n
    have hb : Finset.univ.fold max ⊥ (own0 i x2 x3 c) ≠ ⊥ := fun h =>
      hreal (le_bot_iff.mp (h ▸ le_fold_max Finset.univ (own0 i x2 x3 c) 0 (Finset.mem_univ _)))
    have h := Held.first (sc0 i x2 x3 x5 c) (keyVal x4 0) (fun r n => keyVal x4 0 r (256 * (i 1).val + n.val)) (own0 i x2 x3 c) hown hx hb
    simp only [start]
    refine h.of_eq rfl ?_ fun r => ?_
    · rw [pay52_at, pay45_at, ownScores0]
    · rw [own0_at, pay45_at, ownScores0]
      congr 1
      · funext n
        exact vrow_ld x4 0 (256 * (i 1).val) _ (k1_off3_eq i) _ _ _ _ (fun d => by simp)
      · funext n
        rw [pay44_at, ownScores0]
  · simp only [start]
    rw [pay55_at]
    exact Finset.fold_congr fun n _ => score_ld x3 0 0 _ k1_off4_eq _ _ _ _
  · simp only [start]
    rw [pay54_at]
    exact score_ld x3 0 0 _ k1_off4_eq _ _ _ _

/-- After one more group. -/
theorem trip0 (hs : ∀ j, sc0 i x2 x3 x5 c j ≠ ⊤) (q' : FVec Ideal S256x128 .bf16) (k : Fin (k1_t1_loop i).trips) (s : Carry Ideal)
    (h : Holds0 i x2 x3 x4 x5 c k.val s) :
    Holds0 i x2 x3 x4 x5 c (k.val + 1) (tripF i (qa0 i x2 x5) q' x3 x4 k s) := by
  obtain ⟨hh, hx, hsc⟩ := h
  have hk : k.val < 8 := Nat.lt_of_lt_of_le k.isLt (k1_t1_abs i).2.1
  have hk7 : min k.val 7 = k.val := by omega
  rw [hk7] at hx hsc
  refine ⟨?_, ?_, fun n => ?_⟩
  · have hxt : s.x0 (ix2 0 c) ≠ ⊤ := by rw [hx]; exact fold_max_ne_top _ _ fun n _ => hs _
    have h := Held.step (W := 2048) _ _ _ hh hs hxt
    simp only [tripF]
    refine h.of_eq rfl ?_ fun r => ?_
    · exact pay5_at _ _ _
    · rw [pay9_at]
      congr 1
      · funext n
        exact vrow_ld x4 0 (2048 * k.val) _ (off6_eq i k) _ _ _ _ (fun d => by simp)
      · funext n
        exact hsc n
  · simp only [tripF]
    rw [pay8_at]
    exact Finset.fold_congr fun n _ => score_ld x3 0 (2048 * min (k.val + 1) 7) _ (off7_eq i k) _ _ _ _
  · simp only [tripF]
    rw [pay7_at]
    exact score_ld x3 0 (2048 * min (k.val + 1) 7) _ (off7_eq i k) _ _ _ _

/-- Before every trip. -/
theorem walk0 (hown : ∀ n, own0 i x2 x3 c n ≠ ⊤) (hreal : own0 i x2 x3 c 0 ≠ ⊥) (hs : ∀ j, sc0 i x2 x3 x5 c j ≠ ⊤)
    (k : ℕ) (hk : k ≤ (k1_t1_loop i).trips) :
    Holds0 i x2 x3 x4 x5 c k (walk i (qa0 i x2 x5) (qa1 i x2 x5) x3 x4 (start i x2 x3 x4 x5) k) := by
  induction k with
  | zero => exact start0 i x2 x3 x4 x5 c hown hreal
  | succ k ih =>
    have hw := walk_succ i (qa0 i x2 x5) (qa1 i x2 x5) x3 x4 (start i x2 x3 x4 x5) ⟨k, hk⟩
    dsimp only at hw
    rw [hw]
    exact trip0 i x2 x3 x4 x5 c hs _ ⟨k, hk⟩ _ (ih (Nat.le_of_succ_le hk))

/-- At the end: every block before the query's own is among the keys taken in. -/
theorem fin0_held (hown : ∀ n, own0 i x2 x3 c n ≠ ⊤) (hreal : own0 i x2 x3 c 0 ≠ ⊥) (hs : ∀ j, sc0 i x2 x3 x5 c j ≠ ⊤) :
    ∃ m, Held (ownSum0 i x2 x3 x4 c) (sc0 i x2 x3 x5 c) (keyVal x4 0) (1024 * (((i 1).val + 3) / 4)) m (fun r => fin0 i x2 x3 x4 x5 (ix2 r c)) := by
  obtain ⟨hh, hx, hsc⟩ := walk0 i x2 x3 x4 x5 c hown hreal hs (k1_t1_loop i).trips le_rfl
  have ht := trips_eq i
  have hi := coord_lt i
  by_cases hc : k1_cond1 i = 1#1
  · have hodd := (cond1_iff i).mp hc
    have h7 : min (k1_t1_loop i).trips 7 = (k1_t1_loop i).trips := by omega
    rw [h7] at hx hsc
    have hxt : (walked i x2 x3 x4 x5).x0 (ix2 0 c) ≠ ⊤ := by
      rw [walked, hx]; exact fold_max_ne_top _ _ fun n _ => hs _
    have h := Held.step (W := 1024) _ _ _ hh hs hxt
    have hN : 2048 * (k1_t1_loop i).trips + 1024 = 1024 * (((i 1).val + 3) / 4) := by omega
    refine ⟨_, h.of_eq hN rfl fun r => ?_⟩
    · rw [fin0, dif_pos hc, pay19_at]
      congr 1
      · funext n
        exact vrow_ld x4 0 (2048 * (k1_t1_loop i).trips) _ (by rw [off12_eq i hc, ht]) _ _ _ _ (fun d => by simp)
      · funext n
        exact (half_at _ n c).trans (hsc ⟨n.val, by omega⟩)
  · have hN : 2048 * (k1_t1_loop i).trips = 1024 * (((i 1).val + 3) / 4) := by
      have : ¬ (((i 1).val + 3) / 4) % 2 = 1 := fun h => hc ((cond1_iff i).mpr h)
      omega
    refine ⟨_, hh.of_eq hN rfl fun r => ?_⟩
    · rw [fin0, dif_neg hc]
      rfl
end

/-! ## Head 1 -/

section
variable (i : grid1.Coords) (x2 : Vec Ideal S256x128 .bf16) (x3 : Vec Ideal S2x16384x128 .bf16) (x4 : Vec Ideal S128x16384 .bf16) (x5 : Vec Ideal S64x128 .f32) (c : Fin 256)

/-- Head 1's scores of its own block, and its sums over it. -/
def own1 (n : Fin 256) : EReal := ownScore (fun n => keyScore x3 1 (scaled (qo1 x2)) c (256 * (i 1).val + n.val)) c n
def ownSum1 (r : Fin 80) : EReal := ∑ n : Fin 256, (wt (own1 i x2 x3 c n) : EReal) * keyVal x4 1 r (256 * (i 1).val + n.val)

/-- Head 1's scores of the keys from place `o` on. -/
abbrev sc1 : ℕ → EReal := keyScore x3 1 (qa1 i x2 x5) c

/-- What head 1 holds before trip `k`. -/
def Holds1 (k : ℕ) (s : Carry Ideal) : Prop :=
  Held (ownSum1 i x2 x3 x4 c) (sc1 i x2 x3 x5 c) (keyVal x4 1) (2048 * k) (s.m1 (ix2 0 c)) (fun r => s.a1 (ix2 r c))
    ∧ s.x1 (ix2 0 c) = Finset.univ.fold max ⊥ (fun n : Fin 2048 => sc1 i x2 x3 x5 c (2048 * min k 7 + n.val))
    ∧ ∀ n : Fin 2048, s.s1 (ix3 0 n c) = sc1 i x2 x3 x5 c (2048 * min k 7 + n.val)

theorem ownScores1 : ownScore (score (scaled (qo1 x2)) (View.ld x3 (rOwnK1 i)) c) c = own1 i x2 x3 c := by
  funext n
  unfold own1 ownScore
  exact if_congr Iff.rfl (score_ld x3 1 (256 * (i 1).val) _ (k1_off2_eq i) _ _ _ _) rfl

/-- After the own block. -/
theorem start1 (hown : ∀ n, own1 i x2 x3 c n ≠ ⊤) (hreal : own1 i x2 x3 c 0 ≠ ⊥) :
    Holds1 i x2 x3 x4 x5 c 0 (start i x2 x3 x4 x5) := by
  refine ⟨?_, ?_, fun n => ?_⟩
  · have hx : Finset.univ.fold max ⊥ (own1 i x2 x3 c) ≠ ⊤ := fold_max_ne_top _ _ fun n _ => hown n
    have hb : Finset.univ.fold max ⊥ (own1 i x2 x3 c) ≠ ⊥ := fun h =>
      hreal (le_bot_iff.mp (h ▸ le_fold_max Finset.univ (own1 i x2 x3 c) 0 (Finset.mem_univ _)))
    have h := Held.first (sc1 i x2 x3 x5 c) (keyVal x4 1) (fun r n => keyVal x4 1 r (256 * (i 1).val + n.val)) (own1 i x2 x3 c) hown hx hb
    simp only [start]
    refine h.of_eq rfl ?_ fun r => ?_
    · rw [pay59_at, pay48_at, ownScores1]
    · rw [own1_at, pay48_at, ownScores1]
      congr 1
      · funext n
        exact vrow_ld x4 1 (256 * (i 1).val) _ (k1_off3_eq i) _ _ _ _ (fun d => by simp)
      · funext n
        rw [pay47_at, ownScores1]
  · simp only [start]
    rw [pay62_at]
    exact Finset.fold_congr fun n _ => score_ld x3 1 0 _ k1_off5_eq _ _ _ _
  · simp only [start]
    rw [pay61_at]
    exact score_ld x3 1 0 _ k1_off5_eq _ _ _ _

/-- After one more group. -/
theorem trip1 (hs : ∀ j, sc1 i x2 x3 x5 c j ≠ ⊤) (q' : FVec Ideal S256x128 .bf16) (k : Fin (k1_t1_loop i).trips) (s : Carry Ideal)
    (h : Holds1 i x2 x3 x4 x5 c k.val s) :
    Holds1 i x2 x3 x4 x5 c (k.val + 1) (tripF i q' (qa1 i x2 x5) x3 x4 k s) := by
  obtain ⟨hh, hx, hsc⟩ := h
  have hk : k.val < 8 := Nat.lt_of_lt_of_le k.isLt (k1_t1_abs i).2.1
  have hk7 : min k.val 7 = k.val := by omega
  rw [hk7] at hx hsc
  refine ⟨?_, ?_, fun n => ?_⟩
  · have hxt : s.x1 (ix2 0 c) ≠ ⊤ := by rw [hx]; exact fold_max_ne_top _ _ fun n _ => hs _
    have h := Held.step (W := 2048) _ _ _ hh hs hxt
    simp only [tripF]
    refine h.of_eq rfl ?_ fun r => ?_
    · exact pay10_at _ _ _
    · rw [pay67_at]
      congr 1
      · funext n
        exact vrow_ld x4 1 (2048 * k.val) _ (off6_eq i k) _ _ _ _ (fun d => by simp)
      · funext n
        exact hsc n
  · simp only [tripF]
    rw [pay66_at]
    exact Finset.fold_congr fun n _ => score_ld x3 1 (2048 * min (k.val + 1) 7) _ (off8_eq i k) _ _ _ _
  · simp only [tripF]
    rw [pay65_at]
    exact score_ld x3 1 (2048 * min (k.val + 1) 7) _ (off8_eq i k) _ _ _ _

/-- Before every trip. -/
theorem walk1 (hown : ∀ n, own1 i x2 x3 c n ≠ ⊤) (hreal : own1 i x2 x3 c 0 ≠ ⊥) (hs : ∀ j, sc1 i x2 x3 x5 c j ≠ ⊤)
    (k : ℕ) (hk : k ≤ (k1_t1_loop i).trips) :
    Holds1 i x2 x3 x4 x5 c k (walk i (qa0 i x2 x5) (qa1 i x2 x5) x3 x4 (start i x2 x3 x4 x5) k) := by
  induction k with
  | zero => exact start1 i x2 x3 x4 x5 c hown hreal
  | succ k ih =>
    have hw := walk_succ i (qa0 i x2 x5) (qa1 i x2 x5) x3 x4 (start i x2 x3 x4 x5) ⟨k, hk⟩
    dsimp only at hw
    rw [hw]
    exact trip1 i x2 x3 x4 x5 c hs _ ⟨k, hk⟩ _ (ih (Nat.le_of_succ_le hk))

/-- At the end: every block before the query's own is among the keys taken in. -/
theorem fin1_held (hown : ∀ n, own1 i x2 x3 c n ≠ ⊤) (hreal : own1 i x2 x3 c 0 ≠ ⊥) (hs : ∀ j, sc1 i x2 x3 x5 c j ≠ ⊤) :
    ∃ m, Held (ownSum1 i x2 x3 x4 c) (sc1 i x2 x3 x5 c) (keyVal x4 1) (1024 * (((i 1).val + 3) / 4)) m (fun r => fin1 i x2 x3 x4 x5 (ix2 r c)) := by
  obtain ⟨hh, hx, hsc⟩ := walk1 i x2 x3 x4 x5 c hown hreal hs (k1_t1_loop i).trips le_rfl
  have ht := trips_eq i
  have hi := coord_lt i
  by_cases hc : k1_cond1 i = 1#1
  · have hodd := (cond1_iff i).mp hc
    have h7 : min (k1_t1_loop i).trips 7 = (k1_t1_loop i).trips := by omega
    rw [h7] at hx hsc
    have hxt : (walked i x2 x3 x4 x5).x1 (ix2 0 c) ≠ ⊤ := by
      rw [walked, hx]; exact fold_max_ne_top _ _ fun n _ => hs _
    have h := Held.step (W := 1024) _ _ _ hh hs hxt
    have hN : 2048 * (k1_t1_loop i).trips + 1024 = 1024 * (((i 1).val + 3) / 4) := by omega
    refine ⟨_, h.of_eq hN rfl fun r => ?_⟩
    · rw [fin1, dif_pos hc, pay1_at]
      congr 1
      · funext n
        exact vrow_ld x4 1 (2048 * (k1_t1_loop i).trips) _ (by rw [off12_eq i hc, ht]) _ _ _ _ (fun d => by simp)
      · funext n
        exact (half_at _ n c).trans (hsc ⟨n.val, by omega⟩)
  · have hN : 2048 * (k1_t1_loop i).trips = 1024 * (((i 1).val + 3) / 4) := by
      have : ¬ (((i 1).val + 3) / 4) % 2 = 1 := fun h => hc ((cond1_iff i).mpr h)
      omega
    refine ⟨_, hh.of_eq hN rfl fun r => ?_⟩
    · rw [fin1, dif_neg hc]
      rfl
end

end Cert.KernelIdeal.Own
end
-- ==== Proof.Math.Select.lean ====
/- Choosing the blocks of the greatest scores: each block's rank among the scores (greater first, equal ones in the
   blocks' order), the rounds that take the greatest and strike it out, and the sorted order. -/
module

public import Idealize.ShloMosaic.PureOps.Ideal
public import Idealize.ShloMosaic.Lib.SortFacts

@[expose] public section

noncomputable section

namespace Cert.Math

open Idealize.ShloMosaic

variable {n : ℕ} (g : Fin n → EReal)

/-- Block `a` comes before block `b`: its score is greater, or equal and its number smaller. -/
def Beats (a b : Fin n) : Prop := g b < g a ∨ (g a = g b ∧ a < b)

theorem Beats.trans {a b c : Fin n} (h : Beats g a b) (h' : Beats g b c) : Beats g a c := by
  rcases h with h | ⟨h, l⟩ <;> rcases h' with h' | ⟨h', l'⟩
  · exact .inl (h'.trans h)
  · exact .inl (h' ▸ h)
  · exact .inl (h ▸ h')
  · exact .inr ⟨h.trans h', l.trans l'⟩

theorem Beats.irrefl (a : Fin n) : ¬ Beats g a a := by
  rintro (h | ⟨-, h⟩) <;> exact lt_irrefl _ h

theorem Beats.total {a b : Fin n} (h : a ≠ b) : Beats g a b ∨ Beats g b a := by
  rcases lt_trichotomy (g a) (g b) with h1 | h1 | h1
  · exact .inr (.inl h1)
  · rcases lt_or_gt_of_ne h with h2 | h2
    · exact .inl (.inr ⟨h1, h2⟩)
    · exact .inr (.inr ⟨h1.symm, h2⟩)
  · exact .inl (.inl h1)

open Classical in
/-- How many blocks come before `b`. -/
def rank (b : Fin n) : ℕ := (Finset.univ.filter fun a => Beats g a b).card

theorem rank_lt {a b : Fin n} (h : Beats g a b) : rank g a < rank g b := by
  classical
  refine Finset.card_lt_card ⟨fun c hc => ?_, fun hs => ?_⟩
  · rw [Finset.mem_filter] at hc ⊢
    exact ⟨hc.1, hc.2.trans g h⟩
  · exact Beats.irrefl g a (Finset.mem_filter.mp (hs (Finset.mem_filter.mpr ⟨Finset.mem_univ a, h⟩))).2

theorem rank_injective : Function.Injective (rank g) := by
  intro a b h
  by_contra hne
  rcases Beats.total g hne with h' | h'
  · exact (rank_lt g h').ne h
  · exact (rank_lt g h').ne h.symm

theorem beats_iff {a b : Fin n} : Beats g a b ↔ rank g a < rank g b := by
  refine ⟨rank_lt g, fun h => ?_⟩
  have hne : a ≠ b := by rintro rfl; exact lt_irrefl _ h
  rcases Beats.total g hne with h' | h'
  · exact h'
  · exact absurd (rank_lt g h') (by omega)

theorem rank_lt_n (b : Fin n) : rank g b < n := by
  classical
  have : rank g b < (Finset.univ : Finset (Fin n)).card := by
    refine Finset.card_lt_card ⟨Finset.filter_subset _ _, fun hs => ?_⟩
    exact Beats.irrefl g b (Finset.mem_filter.mp (hs (Finset.mem_univ b))).2
  simpa using this

/-! ## The rounds -/

/-- The scores after `k` rounds: the first `k` blocks struck out. -/
def after (k : ℕ) (b : Fin n) : EReal := if rank g b < k then ⊥ else g b

theorem after_zero : after g 0 = g := funext fun b => if_neg (Nat.not_lt_zero _)

/-- The greatest score left, and the first block with it: struck out, they leave the scores after the next round; and where
    that greatest score is above minus infinity, that block is the next in rank. -/
theorem round {k : ℕ} {mx : EReal} {c : Fin n} (hle : ∀ b, after g k b ≤ mx) (hc : after g k c = mx)
    (hfirst : ∀ b, after g k b = mx → c ≤ b) :
    (∀ b, (if b = c then ⊥ else after g k b) = after g (k + 1) b)
      ∧ ∀ b, (b = c ∧ ⊥ < mx) ↔ (rank g b = k ∧ ⊥ < g b) := by
  classical
  by_cases hmx : mx = ⊥
  · subst hmx
    have hall : ∀ b, after g k b = ⊥ := fun b => le_bot_iff.mp (hle b)
    refine ⟨fun b => ?_, fun b => ?_⟩
    · rw [hall b, ite_self]
      unfold after
      split
      · rfl
      · rename_i h
        have := hall b
        rw [after, if_neg (by omega)] at this
        exact this.symm
    · refine ⟨fun h => absurd h.2 (lt_irrefl _), fun h => ?_⟩
      have := hall b
      rw [after, if_neg (by omega)] at this
      exact absurd h.2 (by rw [this]; exact lt_irrefl _)
  · have hpos : ⊥ < mx := bot_lt_iff_ne_bot.mpr hmx
    have hk : k ≤ rank g c := by
      by_contra h
      rw [after, if_pos (by omega)] at hc
      exact hmx hc.symm
    have hgc : g c = mx := by rw [after, if_neg (by omega)] at hc; exact hc
    have hset : ∀ a, Beats g a c → rank g a < k := by
      intro a ha
      by_contra h
      have hga : after g k a = g a := if_neg h
      rcases ha with ha | ⟨ha, hl⟩
      · exact absurd (hle a) (not_le.mpr (by rw [hga, ← hgc]; exact ha))
      · exact absurd (hfirst a (by rw [hga, ha, hgc])) (not_le.mpr hl)
    have hcard : rank g c ≤ k := by
      have : (Finset.univ.filter fun a => Beats g a c).card ≤ (Finset.range k).card :=
        Finset.card_le_card_of_injOn (rank g) (fun a ha => by
          simpa using hset a (by simpa using ha)) ((rank_injective g).injOn)
      simpa [rank] using this
    have hrank : rank g c = k := le_antisymm hcard hk
    have hiff : ∀ b, b = c ↔ rank g b = k := fun b =>
      ⟨fun h => h ▸ hrank, fun h => rank_injective g (h.trans hrank.symm)⟩
    refine ⟨fun b => ?_, fun b => ?_⟩
    · unfold after
      by_cases hb : b = c
      · rw [if_pos hb, if_pos (by rw [(hiff b).mp hb]; omega)]
      · rw [if_neg hb]
        have : rank g b ≠ k := fun h => hb ((hiff b).mpr h)
        by_cases h : rank g b < k
        · rw [if_pos h, if_pos (by omega)]
        · rw [if_neg h, if_neg (by omega)]
    · constructor
      · rintro ⟨rfl, -⟩
        exact ⟨hrank, hgc ▸ hpos⟩
      · rintro ⟨h, -⟩
        exact ⟨(hiff b).mpr h, hpos⟩

/-! ## The sorted order -/

open Classical in
/-- Of a list in the blocks' order, the stable sort by scores alone is the sort that breaks ties by number. -/
theorem stableSort_beats (l : List (Fin n)) (hl : l.Pairwise (· < ·)) :
    stableSort (fun a b => decide (g b < g a)) l = stableSort (fun a b => decide (Beats g a b)) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    refine decide_eq_decide.mpr ⟨fun h => .inl h, fun h => ?_⟩
    rcases h with h | ⟨-, h⟩
    · exact h
    · exact absurd h (lt_asymm hab)

/-- The stable sort by scores, greater first, puts at place `t` the block of rank `t`. -/
theorem rank_sortedFrom (t : Fin n) : rank g (sortedFrom (fun a b => decide (g b < g a)) t) = t.val := by
  classical
  have hs : sortedFrom (fun a b => decide (g b < g a)) = sortedFrom (fun a b => decide (Beats g a b)) := by
    have h : sortPositions n (fun a b => decide (g b < g a)) = sortPositions n (fun a b => decide (Beats g a b)) :=
      stableSort_beats g _ (List.pairwise_lt_finRange n)
    funext k
    unfold sortedFrom
    simp only [List.get_eq_getElem, h]
    rfl
  have hinj := sortedFrom_injective (fun a b : Fin n => decide (g b < g a))
  have hsur := sortedFrom_surjective (fun a b : Fin n => decide (g b < g a))
  have hmono : ∀ i j : Fin n, i < j → Beats g (sortedFrom (fun a b => decide (g b < g a)) i) (sortedFrom (fun a b => decide (g b < g a)) j) := by
    intro i j hij
    have hno := sortedFrom_noInversion (fun a b : Fin n => decide (Beats g a b)) (fun a b => decide (Beats g a b))
      (fun a b h => by
        rw [decide_eq_true_eq] at h; rw [decide_eq_false_iff_not]
        intro h'; exact Beats.irrefl g a (h.trans g h'))
      (fun a b h => h)
      (fun a b c h h' => by
        rw [decide_eq_false_iff_not] at h h' ⊢
        rw [beats_iff] at h h' ⊢
        omega) i j hij
    rw [← hs, decide_eq_false_iff_not] at hno
    rcases Beats.total g (fun h => hij.ne (hinj h)) with h | h
    · exact h
    · exact absurd h hno
  have hset : (Finset.univ.filter fun a => Beats g a (sortedFrom (fun a b => decide (g b < g a)) t))
      = (Finset.Iio t).map ⟨sortedFrom (fun a b => decide (g b < g a)), hinj⟩ := by
    ext a
    simp only [Finset.mem_filter, Finset.mem_univ, true_and, Finset.mem_map, Finset.mem_Iio, Function.Embedding.coeFn_mk]
    constructor
    · intro h
      obtain ⟨k, rfl⟩ := hsur a
      refine ⟨k, ?_, rfl⟩
      by_contra hk
      rcases eq_or_lt_of_le (not_lt.mp hk) with h' | h'
      · subst h'; exact Beats.irrefl g _ h
      · exact Beats.irrefl g _ (h.trans g (hmono _ _ h'))
    · rintro ⟨k, hk, rfl⟩
      exact hmono _ _ hk
  rw [rank]
  convert congrArg Finset.card hset using 1
  rw [Finset.card_map, Fin.card_Iio]

/-! ## The chosen blocks -/

/-- Among the blocks before `i`, scored by real numbers, and minus infinity from `i` on: a block has rank less than `k` and
    a score above minus infinity exactly when it stands at one of the first `k` places of the sorted order, and that
    place is less than `i`. -/
theorem chosen_iff (i : ℕ) (hfin : ∀ b : Fin n, b.val < i → ⊥ < g b) (hbot : ∀ b : Fin n, i ≤ b.val → g b = ⊥) (t : Fin n) :
    ⊥ < g (sortedFrom (fun a b => decide (g b < g a)) t) ↔ t.val < i := by
  classical
  have hr := rank_sortedFrom g t
  set c := sortedFrom (fun a b => decide (g b < g a)) t with hc
  constructor
  · intro h
    have hci : c.val < i := by
      by_contra h'
      rw [hbot c (by omega)] at h
      exact lt_irrefl _ h
    rw [← hr, rank]
    have hsub : (Finset.univ.filter fun a => Beats g a c).map Fin.valEmbedding ⊆ (Finset.range i).erase c.val := by
      intro x hx
      simp only [Finset.mem_map, Finset.mem_filter, Finset.mem_univ, true_and, Fin.valEmbedding_apply] at hx
      obtain ⟨a, ha, rfl⟩ := hx
      rw [Finset.mem_erase, Finset.mem_range]
      refine ⟨fun h' => ?_, ?_⟩
      · exact Beats.irrefl g c ((Fin.ext h' : a = c) ▸ ha)
      · by_contra h'
        have hb := hbot a (by omega)
        rcases ha with ha | ⟨ha, -⟩
        · rw [hb] at ha; exact not_lt_bot ha
        · rw [hb] at ha; rw [← ha] at h; exact lt_irrefl _ h
    have h1 := Finset.card_le_card hsub
    rw [Finset.card_map, Finset.card_erase_of_mem (Finset.mem_range.mpr hci), Finset.card_range] at h1
    omega
  · intro h
    by_contra hb
    have hb' : g c = ⊥ := le_bot_iff.mp (not_lt.mp hb)
    have hci : i ≤ c.val := by
      by_contra h'
      exact hb (hfin c (by omega))
    have hsub : Finset.range i ⊆ (Finset.univ.filter fun a => Beats g a c).map Fin.valEmbedding := by
      intro x hx
      rw [Finset.mem_range] at hx
      have hxn : x < n := by have := c.isLt; omega
      simp only [Finset.mem_map, Finset.mem_filter, Finset.mem_univ, true_and, Fin.valEmbedding_apply]
      exact ⟨⟨x, hxn⟩, .inl (by rw [hb']; exact hfin _ hx), rfl⟩
    have h1 := Finset.card_le_card hsub
    rw [Finset.card_range, Finset.card_map] at h1
    rw [rank] at hr
    omega

/-- A block is chosen: one of the first three, and not scored minus infinity. -/
def Chosen (b : Fin n) : Prop := rank g b < 3 ∧ ⊥ < g b

open Classical in
/-- A sum over the first three places of the sorted order, those before the `i`-th, is the sum over the chosen blocks. -/
theorem sum_chosen {M : Type} [AddCommMonoid M] (i : ℕ) (hfin : ∀ b : Fin n, b.val < i → ⊥ < g b)
    (hbot : ∀ b : Fin n, i ≤ b.val → g b = ⊥) (h3 : 3 ≤ n) (f : Fin n → M) :
    ∑ t : Fin 3, (if t.val < i then f (sortedFrom (fun a b => decide (g b < g a)) ⟨t.val, by omega⟩) else 0)
      = ∑ b : Fin n, if Chosen g b then f b else 0 := by
  rw [← Finset.sum_filter, ← Finset.sum_filter]
  refine Finset.sum_bij (fun t _ => sortedFrom (fun a b => decide (g b < g a)) ⟨t.val, by omega⟩) ?_ ?_ ?_ ?_
  · intro t ht
    rw [Finset.mem_filter] at ht ⊢
    exact ⟨Finset.mem_univ _, by rw [rank_sortedFrom]; exact t.isLt, (chosen_iff g i hfin hbot _).mpr ht.2⟩
  · intro t _ t' _ h
    have := sortedFrom_injective _ h
    exact Fin.ext (by simpa using congrArg Fin.val this)
  · intro b hb
    rw [Finset.mem_filter] at hb
    obtain ⟨k, rfl⟩ := sortedFrom_surjective (fun a b : Fin n => decide (g b < g a)) b
    have h1 := hb.2.1
    rw [rank_sortedFrom] at h1
    exact ⟨⟨k.val, h1⟩, Finset.mem_filter.mpr ⟨Finset.mem_univ _, (chosen_iff g i hfin hbot k).mp hb.2.2⟩, rfl⟩
  · intro t _; rfl

end Cert.Math

end
-- ==== Proof.Math.Rounds.lean ====
/- One round of picking the largest of 64 gates, the earliest of equals, as a program carries it out. -/
module

public import proofs.«01_k».proof.Proof.Math.Online
public import proofs.«01_k».proof.Proof.Math.Select

@[expose] public section

noncomputable section

namespace Cert.Math

open Idealize.ShloMosaic

/-- The largest gate. -/
def top (g : Fin 64 → EReal) : EReal := Finset.univ.fold max ⊥ g

/-- The number of the earliest block that has it. -/
def place (g : Fin 64 → EReal) : EReal := Finset.univ.fold min ⊤ fun b : Fin 64 => if g b = top g then ((b.val : ℝ) : EReal) else ((64 : ℝ) : EReal)

/-- The gates once that block is crossed out. -/
def next (g : Fin 64 → EReal) (b : Fin 64) : EReal := if ((b.val : ℝ) : EReal) = place g then ⊥ else g b

theorem le_top' (g : Fin 64 → EReal) (b : Fin 64) : g b ≤ top g := le_fold_max Finset.univ g b (Finset.mem_univ b)

/-- The earliest block, as a block. -/
theorem place_spec (g : Fin 64 → EReal) : ∃ c : Fin 64, place g = ((c.val : ℝ) : EReal) ∧ g c = top g ∧ ∀ b, g b = top g → c ≤ b := by
  obtain ⟨b₀, -, hb₀⟩ := fold_max_mem (Finset.univ : Finset (Fin 64)) g ⟨0, Finset.mem_univ _⟩
  obtain ⟨c, hc, hmin⟩ := Finset.exists_min_image (Finset.univ.filter fun b => g b = top g) id ⟨b₀, by simp [top, hb₀]⟩
  have hgc : g c = top g := (Finset.mem_filter.mp hc).2
  refine ⟨c, le_antisymm ?_ ?_, hgc, fun b hb => hmin b (by simp [hb])⟩
  · refine (Finset.fold_min_le _).mpr (Or.inr ⟨c, Finset.mem_univ c, ?_⟩)
    rw [if_pos hgc]
  · refine (Finset.le_fold_min _).mpr ⟨le_top, fun b _ => ?_⟩
    split
    · rename_i hb
      have h : c ≤ b := hmin b (by simp [hb])
      exact EReal.coe_le_coe_iff.mpr (Nat.cast_le.mpr h)
    · refine EReal.coe_le_coe_iff.mpr ?_
      have := c.isLt
      exact_mod_cast this.le

theorem same_place {b c : Fin 64} : ((b.val : ℝ) : EReal) = ((c.val : ℝ) : EReal) ↔ b = c := by
  rw [EReal.coe_eq_coe_iff, Nat.cast_inj, Fin.ext_iff]

/-- Round `k` leaves the gates with the `k + 1` first crossed out, -/
theorem next_after (g : Fin 64 → EReal) (k : ℕ) : next (after g k) = after g (k + 1) := by
  obtain ⟨c, hp, hc, hfirst⟩ := place_spec (after g k)
  funext b
  rw [← (round g (le_top' _) hc hfirst).1 b]
  unfold next
  rw [hp]
  exact if_congr same_place rfl rfl

/-- and picks the block of rank `k` if its gate is above minus infinity. -/
theorem picked (g : Fin 64 → EReal) (k : ℕ) (b : Fin 64) :
    (((b.val : ℝ) : EReal) = place (after g k) ∧ ⊥ < top (after g k)) ↔ (rank g b = k ∧ ⊥ < g b) := by
  obtain ⟨c, hp, hc, hfirst⟩ := place_spec (after g k)
  rw [← (round g (le_top' _) hc hfirst).2 b, hp, same_place]

/-- Three rounds pick the chosen blocks. -/
theorem three_rounds (g : Fin 64 → EReal) (b : Fin 64) :
    (((((b.val : ℝ) : EReal) = place g ∧ ⊥ < top g) ∨ (((b.val : ℝ) : EReal) = place (next g) ∧ ⊥ < top (next g)))
      ∨ (((b.val : ℝ) : EReal) = place (next (next g)) ∧ ⊥ < top (next (next g)))) ↔ Chosen g b := by
  have h0 := picked g 0 b
  have h1 := picked g 1 b
  have h2 := picked g 2 b
  rw [after_zero] at h0
  rw [show after g 1 = next g by rw [← next_after, after_zero]] at h1
  rw [show after g 2 = next (next g) by rw [← next_after, ← next_after, after_zero]] at h2
  rw [h0, h1, h2]
  unfold Chosen
  constructor
  · rintro ((⟨h, h'⟩ | ⟨h, h'⟩) | ⟨h, h'⟩) <;> exact ⟨by omega, h'⟩
  · rintro ⟨h, h'⟩
    have : rank g b = 0 ∨ rank g b = 1 ∨ rank g b = 2 := by omega
    tauto

end Cert.Math
end
-- ==== Proof.Math.Attention.lean ====
/- Block attention at one query, in real numbers: the weights, the gates, the quotient. -/
module

public import proofs.«01_k».proof.Proof.Math.Online
public import proofs.«01_k».proof.Proof.Math.Select

@[expose] public section

noncomputable section

namespace Cert.Math

open Idealize.ShloMosaic

/-- A query's weight of a key: the exponential of an eighth of their product. -/
def weight (q k : Fin 64 → ℝ) : ℝ := Real.exp ((∑ d, q d * k d) / 8)

/-- A query's gate of a block before its own: its product with the block's mean key. -/
def gateOf (i : ℕ) (q : Fin 64 → ℝ) (k : Fin 64 → Fin 256 → Fin 64 → ℝ) (b : Fin 64) : EReal :=
  if b.val < i then ((∑ d, q d * ((∑ s, k b s d) / 256) : ℝ) : EReal) else ⊥

/-- Key `s` of the query's own block counts up to the query's row. -/
def ownWeight (i : Fin 64) (r : Fin 256) (q : Fin 64 → ℝ) (k : Fin 64 → Fin 256 → Fin 64 → ℝ) (s : Fin 256) : ℝ :=
  if s.val ≤ r.val then weight q (k i s) else 0

open Classical in
/-- The weights times a column of values, summed: over the query's own block and over the chosen ones. -/
def weighted (i : Fin 64) (r : Fin 256) (q : Fin 64 → ℝ) (k : Fin 64 → Fin 256 → Fin 64 → ℝ) (v : Fin 64 → Fin 256 → EReal) : EReal :=
  (∑ s, (ownWeight i r q k s : EReal) * v i s)
    + ∑ b, if Chosen (gateOf i.val q k) b then ∑ s, (weight q (k b s) : EReal) * v b s else 0

open Classical in
/-- The sum of the weights. -/
def total (i : Fin 64) (r : Fin 256) (q : Fin 64 → ℝ) (k : Fin 64 → Fin 256 → Fin 64 → ℝ) : ℝ :=
  (∑ s, ownWeight i r q k s) + ∑ b, if Chosen (gateOf i.val q k) b then ∑ s, weight q (k b s) else 0

/-- The attention of query `r` of block `i` in one channel. -/
def attend (i : Fin 64) (r : Fin 256) (q : Fin 64 → ℝ) (k : Fin 64 → Fin 256 → Fin 64 → ℝ) (v : Fin 64 → Fin 256 → EReal) : EReal :=
  ((total i r q k)⁻¹ : ℝ) * weighted i r q k v

theorem weight_pos (q k : Fin 64 → ℝ) : 0 < weight q k := Real.exp_pos _

theorem ownWeight_nonneg (i : Fin 64) (r : Fin 256) (q : Fin 64 → ℝ) (k : Fin 64 → Fin 256 → Fin 64 → ℝ) (s : Fin 256) : 0 ≤ ownWeight i r q k s := by
  unfold ownWeight
  split
  · exact (weight_pos _ _).le
  · exact le_rfl

/-- The weights sum to something positive: the query's own key is among them. -/
theorem total_pos (i : Fin 64) (r : Fin 256) (q : Fin 64 → ℝ) (k : Fin 64 → Fin 256 → Fin 64 → ℝ) : 0 < total i r q k := by
  unfold total
  refine add_pos_of_pos_of_nonneg ?_ (Finset.sum_nonneg fun b _ => ?_)
  · refine Finset.sum_pos' (fun s _ => ownWeight_nonneg i r q k s) ⟨r, Finset.mem_univ r, ?_⟩
    unfold ownWeight
    rw [if_pos le_rfl]
    exact weight_pos _ _
  · split
    · exact Finset.sum_nonneg fun s _ => (weight_pos _ _).le
    · exact le_rfl

/-- With ones for values, the weighted sum is the total. -/
theorem weighted_one (i : Fin 64) (r : Fin 256) (q : Fin 64 → ℝ) (k : Fin 64 → Fin 256 → Fin 64 → ℝ) :
    weighted i r q k (fun _ _ => 1) = (total i r q k : EReal) := by
  unfold weighted total
  rw [EReal.coe_add, ← coe_sum, ← coe_sum]
  simp only [mul_one]
  congr 1
  refine Finset.sum_congr rfl fun b _ => ?_
  split
  · rw [← coe_sum]
  · rfl

/-- Two to a product scaled by an eighth over the logarithm of two is the weight. -/
theorem wt_scaled (q k : Fin 64 → ℝ) : wt ((∑ d, q d * k d) * ((1 / 8) * (Real.log 2)⁻¹) : ℝ) = weight q k := by
  rw [wt_coe, weight, Real.rpow_def_of_pos (by norm_num)]
  congr 1
  have : Real.log 2 ≠ 0 := (Real.log_pos (by norm_num)).ne'
  field_simp

/-- Keys counted through are keys counted block by block. -/
theorem sum_blocks (f : ℕ → EReal) : ∑ j ∈ Finset.range 16384, f j = ∑ b : Fin 64, ∑ s : Fin 256, f (256 * b.val + s.val) := by
  rw [Finset.sum_range, ← Fintype.sum_prod_type' (f := fun (b : Fin 64) (s : Fin 256) => f (256 * b.val + s.val))]
  refine (Fintype.sum_equiv (finProdFinEquiv (m := 64) (n := 256)) _ _ fun x => ?_).symm
  simp [finProdFinEquiv, add_comm]

end Cert.Math
end
-- ==== Proof.Math.Finish.lean ====
/- The quotient of two held sums is the attention of the query. -/
module

public import proofs.«01_k».proof.Proof.Math.Held
public import proofs.«01_k».proof.Proof.Math.Attention

@[expose] public section

noncomputable section

namespace Cert.Math

open Idealize.ShloMosaic

/-- The scale: an eighth over the logarithm of two. -/
abbrev lscale : EReal := (((1 / 8) * (Real.log 2)⁻¹ : ℝ) : EReal)

section
variable {R : Type} {own : R → EReal} {sc : ℕ → EReal} {va : R → ℕ → EReal}
variable (i : Fin 64) (c : Fin 256) (q : Fin 64 → ℝ) (k : Fin 64 → Fin 256 → Fin 64 → ℝ)

/-- A chosen block lies before the query's own. -/
theorem chosen_lt {b : Fin 64} (h : Chosen (gateOf i.val q k) b) : b.val < i.val := by
  by_contra hn
  have h2 := h.2
  rw [gateOf, if_neg hn] at h2
  exact lt_irrefl _ h2

open Classical in
/-- The sum a row holds once every group before the query's block is in. -/
theorem held_sum (r : R)
    (hsc : ∀ (b : Fin 64) (s : Fin 256), sc (256 * b.val + s.val)
      = (((∑ d, q d * k b s d) * ((1 / 8) * (Real.log 2)⁻¹) : ℝ) : EReal) + if Chosen (gateOf i.val q k) b then 0 else ⊥)
    (u : Fin 64 → Fin 256 → EReal) (hu : ∀ (b : Fin 64) (s : Fin 256), va r (256 * b.val + s.val) = u b s)
    (hown : own r = ∑ n : Fin 256, (ownWeight i c q k n : EReal) * va r (256 * i.val + n.val)) :
    own r + ∑ j ∈ Finset.range (1024 * ((i.val + 3) / 4)), (wt (sc j) : EReal) * va r j = weighted i c q k u := by
  have hzero : ∀ (b : Fin 64) (s : Fin 256), ¬ Chosen (gateOf i.val q k) b → wt (sc (256 * b.val + s.val)) = 0 := by
    intro b s hb
    rw [hsc, if_neg hb, EReal.add_bot, wt_bot]
  have hi := i.isLt
  have hext : ∑ j ∈ Finset.range (1024 * ((i.val + 3) / 4)), (wt (sc j) : EReal) * va r j
      = ∑ j ∈ Finset.range 16384, (wt (sc j) : EReal) * va r j := by
    refine Finset.sum_subset (fun j hj => ?_) fun j hj hn => ?_
    · rw [Finset.mem_range] at hj ⊢
      omega
    · rw [Finset.mem_range] at hj hn
      have h := hzero ⟨j / 256, by omega⟩ ⟨j % 256, by omega⟩ fun hc => by
        have := chosen_lt i q k hc
        dsimp only at this
        omega
      dsimp only at h
      rw [Nat.div_add_mod] at h
      rw [h, EReal.coe_zero, zero_mul]
  rw [hext, sum_blocks, hown]
  unfold weighted
  congr 1
  · exact Finset.sum_congr rfl fun n _ => by rw [hu]
  · refine Finset.sum_congr rfl fun b _ => ?_
    split
    · rename_i hb
      refine Finset.sum_congr rfl fun s _ => ?_
      rw [hu, hsc, if_pos hb, add_zero, wt_scaled]
    · rename_i hb
      refine Finset.sum_eq_zero fun s _ => ?_
      rw [hzero b s hb, EReal.coe_zero, zero_mul]

open Classical in
/-- The quotient. -/
theorem held_attend {m : EReal} {a : R → EReal} (h : Held own sc va (1024 * ((i.val + 3) / 4)) m a) (r o : R)
    (hsc : ∀ (b : Fin 64) (s : Fin 256), sc (256 * b.val + s.val)
      = (((∑ d, q d * k b s d) * ((1 / 8) * (Real.log 2)⁻¹) : ℝ) : EReal) + if Chosen (gateOf i.val q k) b then 0 else ⊥)
    (u : Fin 64 → Fin 256 → EReal) (hu : ∀ (b : Fin 64) (s : Fin 256), va r (256 * b.val + s.val) = u b s)
    (ho : ∀ (b : Fin 64) (s : Fin 256), va o (256 * b.val + s.val) = 1)
    (hown : ∀ r, own r = ∑ n : Fin 256, (ownWeight i c q k n : EReal) * va r (256 * i.val + n.val)) :
    Ideal.div (a r) (a o) = attend i c q k u := by
  rw [h.quotient own sc va r o (total i c q k) (total_pos i c q k)
    ((held_sum i c q k o hsc (fun _ _ => 1) ho (hown o)).trans (weighted_one i c q k)),
    held_sum i c q k r hsc u hu (hown r)]
  rfl
end

end Cert.Math
end
-- ==== Proof.Value.Query.lean ====
/- The queries with their bias lanes: which blocks a query takes. -/
module

public import proofs.«01_k».proof.Proof.Value.Read
public import proofs.«01_k».proof.Proof.Math.Rounds
public import proofs.«01_k».proof.Proof.Math.Finish

@[expose] public section

set_option maxRecDepth 16384

noncomputable section

namespace Cert.KernelIdeal.Own

open Cert.KernelIdeal.Gen
open Idealize.ShloMosaic Cert.Math

theorem posInf_bits : Ideal.ofBits FTy.f32 0x7F800000#32 = (⊤ : EReal) := by simp [Ideal.ofBits, Ideal.ieee]
theorem sixtyFour_bits : Ideal.ofBits FTy.f32 0x42800000#32 = ((64 : ℝ) : EReal) := by
  simp [Ideal.ofBits, Ideal.ieee]
  rw [← EReal.coe_mul]
  norm_num

/-- A block's number as a float. -/
theorem number_eq (b : Fin 64) : FloatOps.sitofp (F := Ideal) FTy.f32 (BitVec.ofNat 32 b.val) = ((b.val : ℝ) : EReal) := by
  have h : (BitVec.ofNat 32 b.val).toInt = (b.val : ℤ) := by revert b; decide
  show (((BitVec.ofNat 32 b.val).toInt : ℝ) : EReal) = _
  rw [h]
  simp

/-- The bits of three rounds, together. -/
theorem three_bits (A0 B0 A1 B1 A2 B2 : Prop) [Decidable A0] [Decidable B0] [Decidable A1] [Decidable B1] [Decidable A2] [Decidable B2] :
    IntOp.ori (IntOp.ori (IntOp.ori 0#1 (IntOp.andi (BitVec.ofBool (decide A0)) (BitVec.ofBool (decide B0))))
      (IntOp.andi (BitVec.ofBool (decide A1)) (BitVec.ofBool (decide B1)))) (IntOp.andi (BitVec.ofBool (decide A2)) (BitVec.ofBool (decide B2))) = 1#1
      ↔ ((A0 ∧ B0) ∨ (A1 ∧ B1)) ∨ (A2 ∧ B2) := by
  by_cases A0 <;> by_cases B0 <;> by_cases A1 <;> by_cases B1 <;> by_cases A2 <;> by_cases B2 <;> simp [*, IntOp.ori, IntOp.andi]

open Classical in
/-- Head 0's bias of block `b` for query `c`: nothing if the block is chosen, minus infinity otherwise. -/
theorem pay30_at (i : grid1.Coords) (v0 : Vec Ideal S256x128 .bf16) (v12 : Vec Ideal S64x128 .f32) (b : Fin 64) (c : Fin 256) :
    k1_pay30 (k1_pay23 (F := Ideal)) (k1_pay26 i v0 v12) k1_pay27 (k1_pay28 i v0 v12) (k1_pay29 i v0 v12) (ix2 b c)
      = if Chosen (fun b => k1_pay26 i v0 v12 (ix2 b c)) b then 0 else ⊥ := by
  unfold k1_pay30 k1_pay27 k1_pay29 k1_pay28 k1_pay23
  generalize k1_pay26 i v0 v12 = g
  dsimp only
  pointwise
  rw [Scalar.select_def]
  simp only [negInf_bits, posInf_bits, sixtyFour_bits, number_eq]
  refine if_congr (Iff.trans (three_bits _ _ _ _ _ _) (three_rounds (fun b => g (ix2 b c)) b)) rfl mask_eq

/-- Head 1's choice of block `b` for query `c`. -/
theorem pay39_at (a : BitVec 32) (v0 : FVec Ideal S256x128 .f32) (v12 : Vec Ideal S64x128 .f32) (b : Fin 64) (c : Fin 256) :
    k1_pay39 (k1_pay23 (F := Ideal)) (k1_pay35 a v0 laneIx blkIx v12) k1_pay36 (k1_pay37 a v0 laneIx blkIx v12)
        (k1_pay38 a v0 laneIx blkIx v12) (Scalar.ofBits .f32 0x42800000#32) (ix2 b c) = 1#1
      ↔ Chosen (fun b => k1_pay35 a v0 laneIx blkIx v12 (ix2 b c)) b := by
  unfold k1_pay39 k1_pay36 k1_pay38 k1_pay37 k1_pay23
  generalize k1_pay35 a v0 laneIx blkIx v12 = g
  dsimp only
  pointwise
  simp only [negInf_bits, posInf_bits, sixtyFour_bits, number_eq]
  exact Iff.trans (three_bits _ _ _ _ _ _) (three_rounds (fun b => g (ix2 b c)) b)

/-! ## Lanes -/

theorem select_one {α : Type} (c : BitVec 1) (a b : α) : Scalar.select c a b = if c = 1#1 then a else b := rfl

/-- Lane `d` of head `p`. -/
def lane (p : Fin 2) (d : Fin 64) : Fin 128 := ⟨64 * p.val + d.val, by omega⟩

theorem low_iff (x : Fin 128) : IntOp.andi (IntOp.cmpi CmpIPredicate.sge (BitVec.ofNat 32 x.val) 0#32)
    (IntOp.cmpi CmpIPredicate.slt (BitVec.ofNat 32 x.val) 64#32) = 1#1 ↔ x.val < 64 := by
  revert x; decide +kernel
theorem high_iff (x : Fin 128) : IntOp.andi (IntOp.cmpi CmpIPredicate.sge (BitVec.ofNat 32 x.val) 64#32)
    (IntOp.cmpi CmpIPredicate.slt (BitVec.ofNat 32 x.val) 128#32) = 1#1 ↔ ¬ x.val < 64 := by
  revert x; decide +kernel

/-- The 128 lanes are the two heads' 64. -/
theorem sum_lanes (f : Fin 128 → EReal) : ∑ x, f x = (∑ d, f (lane 0 d)) + ∑ d, f (lane 1 d) := by
  rw [Fin.sum_univ_add (a := 64) (b := 64) f]
  congr 1

theorem lane0_lt (d : Fin 64) : (lane 0 d).val < 64 := by simp [lane]
theorem lane1_not_lt (d : Fin 64) : ¬ (lane 1 d).val < 64 := by simp [lane]

theorem sum_low (f : Fin 128 → EReal) : ∑ x : Fin 128, Scalar.select (IntOp.andi (IntOp.cmpi CmpIPredicate.sge (BitVec.ofNat 32 x.val) 0#32)
    (IntOp.cmpi CmpIPredicate.slt (BitVec.ofNat 32 x.val) 64#32)) (f x) 0 = ∑ d, f (lane 0 d) := by
  rw [sum_lanes]
  simp only [select_one, low_iff, lane0_lt, lane1_not_lt, if_true, if_false, Finset.sum_const_zero, add_zero]
theorem sum_high (f : Fin 128 → EReal) : ∑ x : Fin 128, Scalar.select (IntOp.andi (IntOp.cmpi CmpIPredicate.sge (BitVec.ofNat 32 x.val) 64#32)
    (IntOp.cmpi CmpIPredicate.slt (BitVec.ofNat 32 x.val) 128#32)) (f x) 0 = ∑ d, f (lane 1 d) := by
  rw [sum_lanes]
  simp only [select_one, high_iff, lane0_lt, lane1_not_lt, not_true, not_false_iff, if_true, if_false, Finset.sum_const_zero, zero_add]

/-! ## The gates -/

/-- The gate of block `b` for query `c` of head `p` at query block `i`: minus infinity from the query's own block on. -/
def gate (p : Fin 2) (i : grid1.Coords) (x2 : Vec Ideal S256x128 .bf16) (x5 : Vec Ideal S64x128 .f32) (c : Fin 256) (b : Fin 64) : EReal :=
  if b.val < (i 1).val then ∑ d, x5 (ix2 b (lane p d)) * x2 (ix2 c (lane p d)) else ⊥

theorem self_sub {x : EReal} (h : ∃ r : ℝ, x = r) : x - x = 0 := by
  obtain ⟨r, rfl⟩ := h
  rw [← EReal.coe_sub, sub_self]; rfl

section
variable (i : grid1.Coords) (x2 : Vec Ideal S256x128 .bf16) (x5 : Vec Ideal S64x128 .f32) (hx5 : ∀ b l, ∃ r : ℝ, x5 (ix2 b l) = (r : EReal))
include hx5

theorem pay26_at (b : Fin 64) (c : Fin 256) : k1_pay26 i x2 x5 (ix2 b c) = gate 0 i x2 x5 c b := by
  unfold_payloads
  pointwise
  have hi := coord_lt i
  rw [sum_low, sum_low, sum_low, select_one, negInf_bits]
  simp only [fun b l => self_sub (hx5 b l), sub_zero, zero_mul, Finset.sum_const_zero, add_zero]
  exact if_congr (WordCmp.cmpi_slt_ofNat_eq_one_iff (by omega) (by omega)) rfl rfl

theorem pay35_at (b : Fin 64) (c : Fin 256) :
    k1_pay35 (BitVec.ofNat 32 (i 1).val) (k1_pay22 x2) laneIx blkIx x5 (ix2 b c) = gate 1 i x2 x5 c b := by
  unfold_payloads
  pointwise
  have hi := coord_lt i
  rw [sum_high, sum_high, sum_high, select_one, negInf_bits]
  simp only [fun b l => self_sub (hx5 b l), sub_zero, zero_mul, Finset.sum_const_zero, add_zero]
  exact if_congr (WordCmp.cmpi_slt_ofNat_eq_one_iff (by omega) (by omega)) rfl rfl
end

/-! ## The queries -/

open Classical in
/-- The bias of block `b`. -/
def bias (p : Fin 2) (i : grid1.Coords) (x2 : Vec Ideal S256x128 .bf16) (x5 : Vec Ideal S64x128 .f32) (c : Fin 256) (b : Fin 64) : EReal :=
  if Chosen (gate p i x2 x5 c) b then 0 else ⊥

theorem ld_rQ (x2 : Vec Ideal S256x128 .bf16) : View.ld x2 rQ = x2 := by
  funext j
  idx_vars j
  pointwise
theorem ld_rKm (x5 : Vec Ideal S64x128 .f32) : View.ld x5 rKm = x5 := by
  funext j
  idx_vars j
  pointwise

section
variable (i : grid1.Coords) (x2 : Vec Ideal S256x128 .bf16) (x5 : Vec Ideal S64x128 .f32)

theorem pay25_at (c : Fin 256) (l : Fin 128) : k1_pay25 x2 (ix2 c l) = if l.val < 64 then x2 (ix2 c l) else 0 := by
  unfold_payloads
  pointwise
  rw [select_one]
  exact if_congr (low_iff l) rfl rfl
theorem pay34_at (c : Fin 256) (l : Fin 128) : k1_pay34 (k1_pay22 x2) laneIx (ix2 c l) = if l.val < 64 then 0 else x2 (ix2 c l) := by
  unfold_payloads
  pointwise
  rw [select_one, ← ite_not]
  exact if_congr (by rw [high_iff l, not_not]) rfl rfl

theorem qo0_at (c : Fin 256) (l : Fin 128) : qo0 x2 (ix2 c l) = if l.val < 64 then x2 (ix2 c l) * lscale else 0 := by
  unfold qo0 k1_pay32
  rw [ld_rQ]
  pointwise
  rw [pay25_at, scale_eq]
  split <;> simp
theorem qo1_at (c : Fin 256) (l : Fin 128) : scaled (qo1 x2) (ix2 c l) = if l.val < 64 then 0 else x2 (ix2 c l) * lscale := by
  unfold scaled qo1
  rw [ld_rQ, pay34_at]
  split <;> simp

theorem qa0_at (hx5 : ∀ b l, ∃ r : ℝ, x5 (ix2 b l) = (r : EReal)) (c : Fin 256) (l : Fin 128) :
    qa0 i x2 x5 (ix2 c l) = if h : l.val < 64 then x2 (ix2 c l) * lscale else bias 0 i x2 x5 c ⟨l.val - 64, by omega⟩ := by
  unfold qa0
  rw [ld_rQ, ld_rKm]
  have hg : (fun b => k1_pay26 i x2 x5 (ix2 b c)) = gate 0 i x2 x5 c := funext fun b => pay26_at i x2 x5 hx5 b c
  have h : ∀ b, _ = bias 0 i x2 x5 c b := fun b => (pay30_at i x2 x5 b c).trans (by rw [hg]; rfl)
  generalize k1_pay30 (F := Ideal) _ _ _ _ _ = w at h
  unfold k1_pay31 k1_pay24
  dsimp only
  pointwise
  rw [pay25_at, scale_eq, select_one]
  by_cases hl : l.val < 64
  · rw [if_pos ((low_iff l).mpr hl), if_pos hl, dif_pos hl]
  · rw [if_neg (fun h => hl ((low_iff l).mp h)), dif_neg hl, dif_neg hl, h]

open Classical in
theorem qa1_at (hx5 : ∀ b l, ∃ r : ℝ, x5 (ix2 b l) = (r : EReal)) (c : Fin 256) (l : Fin 128) :
    qa1 i x2 x5 (ix2 c l) = if h : l.val < 64 then bias 1 i x2 x5 c ⟨l.val, h⟩ else x2 (ix2 c l) * lscale := by
  unfold qa1
  rw [ld_rQ, ld_rKm]
  have hg : (fun b => k1_pay35 (BitVec.ofNat 32 (i 1).val) (k1_pay22 x2) laneIx blkIx x5 (ix2 b c)) = gate 1 i x2 x5 c :=
    funext fun b => pay35_at i x2 x5 hx5 b c
  have h := fun b => pay39_at (BitVec.ofNat 32 (i 1).val) (k1_pay22 x2) x5 b c
  rw [hg] at h
  generalize k1_pay39 (F := Ideal) _ _ _ _ _ _ = w at h
  unfold k1_pay41 k1_pay33 k1_pay40
  dsimp only
  pointwise
  rw [pay34_at, scale_eq, select_one]
  by_cases hl : l.val < 64
  · rw [if_neg (fun h => (high_iff l).mp h hl), dif_pos hl, dif_pos hl, select_one]
    unfold bias
    exact if_congr (h ⟨l.val, hl⟩) rfl mask_eq
  · rw [if_pos ((high_iff l).mpr hl), if_neg hl, dif_neg hl]
end

end Cert.KernelIdeal.Own
end
-- ==== Proof.Value.Score.lean ====
/- The block the attention leaves, at one entry, from prepared keys: the attention of one query in one channel. -/
module

public import proofs.«01_k».proof.Proof.Value.Walk
public import proofs.«01_k».proof.Proof.Value.Query
public import proofs.«01_k».proof.Proof.Math.Attention
public import Idealize.ShloMosaic.Lib.Pipeline.ValueKit

@[expose] public section

set_option maxRecDepth 16384

noncomputable section

namespace Cert.KernelIdeal.Own

open Cert.KernelIdeal.Gen
open Idealize.ShloMosaic Cert.Math

/-! ## The block of the result -/

section
variable (i : grid1.Coords) (x2 : Vec Ideal S256x128 .bf16) (x3 : Vec Ideal S2x16384x128 .bf16) (x4 : Vec Ideal S128x16384 .bf16) (x5 : Vec Ideal S64x128 .f32)

theorem pay2_at (a : FVec Ideal S80x256 .f32) (d : Fin 64) (c : Fin 256) :
    k1_pay2 a (ix2 d c) = Ideal.div (a (ix2 ⟨d.val, by omega⟩ c)) (a (ix2 64 c)) := by
  unfold_payloads
  pointwise
theorem pay3_at (a : FVec Ideal S80x256 .f32) (d : Fin 64) (c : Fin 256) :
    k1_pay3 a (ix2 d c) = Ideal.div (a (ix2 ⟨d.val, by omega⟩ c)) (a (ix2 64 c)) := by
  unfold_payloads
  pointwise

/-- Rows 0 to 63 are head 0's quotients, -/
theorem outF_at0 (d : Fin 64) (c : Fin 256) : outF i x2 x3 x4 x5 (ix2 (lane 0 d) c)
    = Ideal.div (fin0 i x2 x3 x4 x5 (ix2 ⟨d.val, by omega⟩ c)) (fin0 i x2 x3 x4 x5 (ix2 64 c)) := by
  unfold outF
  rw [View.canon_cons_of_not_mem]
  · rw [show (ix2 (lane 0 d) c : S128x256.Idx) = rO0.emb (ix2 d c) from by funext a; apply Fin.ext; fin_cases a <;> simp [lane, Rect.emb_apply, ix2]]
    rw [View.canon_cons_emb, pay2_at]
  · rw [Rect.mem_set_unit]
    intro h
    have := (h 0).1
    simp [lane, ix2] at this
    omega

/-- rows 64 to 127 head 1's. -/
theorem outF_at1 (d : Fin 64) (c : Fin 256) : outF i x2 x3 x4 x5 (ix2 (lane 1 d) c)
    = Ideal.div (fin1 i x2 x3 x4 x5 (ix2 ⟨d.val, by omega⟩ c)) (fin1 i x2 x3 x4 x5 (ix2 64 c)) := by
  unfold outF
  rw [show (ix2 (lane 1 d) c : S128x256.Idx) = rO1.emb (ix2 d c) from by funext a; apply Fin.ext; fin_cases a <;> simp [lane, Rect.emb_apply, ix2]]
  rw [View.canon_cons_emb, pay3_at]
end

/-! ## Scores over prepared keys -/

/-- Key `s` of block `b`. -/
def key (b : Fin 64) (s : Fin 256) : Fin 16384 := ⟨256 * b.val + s.val, by omega⟩

/-- Real queries, and real keys prepared: each head's plane has the keys in its own lanes and the number of the key's
    block, one-hot, in the other's; and the means are the blocks' means. -/
structure Prepared (x2 : Vec Ideal S256x128 .bf16) (x3 : Vec Ideal S2x16384x128 .bf16) (x5 : Vec Ideal S64x128 .f32)
    (q : Fin 2 → Fin 256 → Fin 64 → ℝ) (k : Fin 2 → Fin 64 → Fin 256 → Fin 64 → ℝ) : Prop where
  query : ∀ p c d, x2 (ix2 c (lane p d)) = (q p c d : EReal)
  key0 : ∀ b s d, x3 (ix3 0 (key b s) (lane 0 d)) = (k 0 b s d : EReal)
  key1 : ∀ b s d, x3 (ix3 1 (key b s) (lane 1 d)) = (k 1 b s d : EReal)
  hot0 : ∀ b s d, x3 (ix3 0 (key b s) (lane 1 d)) = if d = b then 1 else 0
  hot1 : ∀ b s d, x3 (ix3 1 (key b s) (lane 0 d)) = if d = b then 1 else 0
  mean : ∀ p b d, x5 (ix2 b (lane p d)) = (((∑ s, k p b s d) / 256 : ℝ) : EReal)

section
variable (i : grid1.Coords) (x2 : Vec Ideal S256x128 .bf16) (x3 : Vec Ideal S2x16384x128 .bf16) (x4 : Vec Ideal S128x16384 .bf16) (x5 : Vec Ideal S64x128 .f32)
variable (q : Fin 2 → Fin 256 → Fin 64 → ℝ) (k : Fin 2 → Fin 64 → Fin 256 → Fin 64 → ℝ) (P : Prepared x2 x3 x5 q k) (c : Fin 256)

/-- A product of real keys and scaled real queries. -/
theorem scaled_sum (a b : Fin 64 → ℝ) : ∑ d, (b d : EReal) * ((a d : EReal) * lscale) = (((∑ d, a d * b d) * ((1 / 8) * (Real.log 2)⁻¹) : ℝ) : EReal) := by
  rw [Finset.sum_mul, ← coe_sum]
  refine Finset.sum_congr rfl fun d _ => ?_
  rw [← EReal.coe_mul, ← EReal.coe_mul]
  congr 1
  ring

/-- One-hot lanes pick out a lane. -/
theorem hot_sum (b : Fin 64) (f : Fin 64 → EReal) : ∑ d, (if d = b then (1 : EReal) else 0) * f d = f b := by
  simp only [ite_mul, one_mul, zero_mul, Finset.sum_ite_eq', Finset.mem_univ, if_true]

theorem keyScore_key (p : Fin 2) (w : FVec Ideal S256x128 .bf16) (b : Fin 64) (s : Fin 256) :
    keyScore x3 p w c (256 * b.val + s.val)
      = (∑ d, x3 (ix3 p (key b s) (lane 0 d)) * w (ix2 c (lane 0 d))) + ∑ d, x3 (ix3 p (key b s) (lane 1 d)) * w (ix2 c (lane 1 d)) := by
  rw [keyScore_of x3 p w c _ (by omega)]
  exact sum_lanes fun l => x3 (ix3 p (key b s) l) * w (ix2 c l)

/-- No score is plus infinity. -/
theorem sel_ne_top (sc : ℕ → EReal) (hbig : ∀ j, 16384 ≤ j → sc j = ⊥) (h : ∀ (b : Fin 64) (s : Fin 256), ∃ (r : ℝ) (e : EReal), e ≤ 0 ∧ sc (256 * b.val + s.val) = r + e) (j : ℕ) : sc j ≠ ⊤ := by
  by_cases hj : j < 16384
  · obtain ⟨r, e, he, hr⟩ := h ⟨j / 256, by omega⟩ ⟨j % 256, by omega⟩
    dsimp only at hr
    rw [Nat.div_add_mod] at hr
    rw [hr]
    exact ne_of_lt (EReal.add_lt_top (EReal.coe_ne_top r) (ne_of_lt (lt_of_le_of_lt he EReal.zero_lt_top)))
  · rw [hbig j (by omega)]
    exact bot_ne_top

/-- The own block's weight of a key. -/
theorem own_wt (i' : Fin 64) (Q : Fin 64 → ℝ) (K : Fin 64 → Fin 256 → Fin 64 → ℝ) (n : Fin 256) (s : Fin 256 → EReal)
    (hs : ∀ n, s n = (((∑ d, Q d * K i' n d) * ((1 / 8) * (Real.log 2)⁻¹) : ℝ) : EReal)) :
    wt (ownScore s c n) = ownWeight i' c Q K n ∧ ownScore s c n ≠ ⊤ := by
  unfold ownScore ownWeight
  by_cases h : n.val ≤ c.val
  · rw [if_pos h, if_pos h, hs]
    exact ⟨wt_scaled _ _, EReal.coe_ne_top _⟩
  · rw [if_neg h, if_neg h]
    exact ⟨wt_bot, bot_ne_top⟩

theorem keyVal_key (p : Fin 2) (r : Fin 80) (b : Fin 64) (s : Fin 256) :
    keyVal x4 p r (256 * b.val + s.val) = vrow (fun d n => x4 (ix2 (lane p d) n)) r (key b s) := by
  rw [keyVal, dif_pos (by omega)]
  rfl

include P

theorem mean_real (b : Fin 64) (l : Fin 128) : ∃ r : ℝ, x5 (ix2 b l) = (r : EReal) := by
  by_cases h : l.val < 64
  · rw [show l = lane 0 ⟨l.val, h⟩ from Fin.ext (by simp [lane])]
    exact ⟨_, P.mean 0 b _⟩
  · rw [show l = lane 1 ⟨l.val - 64, by omega⟩ from Fin.ext (by simp [lane]; omega)]
    exact ⟨_, P.mean 1 b _⟩

/-- The gates are the real ones. -/
theorem gate_eq (p : Fin 2) : gate p i x2 x5 c = gateOf (i 1).val (q p c) (k p) := by
  funext b
  unfold gate gateOf
  refine if_congr Iff.rfl ?_ rfl
  rw [← coe_sum]
  refine Finset.sum_congr rfl fun d _ => ?_
  rw [P.mean, P.query, ← EReal.coe_mul, mul_comm]

theorem own_score0 (b : Fin 64) (s : Fin 256) : keyScore x3 0 (qo0 x2) c (256 * b.val + s.val)
    = (((∑ d, q 0 c d * k 0 b s d) * ((1 / 8) * (Real.log 2)⁻¹) : ℝ) : EReal) := by
  rw [keyScore_key]
  simp only [qo0_at, lane0_lt, lane1_not_lt, if_true, if_false, mul_zero, Finset.sum_const_zero, add_zero, P.key0, P.query]
  exact scaled_sum _ _
theorem own_score1 (b : Fin 64) (s : Fin 256) : keyScore x3 1 (scaled (qo1 x2)) c (256 * b.val + s.val)
    = (((∑ d, q 1 c d * k 1 b s d) * ((1 / 8) * (Real.log 2)⁻¹) : ℝ) : EReal) := by
  rw [keyScore_key]
  simp only [qo1_at, lane0_lt, lane1_not_lt, if_true, if_false, mul_zero, Finset.sum_const_zero, zero_add, P.key1, P.query]
  exact scaled_sum _ _

open Classical in
theorem sel_score0 (b : Fin 64) (s : Fin 256) : sc0 i x2 x3 x5 c (256 * b.val + s.val)
    = (((∑ d, q 0 c d * k 0 b s d) * ((1 / 8) * (Real.log 2)⁻¹) : ℝ) : EReal) + if Chosen (gateOf (i 1).val (q 0 c) (k 0)) b then 0 else ⊥ := by
  rw [sc0, keyScore_key]
  simp only [qa0_at i x2 x5 (mean_real x2 x3 x5 q k P), lane0_lt, lane1_not_lt, dif_pos, dif_neg, not_false_iff, P.key0, P.hot0, P.query]
  rw [scaled_sum, show (fun d : Fin 64 => (if d = b then (1 : EReal) else 0) * bias 0 i x2 x5 c ⟨(lane 1 d).val - 64, by have := d.isLt; simp [lane]⟩)
    = fun d => (if d = b then (1 : EReal) else 0) * bias 0 i x2 x5 c d from by funext d; congr 2; apply Fin.ext; simp [lane], hot_sum]
  rw [bias, gate_eq i x2 x3 x5 q k P]
open Classical in
theorem sel_score1 (b : Fin 64) (s : Fin 256) : sc1 i x2 x3 x5 c (256 * b.val + s.val)
    = (((∑ d, q 1 c d * k 1 b s d) * ((1 / 8) * (Real.log 2)⁻¹) : ℝ) : EReal) + if Chosen (gateOf (i 1).val (q 1 c) (k 1)) b then 0 else ⊥ := by
  rw [sc1, keyScore_key]
  simp only [qa1_at i x2 x5 (mean_real x2 x3 x5 q k P), lane0_lt, lane1_not_lt, dif_pos, dif_neg, not_false_iff, P.key1, P.hot1, P.query]
  rw [scaled_sum, show (fun d : Fin 64 => (if d = b then (1 : EReal) else 0) * bias 1 i x2 x5 c ⟨(lane 0 d).val, lane0_lt d⟩)
    = fun d => (if d = b then (1 : EReal) else 0) * bias 1 i x2 x5 c d from by funext d; congr 2; apply Fin.ext; simp [lane], hot_sum]
  rw [bias, gate_eq i x2 x3 x5 q k P, add_comm]

/-- The block's number. -/
abbrev blockOf (i : grid1.Coords) : Fin 64 := ⟨(i 1).val, coord_lt i⟩

/-- Head 0's rows of the block are its attention. -/
theorem outF_attend0 (d : Fin 64) : outF i x2 x3 x4 x5 (ix2 (lane 0 d) c)
    = attend (blockOf i) c (q 0 c) (k 0) (fun b s => x4 (ix2 (lane 0 d) (key b s))) := by
  have ho := own_score0 x2 x3 x5 q k P c (blockOf i)
  have hw := fun n => own_wt c (blockOf i) (q 0 c) (k 0) n (fun n => keyScore x3 0 (qo0 x2) c (256 * (i 1).val + n.val)) ho
  have hs := sel_score0 i x2 x3 x5 q k P c
  have htop := sel_ne_top (sc0 i x2 x3 x5 c) (fun j hj => dif_neg (by omega)) fun b s => ⟨_, _, by
    split
    · exact le_rfl
    · exact bot_le, hs b s⟩
  obtain ⟨m, hm⟩ := fin0_held i x2 x3 x4 x5 c (fun n => (hw n).2) (by
    unfold own0 ownScore
    rw [if_pos (show (0 : Fin 256).val ≤ c.val from Nat.zero_le _)]
    exact fun h => EReal.coe_ne_bot _ ((ho 0).symm.trans h)) htop
  rw [outF_at0]
  refine held_attend (blockOf i) c (q 0 c) (k 0) hm ⟨d.val, by omega⟩ 64 hs _ (fun b s => ?_) (fun b s => ?_) fun r => ?_
  · rw [keyVal_key, vrow, dif_pos d.isLt]
  · rw [keyVal_key, vrow, dif_neg (by decide)]
  · unfold ownSum0
    refine Finset.sum_congr rfl fun n _ => ?_
    rw [own0, (hw n).1]

/-- Head 1's rows of the block are its attention. -/
theorem outF_attend1 (d : Fin 64) : outF i x2 x3 x4 x5 (ix2 (lane 1 d) c)
    = attend (blockOf i) c (q 1 c) (k 1) (fun b s => x4 (ix2 (lane 1 d) (key b s))) := by
  have ho := own_score1 x2 x3 x5 q k P c (blockOf i)
  have hw := fun n => own_wt c (blockOf i) (q 1 c) (k 1) n (fun n => keyScore x3 1 (scaled (qo1 x2)) c (256 * (i 1).val + n.val)) ho
  have hs := sel_score1 i x2 x3 x5 q k P c
  have htop := sel_ne_top (sc1 i x2 x3 x5 c) (fun j hj => dif_neg (by omega)) fun b s => ⟨_, _, by
    split
    · exact le_rfl
    · exact bot_le, hs b s⟩
  obtain ⟨m, hm⟩ := fin1_held i x2 x3 x4 x5 c (fun n => (hw n).2) (by
    unfold own1 ownScore
    rw [if_pos (show (0 : Fin 256).val ≤ c.val from Nat.zero_le _)]
    exact fun h => EReal.coe_ne_bot _ ((ho 0).symm.trans h)) htop
  rw [outF_at1]
  refine held_attend (blockOf i) c (q 1 c) (k 1) hm ⟨d.val, by omega⟩ 64 hs _ (fun b s => ?_) (fun b s => ?_) fun r => ?_
  · rw [keyVal_key, vrow, dif_pos d.isLt]
  · rw [keyVal_key, vrow, dif_neg (by decide)]
  · unfold ownSum1
    refine Finset.sum_congr rfl fun n _ => ?_
    rw [own1, (hw n).1]

end

end Cert.KernelIdeal.Own
end
-- ==== Proof.Math.Layer.lean ====
/- The attention of every head, block and query over the two arrays. -/
module

public import proofs.«01_k».proof.Proof.Math.Attention
public import proofs.«01_k».proof.Proof.Math.Online
public import Idealize.ShloMosaic.Lib.Pointwise

@[expose] public section

noncomputable section

namespace Cert.Math

open Idealize.ShloMosaic

/-- Head `h`'s query at row `r` of block `i`: lane `d`. -/
def queryOf (A : Fin 16384 → Fin 11264 → ℝ) (h : Fin 16) (i : Fin 64) (r : Fin 256) (d : Fin 64) : ℝ :=
  A ⟨256 * i.val + r.val, by omega⟩ ⟨5120 + (64 * h.val + d.val), by omega⟩
/-- Its key at row `s` of block `b`. -/
def keyOf (A : Fin 16384 → Fin 11264 → ℝ) (h : Fin 16) (b : Fin 64) (s : Fin 256) (d : Fin 64) : ℝ :=
  A ⟨256 * b.val + s.val, by omega⟩ ⟨6144 + (64 * h.val + d.val), by omega⟩
/-- Its value's channel `d` there. -/
def valueOf (V : Fin 16384 → Fin 1024 → EReal) (h : Fin 16) (d : Fin 64) (b : Fin 64) (s : Fin 256) : EReal :=
  V ⟨256 * b.val + s.val, by omega⟩ ⟨64 * h.val + d.val, by omega⟩

/-- Channel `d` of head `h`'s attention, at row `r` of block `i`. -/
def layer (A : Fin 16384 → Fin 11264 → ℝ) (V : Fin 16384 → Fin 1024 → EReal) (h : Fin 16) (d : Fin 64) (i : Fin 64) (r : Fin 256) : EReal :=
  attend i r (queryOf A h i r) (keyOf A h) (valueOf V h d)

theorem layer_congr (A : Fin 16384 → Fin 11264 → ℝ) (V : Fin 16384 → Fin 1024 → EReal) {h h' : Fin 16} {d d' i i' : Fin 64} {r r' : Fin 256}
    (eh : h = h') (ed : d = d') (ei : i = i') (er : r = r') : layer A V h d i r = layer A V h' d' i' r' := by
  subst eh ed ei er
  rfl

theorem twoFiftySix_bits : Ideal.ofBits FTy.f32 0x43800000#32 = ((256 : ℝ) : EReal) := by
  simp [Ideal.ofBits, Ideal.ieee]
  rw [← EReal.coe_mul]
  norm_num

/-- A real over 256. -/
theorem div_256 (x : ℝ) : Ideal.div (x : EReal) (Ideal.ofBits FTy.f32 0x43800000#32) = ((x / 256 : ℝ) : EReal) := by
  have hne : ((256 : ℝ) : EReal) ≠ 0 := by
    rw [← EReal.coe_zero]
    exact fun h => absurd (EReal.coe_eq_coe_iff.mp h) (by norm_num)
  rw [twoFiftySix_bits, Ideal.div, if_neg hne, ← EReal.coe_inv, ← EReal.coe_mul, div_eq_mul_inv]

end Cert.Math

end
-- ==== Proof.Value.Final.lean ====
/- The attention call's result, whole: every head's attention over the launched arrays. -/
module

public import proofs.«01_k».proof.Proof.Value.Arrays
public import proofs.«01_k».proof.Proof.Value.Score
public import proofs.«01_k».proof.Proof.Math.Layer

@[expose] public section

set_option maxRecDepth 16384

noncomputable section

namespace Cert.KernelIdeal.Own

open Cert.KernelIdeal.Gen
open Idealize.ShloMosaic Idealize.ShloMosaic.TcCoe Cert.Math

theorem win1_0_index : ∀ t : Fin cfg1.N, win1_0.index t = ![(grid1.coords t 1).val, 40 + (grid1.coords t 0).val] :=
  (by decide +kernel : ∀ t : Fin grid1.N, _)
theorem win1_1_index : ∀ t : Fin cfg1.N, win1_1.index t = ![0, 0, (grid1.coords t 0).val] :=
  (by decide +kernel : ∀ t : Fin grid1.N, _)
theorem win1_2_index : ∀ t : Fin cfg1.N, win1_2.index t = ![(grid1.coords t 0).val, 0] :=
  (by decide +kernel : ∀ t : Fin grid1.N, _)
theorem win1_3_index : ∀ t : Fin cfg1.N, win1_3.index t = ![0, (grid1.coords t 0).val] :=
  (by decide +kernel : ∀ t : Fin grid1.N, _)
theorem win1_4_index : ∀ t : Fin cfg1.N, win1_4.index t = ![(grid1.coords t 0).val, (grid1.coords t 1).val] :=
  (by decide +kernel : ∀ t : Fin grid1.N, _)

variable (m : (ℓ : Loc nD τ sig) → Buf (Elt Ideal) ℓ) (c : Dev nD)

/-- The launched queries and keys as reals, -/
def realArg (j : Fin 16384) (n : Fin 11264) : ℝ := EReal.toReal (arg0 m c (ix2 j n))
/-- and the values. -/
def valueArg (j : Fin 16384) (n : Fin 1024) : EReal := arg1 m c (ix2 j n)

/-- The head a grid point's lanes `64 p …` belong to. -/
def headOf (i : grid1.Coords) (p : Fin 2) : Fin 16 := ⟨2 * (i 0).val + p.val, by have : (i 0).val < 8 := (i 0).isLt; omega⟩

variable (hreal : ∀ (j : Fin 16384) (n : Fin 11264), 5120 ≤ n.val → n.val < 7168 → arg0 m c (ix2 j n) = (realArg m c j n : EReal))

theorem queries_block (t : Fin cfg1.N) (p : Fin 2) (r : Fin 256) (d : Fin 64) :
    iblk1 (W2 m) c 0 t (ix2 r (lane p d)) = arg0 m c (ix2 ⟨256 * (blockOf (grid1.coords t)).val + r.val, by omega⟩
      ⟨5120 + (64 * (headOf (grid1.coords t) p).val + d.val), by omega⟩) := by
  have hi : (grid1.coords t 0).val < 8 := (grid1.coords t 0).isLt
  blk_simp [iblk1]
  refine (congrFun (W2_arg0 m c) _).trans (congrArg (m _) ?_)
  blk_ext [win1_0_index, lane, headOf, blockOf]

theorem aug_block (t : Fin cfg1.N) (p : Fin 2) (j : Fin 16384) (l : Fin 128) :
    iblk1 (W2 m) c 1 t (ix3 p j l) = augOf m c p j ⟨128 * (grid1.coords t 0).val + l.val, by have : (grid1.coords t 0).val < 8 := (grid1.coords t 0).isLt; omega⟩ := by
  have hi : (grid1.coords t 0).val < 8 := (grid1.coords t 0).isLt
  blk_simp [iblk1]
  rw [← W2_aug]
  refine congrArg (W2 m c _) ?_
  blk_ext [win1_1_index]

theorem vals_block (t : Fin cfg1.N) (p : Fin 2) (d : Fin 64) (b : Fin 64) (s : Fin 256) :
    iblk1 (W2 m) c 2 t (ix2 (lane p d) (key b s)) = valueOf (valueArg m c) (headOf (grid1.coords t) p) d b s := by
  have hi : (grid1.coords t 0).val < 8 := (grid1.coords t 0).isLt
  blk_simp [iblk1]
  unfold valueOf valueArg
  rw [← W2_vals]
  refine congrArg (W2 m c _) ?_
  blk_ext [win1_2_index, lane, headOf, key]

theorem means_block (t : Fin cfg1.N) (b : Fin 64) (l : Fin 128) :
    iblk1 (W2 m) c 3 t (ix2 b l) = meanAt m c b ⟨128 * (grid1.coords t 0).val + l.val, by have : (grid1.coords t 0).val < 8 := (grid1.coords t 0).isLt; omega⟩ := by
  have hi : (grid1.coords t 0).val < 8 := (grid1.coords t 0).isLt
  blk_simp [iblk1]
  rw [← W2_means]
  refine congrArg (W2 m c _) ?_
  blk_ext [win1_3_index]

include hreal in
/-- A grid point's blocks are what its two heads' attentions take. -/
theorem prepared (t : Fin cfg1.N) : Prepared (iblk1 (W2 m) c 0 t) (iblk1 (W2 m) c 1 t) (iblk1 (W2 m) c 3 t)
    (fun p r => queryOf (realArg m c) (headOf (grid1.coords t) p) (blockOf (grid1.coords t)) r) (fun p => keyOf (realArg m c) (headOf (grid1.coords t) p)) := by
  have hi : (grid1.coords t 0).val < 8 := (grid1.coords t 0).isLt
  refine ⟨fun p r d => ?_, fun b s d => ?_, fun b s d => ?_, fun b s d => ?_, fun b s d => ?_, fun p b d => ?_⟩
  · rw [queries_block]
    exact hreal _ _ (by show 5120 ≤ 5120 + _; omega) (by show 5120 + _ < 7168; have := (headOf (grid1.coords t) p).isLt; omega)
  · rw [aug_block]
    unfold augOf keyOf
    rw [if_pos (show (0 : Fin 2).val = 0 from rfl), if_pos (by simp only [lane]; omega)]
    refine (hreal _ _ (by simp only; omega) (by simp only [lane]; omega)).trans (congrArg _ (congrArg₂ _ (Fin.ext rfl) (Fin.ext ?_)))
    simp only [lane, headOf]
    omega
  · rw [aug_block]
    unfold augOf keyOf
    rw [if_neg (by decide), if_neg (by simp only [lane]; omega)]
    refine (hreal _ _ (by simp only; omega) (by simp only [lane]; omega)).trans (congrArg _ (congrArg₂ _ (Fin.ext rfl) (Fin.ext ?_)))
    simp only [lane, headOf]
    omega
  · rw [aug_block]
    unfold augOf
    rw [if_pos (show (0 : Fin 2).val = 0 from rfl), if_neg (by simp only [lane]; omega)]
    refine if_congr ?_ rfl rfl
    simp only [lane, key, Fin.ext_iff]
    omega
  · rw [aug_block]
    unfold augOf
    rw [if_neg (by decide), if_pos (by simp only [lane]; omega)]
    refine if_congr ?_ rfl rfl
    simp only [lane, key, Fin.ext_iff]
    omega
  · rw [means_block]
    unfold meanAt
    rw [← div_256, ← coe_sum]
    refine congrArg (Ideal.div · _) (Finset.sum_congr rfl fun s _ => ?_)
    refine (hreal _ _ (by simp only; omega) (by simp only [lane]; omega)).trans (congrArg _ (congrArg₂ _ (Fin.ext rfl) (Fin.ext ?_)))
    simp only [lane, headOf]
    omega

include hreal in
/-- The call's result: channel `d` of head `h`, for row `r` of block `i`. -/
theorem result_arr : (dat1 (W2 m) c).arrAt 4 cfg1.N = fun y : S1024x16384.Idx =>
    layer (realArg m c) (valueArg m c) ⟨(y 0).val / 64, by have : (y 0).val < 1024 := (y 0).isLt; omega⟩ ⟨(y 0).val % 64, Nat.mod_lt _ (by decide)⟩
      ⟨(y 1).val / 256, by have : (y 1).val < 16384 := (y 1).isLt; omega⟩ ⟨(y 1).val % 256, Nat.mod_lt _ (by decide)⟩ := by
  refine (dat1 (W2 m) c).arrAt_eq_of_covers 4 _ (by decide +kernel) fun t hf y => ?_
  blk_simp [win1_4_index]
  rw [after1_4]
  obtain ⟨l, r, rfl⟩ : ∃ (l : Fin 128) (r : Fin 256), y = ix2 l r := ⟨y 0, y 1, eq_ix2 y⟩
  have hi : (grid1.coords t 0).val < 8 := (grid1.coords t 0).isLt
  have hj : (grid1.coords t 1).val < 64 := (grid1.coords t 1).isLt
  have hl : ∃ (p : Fin 2) (d : Fin 64), l = lane p d :=
    ⟨⟨l.val / 64, by omega⟩, ⟨l.val % 64, Nat.mod_lt _ (by decide)⟩, Fin.ext (by simp only [lane]; omega)⟩
  obtain ⟨p, d, rfl⟩ := hl
  have hp : outF (grid1.coords t) (iblk1 (W2 m) c 0 t) (iblk1 (W2 m) c 1 t) (iblk1 (W2 m) c 2 t) (iblk1 (W2 m) c 3 t) (ix2 (lane p d) r)
      = layer (realArg m c) (valueArg m c) (headOf (grid1.coords t) p) d (blockOf (grid1.coords t)) r := by
    have P := prepared m c hreal t
    have hv : (fun b s => iblk1 (W2 m) c 2 t (ix2 (lane p d) (key b s))) = valueOf (valueArg m c) (headOf (grid1.coords t) p) d :=
      funext fun b => funext fun s => vals_block m c t p d b s
    unfold layer
    rw [← hv]
    fin_cases p
    · exact outF_attend0 _ _ _ _ _ _ _ P r d
    · exact outF_attend1 _ _ _ _ _ _ _ P r d
  refine hp.trans (layer_congr _ _ (Fin.ext ?_) (Fin.ext ?_) (Fin.ext ?_) (Fin.ext ?_))
  · show 2 * (grid1.coords t 0).val + p.val = ((grid1.coords t 0).val * 128 + (64 * p.val + d.val)) / 64
    omega
  · show d.val = ((grid1.coords t 0).val * 128 + (64 * p.val + d.val)) % 64
    omega
  · show (grid1.coords t 1).val = ((grid1.coords t 1).val * 256 + r.val) / 256
    omega
  · show r.val = ((grid1.coords t 1).val * 256 + r.val) % 256
    omega

end Cert.KernelIdeal.Own

end
-- ==== Proof.Ref.Stages.lean ====
/- The reference attention, stage by stage. -/
module

public import proofs.«01_k».proof.Proof.Gen.ReferenceIdeal.Run
public import Idealize.ShloMosaic.Lib.Pointwise

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe

variable (X : FVec Ideal S16384x11264 .bf16) (Y : FVec Ideal S16384x1024 .bf16)

/-- The queries, head by head, -/
def qs : FVec Ideal S16x64x256x64 .f32 :=
  transpose S16x64x256x64 [2, 0, 1, 3] (shapeCast S64x256x16x64 (extf .f32 (extractStridedSlice S16384x1024 ![0, 5120] X slices_S16384x11264_S16384x1024_0_5120) bitsLt_bf16_f32) shapeCasts_S16384x1024_S64x256x16x64) transposes_S64x256x16x64_S16x64x256x64_2_0_1_3
/-- the keys -/
def ks : FVec Ideal S16x64x256x64 .f32 :=
  transpose S16x64x256x64 [2, 0, 1, 3] (shapeCast S64x256x16x64 (extf .f32 (extractStridedSlice S16384x1024 ![0, 6144] X slices_S16384x11264_S16384x1024_0_6144) bitsLt_bf16_f32) shapeCasts_S16384x1024_S64x256x16x64) transposes_S64x256x16x64_S16x64x256x64_2_0_1_3
/-- and the values. -/
def vs : FVec Ideal S16x64x256x64 .f32 :=
  transpose S16x64x256x64 [2, 0, 1, 3] (shapeCast S64x256x16x64 (extf .f32 Y bitsLt_bf16_f32) shapeCasts_S16384x1024_S64x256x16x64) transposes_S64x256x16x64_S16x64x256x64_2_0_1_3

/-- The blocks' mean keys. -/
def means : FVec Ideal S16x64x64 .f32 :=
  Host.divf (Host.reduceAdd (ks X) (constant (F := Ideal) S_ .f32 0x00000000#32) reducesTo_S16x64x256x64_S16x64x64_d2 h_S_) (broadcastInDim S16x64x64 ![] bcast_S_S16x64x64 (constant (F := Ideal) S_ .f32 0x43800000#32))

/-- The gates: a query's products with the mean keys of the blocks before its own. -/
def gates : FVec Ideal S16x64x256x64 .f32 :=
  select (broadcastInDim S16x64x256x64 ![1, 2, 3] bcast_S64x1x64_S16x64x256x64_1_2_3 (cmpi .slt (broadcastInDim S64x1x64 ![0, 1, 2] bcast_S1x1x64_S64x1x64_0_1_2 (broadcastInDim S1x1x64 ![2] bcast_S64_S1x1x64_2 (iotaInDim S64 32 0))) (broadcastInDim S64x1x64 ![0, 1, 2] bcast_S64x1x1_S64x1x64_0_1_2 (broadcastInDim S64x1x1 ![0] bcast_S64_S64x1x1_0 (iotaInDim S64 32 0)))))
    (Host.dotGeneral dot_S16x64x256x64_S16x64x64_S16x64x256x64_3_2_12_1_0_0 none (qs X) (means X))
    (broadcastInDim S16x64x256x64 ![] bcast_S_S16x64x256x64 (id (constant (F := Ideal) S_ .f32 0xFF800000#32)))

/-- The three greatest gates' blocks. -/
def picks : IVec S16x64x256x3 32 :=
  (Host.topK S16x64x256x3 3 (FloatOps.cmpfTotal .gt) (gates X) sliceFits_S16x64x256x64_S16x64x256x3).2

/-- Their heads, -/
def headPlaces : IVec S16x64x256x3x1 32 :=
  broadcastInDim S16x64x256x3x1 ![0, 1, 2, 3] bcast_S16x64x256x3_S16x64x256x3x1_0_1_2_3 (broadcastInDim S16x64x256x3 ![0, 1, 2, 3] bcast_S16x1x1x1_S16x64x256x3_0_1_2_3 (select (cmpi .slt (broadcastInDim S16x1x1x1 ![0] bcast_S16_S16x1x1x1_0 (iotaInDim S16 32 0)) (broadcastInDim S16x1x1x1 ![] bcast_S_S16x1x1x1 (constantI S_ 32 0#32))) (addi (broadcastInDim S16x1x1x1 ![0] bcast_S16_S16x1x1x1_0 (iotaInDim S16 32 0)) (broadcastInDim S16x1x1x1 ![] bcast_S_S16x1x1x1 (constantI S_ 32 16#32))) (broadcastInDim S16x1x1x1 ![0] bcast_S16_S16x1x1x1_0 (iotaInDim S16 32 0))))
/-- and the blocks, as places to gather from; -/
def blockPlaces (p : IVec S16x64x256x3 32) : IVec S16x64x256x3x1 32 :=
  broadcastInDim S16x64x256x3x1 ![0, 1, 2, 3] bcast_S16x64x256x3_S16x64x256x3x1_0_1_2_3 (select (cmpi .slt p (broadcastInDim S16x64x256x3 ![] bcast_S_S16x64x256x3 (constantI S_ 32 0#32))) (addi p (broadcastInDim S16x64x256x3 ![] bcast_S_S16x64x256x3 (constantI S_ 32 64#32))) p)
/-- and the two together. -/
def places : IVec S16x64x256x3x2 32 :=
  concatenate S16x64x256x3x2 4 [⟨S16x64x256x3x1, headPlaces⟩, ⟨S16x64x256x3x1, blockPlaces (picks X)⟩] concatenates_S16x64x256x3x1_S16x64x256x3x1_S16x64x256x3x2_d4

/-- Blocks gathered at the places. -/
def taken (x : FVec Ideal S16x64x256x64 .f32) : FVec Ideal S16x64x256x3x256x64 .f32 :=
  Host.gather gather_S16x64x256x64_S16x64x256x3x2_S16x64x256x3x256x64_45_01_n_n_01_4_1125664 x (places X)

/-- The scores of the keys gathered, -/
def pastScores : FVec Ideal S16x64x256x3x256 .f32 :=
  select (broadcastInDim S16x64x256x3x256 ![1, 2, 3, 4] bcast_S64x1x3x1_S16x64x256x3x256_1_2_3_4 (broadcastInDim S64x1x3x1 ![0, 2] bcast_S64x3_S64x1x3x1_0_2 (cmpi .slt (broadcastInDim S64x3 ![0, 1] bcast_S1x3_S64x3_0_1 (broadcastInDim S1x3 ![1] bcast_S3_S1x3_1 (iotaInDim S3 32 0))) (broadcastInDim S64x3 ![0, 1] bcast_S64x1_S64x3_0_1 (broadcastInDim S64x1 ![0] bcast_S64_S64x1_0 (iotaInDim S64 32 0))))))
    (mulf (Host.dotGeneral dot_S16x64x256x64_S16x64x256x3x256x64_S16x64x256x3x256_3_5_n_34_012_012 none (qs X) (taken X (ks X))) (broadcastInDim S16x64x256x3x256 ![] bcast_S_S16x64x256x3x256 (constant (F := Ideal) S_ .f32 0x3E000000#32)))
    (broadcastInDim S16x64x256x3x256 ![] bcast_S_S16x64x256x3x256 (id (constant (F := Ideal) S_ .f32 0xFF800000#32)))
/-- and of the query's own block. -/
def ownScores : FVec Ideal S16x64x256x256 .f32 :=
  select (broadcastInDim S16x64x256x256 ![2, 3] bcast_S256x256_S16x64x256x256_2_3 (cmpi .sle (broadcastInDim S256x256 ![0, 1] bcast_S1x256_S256x256_0_1 (broadcastInDim S1x256 ![1] bcast_S256_S1x256_1 (iotaInDim S256 32 0))) (broadcastInDim S256x256 ![0, 1] bcast_S256x1_S256x256_0_1 (broadcastInDim S256x1 ![0] bcast_S256_S256x1_0 (iotaInDim S256 32 0)))))
    (mulf (Host.dotGeneral dot_S16x64x256x64_S16x64x256x64_S16x64x256x256_3_3_2_2_01_01 none (qs X) (ks X)) (broadcastInDim S16x64x256x256 ![] bcast_S_S16x64x256x256 (constant (F := Ideal) S_ .f32 0x3E000000#32)))
    (broadcastInDim S16x64x256x256 ![] bcast_S_S16x64x256x256 (id (constant (F := Ideal) S_ .f32 0xFF800000#32)))
/-- All of a query's scores. -/
def scores : FVec Ideal S16x64x256x1024 .f32 :=
  concatenate S16x64x256x1024 3 [⟨S16x64x256x768, shapeCast S16x64x256x768 (pastScores X) shapeCasts_S16x64x256x3x256_S16x64x256x768⟩, ⟨S16x64x256x256, ownScores X⟩] concatenates_S16x64x256x768_S16x64x256x256_S16x64x256x1024_d3

/-- A query's greatest score. -/
def greatest : FVec Ideal S16x64x256 .f32 :=
  maximumf (broadcastInDim S16x64x256 ![] bcast_S_S16x64x256 (constant (F := Ideal) S_ .f32 0xFF800000#32)) (Host.reduce FloatOps.maximumf (scores X) (constant (F := Ideal) S_ .f32 0xFF800000#32) reducesTo_S16x64x256x1024_S16x64x256_d3 h_S_)
/-- The exponentials. -/
def exps : FVec Ideal S16x64x256x1024 .f32 :=
  Host.exp (subf (scores X) (broadcastInDim S16x64x256x1024 ![0, 1, 2, 3] bcast_S16x64x256x1_S16x64x256x1024_0_1_2_3 (broadcastInDim S16x64x256x1 ![0, 1, 2] bcast_S16x64x256_S16x64x256x1_0_1_2 (greatest X))))
/-- The softmax. -/
def probs : FVec Ideal S16x64x256x1024 .f32 :=
  Host.divf (exps X) (broadcastInDim S16x64x256x1024 ![0, 1, 2, 3] bcast_S16x64x256x1_S16x64x256x1024_0_1_2_3 (broadcastInDim S16x64x256x1 ![0, 1, 2] bcast_S16x64x256_S16x64x256x1_0_1_2 (Host.reduceAdd (exps X) (constant (F := Ideal) S_ .f32 0x00000000#32) reducesTo_S16x64x256x1024_S16x64x256_d3 h_S_)))
/-- The values, weighted. -/
def mixed : FVec Ideal S16x64x256x64 .f32 :=
  addf (Host.dotGeneral dot_S16x64x256x3x256_S16x64x256x3x256x64_S16x64x256x64_34_34_n_5_012_012 none (shapeCast S16x64x256x3x256 (extractStridedSlice S16x64x256x768 ![0, 0, 0, 0] (probs X) slices_S16x64x256x1024_S16x64x256x768_0_0_0_0) shapeCasts_S16x64x256x768_S16x64x256x3x256) (taken X (vs Y)))
    (Host.dotGeneral dot_S16x64x256x256_S16x64x256x64_S16x64x256x64_3_2_2_3_01_01 none (extractStridedSlice S16x64x256x256 ![0, 0, 0, 768] (probs X) slices_S16x64x256x1024_S16x64x256x256_0_0_0_768) (vs Y))
/-- The result, channels first. -/
def laid : FVec Ideal S1024x16384 .bf16 :=
  truncf .bf16 (shapeCast S1024x16384 (transpose S16x64x64x256 [0, 3, 1, 2] (mixed X Y) transposes_S16x64x256x64_S16x64x64x256_0_3_1_2) shapeCasts_S16x64x64x256_S1024x16384) bitsLt_bf16_f32

/-- The reference's result is the stages'. -/
theorem res_eq (m : (ℓ : Loc nD τ sig) → Buf (Elt Ideal) ℓ) (c : Dev nD) :
    res_main_v96 m c = laid (m ((c.tc : Thread nD τ).loc main_arg0)) (m ((c.tc : Thread nD τ).loc main_arg1)) := by
  unfold res_main_v96
  rfl

end Cert.ReferenceIdeal.Own

end
-- ==== Proof.Ref.Places.lean ====
/- The reference's queries, keys, values, gates and picks, at an entry. -/
module

public import proofs.«01_k».proof.Proof.Ref.Stages
public import proofs.«01_k».proof.Proof.Math.Layer
public import Idealize.ShloMosaic.Lib.WordCmp

@[expose] public section

set_option maxRecDepth 16384

noncomputable section

namespace Cert.ReferenceIdeal.Own

open Cert.ReferenceIdeal Cert.ReferenceIdeal.Gen Cert.ReferenceIdeal.Value
open Idealize.ShloMosaic Cert.Math

variable (X : FVec Ideal S16384x11264 .bf16) (Y : FVec Ideal S16384x1024 .bf16)
variable (h : Fin 16) (b : Fin 64) (s : Fin 256) (d : Fin 64)

theorem qs_at : qs X (ix4 h b s d) = X (ix2 ⟨256 * b.val + s.val, by omega⟩ ⟨5120 + (64 * h.val + d.val), by omega⟩) := by
  unfold qs
  pointwise
  simp only [Nat.mul_comm]
theorem ks_at : ks X (ix4 h b s d) = X (ix2 ⟨256 * b.val + s.val, by omega⟩ ⟨6144 + (64 * h.val + d.val), by omega⟩) := by
  unfold ks
  pointwise
  simp only [Nat.mul_comm]
theorem vs_at : vs Y (ix4 h b s d) = Y (ix2 ⟨256 * b.val + s.val, by omega⟩ ⟨64 * h.val + d.val, by omega⟩) := by
  unfold vs
  pointwise
  simp only [Nat.mul_comm]
theorem means_at : means X (ix3 h b d) = Ideal.div (∑ s, ks X (ix4 h b s d)) (Ideal.ofBits FTy.f32 0x43800000#32) := by
  unfold means
  generalize ks X = g
  pointwise
theorem gates_at (r : Fin 256) (c : Fin 64) : gates X (ix4 h b r c) = if c.val < b.val then ∑ d, qs X (ix4 h b r d) * means X (ix3 h c d) else ⊥ := by
  unfold gates
  generalize qs X = q
  generalize means X = g
  pointwise
  rw [Scalar.select_def]
  refine if_congr (WordCmp.cmpi_slt_ofNat_eq_one_iff (by omega) (by omega)) rfl ?_
  show Ideal.ofBits FTy.f32 0xFF800000#32 = ⊥
  simp [Ideal.ofBits, Ideal.ieee]
/-- A row of gates, along its blocks. -/
theorem along_at (J : S16x64x256x64.Idx) (r : Fin 256) (k c : Fin 64) (hJ : J = ix4 h b r k) : Shape.Idx.along (s := S16x64x256x64) J 3 c = ix4 h b r c := by
  subst hJ
  funext a
  fin_cases a <;> rfl

/-- The places a sort in descending order finds, one row's. -/
theorem order_at (g : FVec Ideal S16x64x256x64 .f32) (J : S16x64x256x64.Idx) (r : Fin 256) (k : Fin 64) (hJ : J = ix4 h b r k) :
    (Shape.Idx.along (s := S16x64x256x64) J 3 (sortedFrom (fun k k' => FloatOps.cmpfTotal (F := Ideal) (φ := FTy.f32) .gt (g (Shape.Idx.along (s := S16x64x256x64) J 3 k)) (g (Shape.Idx.along (s := S16x64x256x64) J 3 k')) == 1#1) (J 3)))
      = ix4 h b r (sortedFrom (fun a a' => decide (g (ix4 h b r a') < g (ix4 h b r a))) k) := by
  refine (along_at h b J r k _ hJ).trans ?_
  have hf : (fun k k' : Fin 64 => FloatOps.cmpfTotal (F := Ideal) (φ := FTy.f32) .gt (g (Shape.Idx.along (s := S16x64x256x64) J 3 k))
      (g (Shape.Idx.along (s := S16x64x256x64) J 3 k')) == 1#1) = fun a a' => decide (g (ix4 h b r a') < g (ix4 h b r a)) := by
    funext c c'
    have h1 := along_at h b J r k c hJ
    have h2 := along_at h b J r k c' hJ
    rw [h1, h2]
    show (BitVec.ofBool (decide (g (ix4 h b r c') < g (ix4 h b r c))) == 1#1) = _
    by_cases hk : g (ix4 h b r c') < g (ix4 h b r c) <;> simp [hk]
  have h3 : J 3 = k := by rw [hJ]; rfl
  refine congrArg (ix4 h b r) ?_
  exact (congrArg (fun f => sortedFrom f (J 3)) hf).trans (congrArg _ h3)

/-- The places of a row of gates, before the sort. -/
theorem place_at (r : Fin 256) (c : Fin 64) : iotaInDim S16x64x256x64 32 3 (ix4 h b r c) = BitVec.ofNat 32 c.val := rfl

/-- The three blocks a query picks are the first three of the order of its gates. -/
theorem picks_at (r : Fin 256) (t : Fin 3) : picks X (ix4 h b r t) = BitVec.ofNat 32
    (sortedFrom (fun a a' => decide (gates X (ix4 h b r a') < gates X (ix4 h b r a))) ⟨t.val, by omega⟩).val := by
  unfold picks
  generalize gates X = g
  simp only [Host.topK, Host.sort2, extractStridedSlice]
  rw [dif_pos (show 3 < S16x64x256x64.rank by decide)]
  dsimp only
  rw [dif_pos (show 3 < 4 by decide)]
  refine (congrArg (iotaInDim S16x64x256x64 32 3) (order_at h b g _ r ⟨t.val, by omega⟩ ?_)).trans (place_at h b r _)
  funext a
  fin_cases a <;> exact Fin.ext (Nat.zero_add _)

theorem headPlaces_at (r : Fin 256) (t : Fin 3) : headPlaces (ix5 h b r t 0) = BitVec.ofNat 32 h.val := by
  unfold headPlaces
  pointwise
  revert h
  decide
theorem blockPlaces_at (p : IVec S16x64x256x3 32) (r : Fin 256) (t : Fin 3) (n : Fin 64) (hn : p (ix4 h b r t) = BitVec.ofNat 32 n.val) : blockPlaces p (ix5 h b r t 0) = p (ix4 h b r t) := by
  unfold blockPlaces
  pointwise
  rw [hn]
  clear hn
  revert n
  decide
theorem places_at0 (r : Fin 256) (t : Fin 3) : places X (ix5 h b r t 0) = headPlaces (ix5 h b r t 0) := by
  unfold places
  generalize picks X = p
  pointwise
theorem places_at1 (r : Fin 256) (t : Fin 3) : places X (ix5 h b r t 1) = blockPlaces (picks X) (ix5 h b r t 0) := by
  unfold places
  generalize picks X = p
  pointwise
theorem taken_at (x : FVec Ideal S16x64x256x64 .f32) (r : Fin 256) (t : Fin 3) (n : Fin 64)
    (h0 : places X (ix5 h b r t 0) = BitVec.ofNat 32 h.val) (h1 : places X (ix5 h b r t 1) = BitVec.ofNat 32 n.val) :
    taken X x (ix6 h b r t s d) = x (ix4 h n s d) := by
  unfold taken
  revert h0 h1
  generalize places X = p
  intro h0 h1
  unfold Host.gather
  have e0 : GatherDims.siIdx gather_S16x64x256x64_S16x64x256x3x2_S16x64x256x3x256x64_45_01_n_n_01_4_1125664 (ix6 h b r t s d) ⟨0, by decide⟩ = ix5 h b r t 0 := by
    funext a
    fin_cases a <;> rfl
  have e1 : GatherDims.siIdx gather_S16x64x256x64_S16x64x256x3x2_S16x64x256x3x256x64_45_01_n_n_01_4_1125664 (ix6 h b r t s d) ⟨1, by decide⟩ = ix5 h b r t 1 := by
    funext a
    fin_cases a <;> rfl
  refine congrArg x (funext fun a => Fin.ext ?_)
  fin_cases a
  · show min (p (GatherDims.siIdx gather_S16x64x256x64_S16x64x256x3x2_S16x64x256x3x256x64_45_01_n_n_01_4_1125664 (ix6 h b r t s d) ⟨0, by decide⟩)).toInt.toNat 15 + 0 + 0 = h.val
    rw [e0, h0]
    clear * -
    revert h
    decide
  · show min (p (GatherDims.siIdx gather_S16x64x256x64_S16x64x256x3x2_S16x64x256x3x256x64_45_01_n_n_01_4_1125664 (ix6 h b r t s d) ⟨1, by decide⟩)).toInt.toNat 63 + 0 + 0 = n.val
    rw [e1, h1]
    clear * -
    revert n
    decide
  · show 0 + 0 + s.val = s.val
    omega
  · show 0 + 0 + d.val = d.val
    omega
end Cert.ReferenceIdeal.Own

end
-- ==== Proof.Ref.Scores.lean ====
/- The reference's scores, at an entry. -/
module

public import proofs.«01_k».proof.Proof.Ref.Places

@[expose] public section

set_option maxRecDepth 16384

noncomputable section

namespace Cert.ReferenceIdeal.Own

open Cert.ReferenceIdeal Cert.ReferenceIdeal.Gen Cert.ReferenceIdeal.Value
open Idealize.ShloMosaic Cert.Math

variable (X : FVec Ideal S16384x11264 .bf16) (Y : FVec Ideal S16384x1024 .bf16)
variable (h : Fin 16) (b : Fin 64) (r s : Fin 256) (d : Fin 64) (t : Fin 3)

/-- The block picked in turn `t`. -/
def pick : Fin 64 := sortedFrom (fun a a' => decide (gates X (ix4 h b r a') < gates X (ix4 h b r a))) ⟨t.val, by omega⟩

/-- What is gathered in turn `t` is that block's. -/
theorem taken_pick (x : FVec Ideal S16x64x256x64 .f32) : taken X x (ix6 h b r t s d) = x (ix4 h (pick X h b r t) s d) := by
  have hp : picks X (ix4 h b r t) = BitVec.ofNat 32 (pick X h b r t).val := picks_at X h b r t
  exact taken_at X h b s d x r t (pick X h b r t) ((places_at0 X h b r t).trans (headPlaces_at h b r t))
    ((places_at1 X h b r t).trans ((blockPlaces_at h b (picks X) r t _ hp).trans hp))

/-- A gathered key's score: an eighth of its product with the query where the turn counts, else minus infinity. -/
theorem pastScores_at : pastScores X (ix5 h b r t s) = if t.val < b.val then (∑ d, qs X (ix4 h b r d) * taken X (ks X) (ix6 h b r t s d)) * Ideal.ofBits FTy.f32 0x3E000000#32 else ⊥ := by
  unfold pastScores
  generalize qs X = q
  generalize taken X (ks X) = g
  pointwise
  rw [Scalar.select_def]
  refine if_congr (WordCmp.cmpi_slt_ofNat_eq_one_iff (by omega) (by omega)) rfl ?_
  show Ideal.ofBits FTy.f32 0xFF800000#32 = ⊥
  simp [Ideal.ofBits, Ideal.ieee]
/-- The same of a key of the query's own block, up to the query's row. -/
theorem ownScores_at : ownScores X (ix4 h b r s) = if s.val ≤ r.val then (∑ d, qs X (ix4 h b r d) * ks X (ix4 h b s d)) * Ideal.ofBits FTy.f32 0x3E000000#32 else ⊥ := by
  unfold ownScores
  generalize qs X = q
  generalize ks X = g
  pointwise
  rw [Scalar.select_def]
  refine if_congr (WordCmp.cmpi_sle_ofNat_eq_one_iff (by omega) (by omega)) rfl ?_
  show Ideal.ofBits FTy.f32 0xFF800000#32 = ⊥
  simp [Ideal.ofBits, Ideal.ieee]
/-- The gathered keys come first, turn by turn, -/
theorem scores_past : scores X (ix4 h b r ⟨256 * t.val + s.val, by omega⟩) = pastScores X (ix5 h b r t s) := by
  unfold scores
  generalize pastScores X = p
  generalize ownScores X = o
  pointwise
  rw [dif_pos (show 256 * t.val + s.val < 768 by omega)]
/-- the own block's after them. -/
theorem scores_own : scores X (ix4 h b r ⟨768 + s.val, by omega⟩) = ownScores X (ix4 h b r s) := by
  unfold scores
  generalize pastScores X = p
  generalize ownScores X = o
  pointwise
end Cert.ReferenceIdeal.Own

end
-- ==== Proof.Ref.Soft.lean ====
/- The reference's softmax, at an entry. -/
module

public import proofs.«01_k».proof.Proof.Ref.Stages
public import proofs.«01_k».proof.Proof.Math.Online

@[expose] public section

noncomputable section

namespace Cert.ReferenceIdeal.Own

open Cert.ReferenceIdeal Cert.ReferenceIdeal.Gen Cert.ReferenceIdeal.Value
open Idealize.ShloMosaic Cert.Math

variable (X : FVec Ideal S16384x11264 .bf16) (Y : FVec Ideal S16384x1024 .bf16)
variable (h : Fin 16) (b : Fin 64) (r s : Fin 256)

/-- A maximum of two arrays, at an entry. -/
theorem max_at {S : Shape} (x y : FVec Ideal S .f32) (j : S.Idx) : maximumf x y j = max (x j) (y j) := rfl
/-- A maximum over some axes is at least every entry that falls to it, -/
theorem le_reduce {S T U : Shape} {axes : List (Fin S.rank)} (x : FVec Ideal S .f32) (c : FVec Ideal U .f32) (hr : S.ReducesTo axes T) (hu : 0 < U.numel)
    (hc : c (Shape.Idx.first hu) = ⊥) (i : S.Idx) (j : T.Idx) (hj : hr.drop i = j) : x i ≤ Host.reduce FloatOps.maximumf x c hr hu j := by
  rw [Host.reduce_eq_fold, hc]
  exact le_fold_max _ _ _ (Finset.mem_filter.mpr ⟨Finset.mem_univ _, hj⟩)
/-- and plus infinity only if an entry is. -/
theorem reduce_ne_top {S T U : Shape} {axes : List (Fin S.rank)} (x : FVec Ideal S .f32) (c : FVec Ideal U .f32) (hr : S.ReducesTo axes T) (hu : 0 < U.numel)
    (hc : c (Shape.Idx.first hu) = ⊥) (hx : ∀ i, x i ≠ ⊤) (j : T.Idx) : Host.reduce FloatOps.maximumf x c hr hu j ≠ ⊤ := by
  rw [Host.reduce_eq_fold, hc]
  exact fold_max_ne_top _ _ fun k _ => hx k
/-- Minus infinity, as the program writes it. -/
theorem bot_bits : Ideal.ofBits FTy.f32 0xFF800000#32 = ⊥ := by simp [Ideal.ofBits, Ideal.ieee]
/-- The score at key `n` falls to its query's place. -/
theorem drop_at (n : Fin 1024) : reducesTo_S16x64x256x1024_S16x64x256_d3.drop (ix4 h b r n) = ix3 h b r := by
  funext a
  fin_cases a <;> exact Fin.ext (Shape.ReducesTo.drop_apply_val _ _ _)
/-- The greatest score is at least every score of the row, -/
theorem le_greatest (n : Fin 1024) : scores X (ix4 h b r n) ≤ greatest X (ix3 h b r) := by
  unfold greatest
  generalize scores X = g
  rw [max_at]
  exact le_max_of_le_right (le_reduce g _ _ _ bot_bits _ _ (drop_at h b r n))
/-- and infinite only if a score is. -/
theorem greatest_ne_top (hs : ∀ y, scores X y ≠ ⊤) : greatest X (ix3 h b r) ≠ ⊤ := by
  unfold greatest
  revert hs
  generalize scores X = g
  intro hs
  rw [max_at]
  refine (max_lt ?_ (lt_top_iff_ne_top.mpr (reduce_ne_top g _ _ _ bot_bits hs _))).ne
  exact lt_of_eq_of_lt bot_bits bot_lt_top
theorem exps_at (n : Fin 1024) : exps X (ix4 h b r n) = Ideal.exp (scores X (ix4 h b r n) - greatest X (ix3 h b r)) := by
  unfold exps
  generalize scores X = g
  generalize greatest X = g'
  pointwise
theorem probs_at (n : Fin 1024) : probs X (ix4 h b r n) = Ideal.div (exps X (ix4 h b r n)) (∑ n, exps X (ix4 h b r n)) := by
  unfold probs
  generalize exps X = g
  pointwise
end Cert.ReferenceIdeal.Own

end
-- ==== Proof.Ref.Mixed.lean ====
/- The reference's result from its softmax, at an entry. -/
module

public import proofs.«01_k».proof.Proof.Ref.Stages

@[expose] public section

set_option maxRecDepth 16384

noncomputable section

namespace Cert.ReferenceIdeal.Own

open Cert.ReferenceIdeal Cert.ReferenceIdeal.Gen Cert.ReferenceIdeal.Value
open Idealize.ShloMosaic

variable (X : FVec Ideal S16384x11264 .bf16) (Y : FVec Ideal S16384x1024 .bf16)
variable (h : Fin 16) (b : Fin 64) (r s : Fin 256) (d : Fin 64) (t : Fin 3)

/-- The softmax over the gathered keys, -/
def pastProbs (p : FVec Ideal S16x64x256x1024 .f32) : FVec Ideal S16x64x256x3x256 .f32 :=
  shapeCast S16x64x256x3x256 (extractStridedSlice S16x64x256x768 ![0, 0, 0, 0] p slices_S16x64x256x1024_S16x64x256x768_0_0_0_0) shapeCasts_S16x64x256x768_S16x64x256x3x256
/-- and over the own block's. -/
def ownProbs (p : FVec Ideal S16x64x256x1024 .f32) : FVec Ideal S16x64x256x256 .f32 :=
  extractStridedSlice S16x64x256x256 ![0, 0, 0, 768] p slices_S16x64x256x1024_S16x64x256x256_0_0_0_768
theorem pastProbs_at (p : FVec Ideal S16x64x256x1024 .f32) : pastProbs p (ix5 h b r t s) = p (ix4 h b r ⟨256 * t.val + s.val, by omega⟩) := by
  unfold pastProbs
  pointwise
  simp only [Nat.mul_comm]
theorem ownProbs_at (p : FVec Ideal S16x64x256x1024 .f32) : ownProbs p (ix4 h b r s) = p (ix4 h b r ⟨768 + s.val, by omega⟩) := by
  unfold ownProbs
  pointwise
theorem past_dot (p : FVec Ideal S16x64x256x3x256 .f32) (x : FVec Ideal S16x64x256x3x256x64 .f32) :
    Host.dotGeneral dot_S16x64x256x3x256_S16x64x256x3x256x64_S16x64x256x64_34_34_n_5_012_012 none p x (ix4 h b r d) = ∑ t : Fin 3, ∑ s : Fin 256, p (ix5 h b r t s) * x (ix6 h b r t s d) := by
  pointwise
theorem own_dot (p : FVec Ideal S16x64x256x256 .f32) (x : FVec Ideal S16x64x256x64 .f32) :
    Host.dotGeneral dot_S16x64x256x256_S16x64x256x64_S16x64x256x64_3_2_2_3_01_01 none p x (ix4 h b r d) = ∑ s : Fin 256, p (ix4 h b r s) * x (ix4 h b s d) := by
  pointwise
/-- A sum of two arrays, at an entry. -/
theorem add_at {S : Shape} (x y : FVec Ideal S .f32) (j : S.Idx) : addf x y j = (x j + y j : EReal) := rfl
theorem mixed_eq : mixed X Y = addf (Host.dotGeneral dot_S16x64x256x3x256_S16x64x256x3x256x64_S16x64x256x64_34_34_n_5_012_012 none (pastProbs (probs X)) (taken X (vs Y)))
    (Host.dotGeneral dot_S16x64x256x256_S16x64x256x64_S16x64x256x64_3_2_2_3_01_01 none (ownProbs (probs X)) (vs Y)) := by
  unfold mixed pastProbs ownProbs
  rfl
/-- The values weighted by the softmax, summed over the gathered keys and over the own block's. -/
theorem mixed_at : mixed X Y (ix4 h b r d) = ((∑ t : Fin 3, ∑ s : Fin 256, probs X (ix4 h b r ⟨256 * t.val + s.val, by omega⟩) * taken X (vs Y) (ix6 h b r t s d))
    + ∑ s : Fin 256, probs X (ix4 h b r ⟨768 + s.val, by omega⟩) * vs Y (ix4 h b s d) : EReal) := by
  rw [mixed_eq]
  generalize probs X = p
  generalize taken X (vs Y) = x
  generalize vs Y = v
  rw [add_at, past_dot, own_dot]
  simp only [pastProbs_at, ownProbs_at]
/-- The result holds them channels first. -/
theorem laid_at : laid X Y (ix2 ⟨64 * h.val + d.val, by omega⟩ ⟨256 * b.val + r.val, by omega⟩) = mixed X Y (ix4 h b r d) := by
  unfold laid
  generalize mixed X Y = g
  pointwise
end Cert.ReferenceIdeal.Own

end
-- ==== Proof.Math.Softmax.lean ====
/- A softmax over the keys gathered and the query's own block is the attention. -/
module

public import proofs.«01_k».proof.Proof.Math.Attention

@[expose] public section

noncomputable section

namespace Cert.Math

open Idealize.ShloMosaic

/-- The 1024 keys a query reads: three blocks gathered, then its own. -/
theorem sum_keys (F : Fin 1024 → EReal) :
    ∑ n, F n = (∑ t : Fin 3, ∑ s : Fin 256, F ⟨256 * t.val + s.val, by omega⟩) + ∑ s : Fin 256, F ⟨768 + s.val, by omega⟩ := by
  refine (Fin.sum_univ_add (a := 768) (b := 256) F).trans (congrArg₂ (· + ·) ?_ rfl)
  rw [← Fintype.sum_prod_type' (f := fun (t : Fin 3) (s : Fin 256) => F ⟨256 * t.val + s.val, by omega⟩)]
  refine (Fintype.sum_equiv (finProdFinEquiv (m := 3) (n := 256)) _ _ fun x => ?_).symm
  refine congrArg F (Fin.ext ?_)
  show 256 * x.1.val + x.2.val = x.2.val + 256 * x.1.val
  omega

/-- Every block before the query's has a gate above minus infinity, -/
theorem gateOf_bot_lt (i : ℕ) (q : Fin 64 → ℝ) (k : Fin 64 → Fin 256 → Fin 64 → ℝ) (b : Fin 64) (hb : b.val < i) : ⊥ < gateOf i q k b := by
  unfold gateOf
  rw [if_pos hb]
  exact EReal.bot_lt_coe _
/-- and no other has. -/
theorem gateOf_eq_bot (i : ℕ) (q : Fin 64 → ℝ) (k : Fin 64 → Fin 256 → Fin 64 → ℝ) (b : Fin 64) (hb : i ≤ b.val) : gateOf i q k b = ⊥ :=
  if_neg (by omega)

/-- The block picked in turn `t`. -/
def turn (i : ℕ) (q : Fin 64 → ℝ) (k : Fin 64 → Fin 256 → Fin 64 → ℝ) (t : Fin 3) : Fin 64 :=
  sortedFrom (fun a b => decide (gateOf i q k b < gateOf i q k a)) ⟨t.val, by omega⟩

/-- The weight of a gathered key: none where the turn does not count. -/
def turnWeight (i : ℕ) (q : Fin 64 → ℝ) (k : Fin 64 → Fin 256 → Fin 64 → ℝ) (t : Fin 3) (s : Fin 256) : ℝ :=
  if t.val < i then weight q (k (turn i q k t) s) else 0

/-- An exponential of a difference, in real numbers. -/
theorem exp_sub (x μ : ℝ) : Ideal.exp ((x : EReal) - (μ : EReal)) = ((Real.exp (-μ) * Real.exp x : ℝ) : EReal) := by
  rw [← EReal.coe_sub, ← Real.exp_add, show -μ + x = x - μ by ring]
  rfl
theorem exp_bot_sub (μ : ℝ) : Ideal.exp (⊥ - (μ : EReal)) = 0 := by
  rw [EReal.bot_sub]
  rfl

section
variable (i : Fin 64) (r : Fin 256) (q : Fin 64 → ℝ) (k : Fin 64 → Fin 256 → Fin 64 → ℝ) (v : Fin 64 → Fin 256 → EReal)

/-- The weights of the gathered keys and of the own block's sum to the total. -/
theorem total_turns : (∑ t : Fin 3, ∑ s : Fin 256, turnWeight i.val q k t s) + ∑ s, ownWeight i r q k s = total i r q k := by
  classical
  unfold total
  rw [add_comm, ← sum_chosen (gateOf i.val q k) i.val (gateOf_bot_lt i.val q k) (gateOf_eq_bot i.val q k) (by omega) (fun b => ∑ s, weight q (k b s))]
  congr 1
  refine Finset.sum_congr rfl fun t _ => ?_
  unfold turnWeight turn
  by_cases ht : t.val < i.val
  · simp only [if_pos ht]
  · simp only [if_neg ht, Finset.sum_const_zero]

/-- The same of the weighted values. -/
theorem weighted_turns : (∑ t : Fin 3, ∑ s : Fin 256, (turnWeight i.val q k t s : EReal) * v (turn i.val q k t) s) + ∑ s, (ownWeight i r q k s : EReal) * v i s
    = weighted i r q k v := by
  classical
  unfold weighted
  rw [add_comm, ← sum_chosen (gateOf i.val q k) i.val (gateOf_bot_lt i.val q k) (gateOf_eq_bot i.val q k) (by omega) (fun b => ∑ s, (weight q (k b s) : EReal) * v b s)]
  congr 1
  refine Finset.sum_congr rfl fun t _ => ?_
  unfold turnWeight turn
  by_cases ht : t.val < i.val
  · simp only [if_pos ht]
  · simp only [if_neg ht, EReal.coe_zero, zero_mul, Finset.sum_const_zero]

/-- A softmax of the scores of the keys gathered and of the own block's, times the values, is the attention. -/
theorem softmax_attend (S : Fin 1024 → EReal) (μ : ℝ)
    (hp : ∀ (t : Fin 3) (s : Fin 256), S ⟨256 * t.val + s.val, by omega⟩ = if t.val < i.val then (((∑ d, q d * k (turn i.val q k t) s d) / 8 : ℝ) : EReal) else ⊥)
    (ho : ∀ s : Fin 256, S ⟨768 + s.val, by omega⟩ = if s.val ≤ r.val then (((∑ d, q d * k i s d) / 8 : ℝ) : EReal) else ⊥) :
    (∑ t : Fin 3, ∑ s : Fin 256, Ideal.div (Ideal.exp (S ⟨256 * t.val + s.val, by omega⟩ - (μ : EReal))) (∑ n, Ideal.exp (S n - (μ : EReal))) * v (turn i.val q k t) s)
      + ∑ s : Fin 256, Ideal.div (Ideal.exp (S ⟨768 + s.val, by omega⟩ - (μ : EReal))) (∑ n, Ideal.exp (S n - (μ : EReal))) * v i s
      = attend i r q k v := by
  have hc : 0 < Real.exp (-μ) := Real.exp_pos _
  have hW := total_pos i r q k
  have ep : ∀ (t : Fin 3) (s : Fin 256), Ideal.exp (S ⟨256 * t.val + s.val, by omega⟩ - (μ : EReal)) = (Real.exp (-μ) : EReal) * (turnWeight i.val q k t s : EReal) := by
    intro t s
    rw [hp]
    unfold turnWeight
    by_cases ht : t.val < i.val
    · rw [if_pos ht, if_pos ht, exp_sub, ← EReal.coe_mul]
      rfl
    · rw [if_neg ht, if_neg ht, exp_bot_sub, EReal.coe_zero, mul_zero]
  have eo : ∀ s : Fin 256, Ideal.exp (S ⟨768 + s.val, by omega⟩ - (μ : EReal)) = (Real.exp (-μ) : EReal) * (ownWeight i r q k s : EReal) := by
    intro s
    rw [ho]
    unfold ownWeight
    by_cases hs : s.val ≤ r.val
    · rw [if_pos hs, if_pos hs, exp_sub, ← EReal.coe_mul]
      rfl
    · rw [if_neg hs, if_neg hs, exp_bot_sub, EReal.coe_zero, mul_zero]
  have hZ : (∑ n, Ideal.exp (S n - (μ : EReal))) = (Real.exp (-μ) : EReal) * (total i r q k : EReal) := by
    rw [sum_keys]
    simp only [ep, eo]
    rw [← total_turns i r q k, EReal.coe_add, EReal.left_distrib_of_nonneg_of_ne_top (EReal.coe_nonneg.mpr hc.le) (EReal.coe_ne_top _),
      ← coe_sum, ← coe_sum, coe_mul_sum _ _ hc.le, coe_mul_sum _ _ hc.le]
    simp only [← coe_sum, coe_mul_sum _ _ hc.le]
  simp only [hZ, ep, eo, div_scaled _ _ hc hW]
  have hi : 0 ≤ (total i r q k)⁻¹ := (inv_pos.mpr hW).le
  unfold attend
  rw [← weighted_turns i r q k v, EReal.left_distrib_of_nonneg_of_ne_top (EReal.coe_nonneg.mpr hi) (EReal.coe_ne_top _)]
  simp only [coe_mul_sum _ _ hi, mul_assoc]

end

end Cert.Math
end
-- ==== Proof.Ref.Final.lean ====
/- The reference's result is the attention of every head, block and query. -/
module

public import proofs.«01_k».proof.Proof.Ref.Scores
public import proofs.«01_k».proof.Proof.Ref.Soft
public import proofs.«01_k».proof.Proof.Ref.Mixed
public import proofs.«01_k».proof.Proof.Math.Softmax

@[expose] public section

set_option maxRecDepth 16384

noncomputable section

namespace Cert.ReferenceIdeal.Own

open Cert.ReferenceIdeal Cert.ReferenceIdeal.Gen Cert.ReferenceIdeal.Value
open Idealize.ShloMosaic Cert.Math

theorem eighth_bits : Ideal.ofBits FTy.f32 0x3E000000#32 = ((1 / 8 : ℝ) : EReal) := by
  simp [Ideal.ofBits, Ideal.ieee]
  rw [← EReal.coe_mul]
  norm_num

variable (X : FVec Ideal S16384x11264 .bf16) (Y : FVec Ideal S16384x1024 .bf16) (A : Fin 16384 → Fin 11264 → ℝ)
variable (hreal : ∀ (j : Fin 16384) (n : Fin 11264), 5120 ≤ n.val → n.val < 7168 → X (ix2 j n) = (A j n : EReal))
variable (h : Fin 16) (b : Fin 64) (r s : Fin 256) (d : Fin 64) (t : Fin 3)

include hreal in
theorem qs_real : qs X (ix4 h b r d) = (queryOf A h b r d : EReal) :=
  (qs_at X h b r d).trans (hreal _ _ (by simp only; omega) (by simp only; omega))
include hreal in
theorem ks_real : ks X (ix4 h b s d) = (keyOf A h b s d : EReal) :=
  (ks_at X h b s d).trans (hreal _ _ (by simp only; omega) (by simp only; omega))

/-- A sum of products of real numbers. -/
theorem sum_mul_real (q k : Fin 64 → EReal) (q' k' : Fin 64 → ℝ) (hq : ∀ d, q d = (q' d : EReal)) (hk : ∀ d, k d = (k' d : EReal)) :
    ∑ d, q d * k d = ((∑ d, q' d * k' d : ℝ) : EReal) := by
  rw [← coe_sum]
  refine Finset.sum_congr rfl fun d _ => ?_
  rw [hq, hk, EReal.coe_mul]

include hreal in
/-- The gates of a query are its products with the mean keys. -/
theorem gates_real (c : Fin 64) : gates X (ix4 h b r c) = gateOf b.val (queryOf A h b r) (keyOf A h) c := by
  rw [gates_at]
  unfold gateOf
  refine if_congr Iff.rfl ?_ rfl
  refine sum_mul_real _ _ (queryOf A h b r) (fun d => (∑ s, keyOf A h c s d) / 256) (fun d => qs_real X A hreal h b r d) fun d => ?_
  rw [means_at, Finset.sum_congr rfl fun s _ => ks_real X A hreal h c s d, coe_sum, div_256]

include hreal in
theorem pick_eq : pick X h b r t = turn b.val (queryOf A h b r) (keyOf A h) t := by
  have hg : (fun c => gates X (ix4 h b r c)) = gateOf b.val (queryOf A h b r) (keyOf A h) := funext fun c => gates_real X A hreal h b r c
  unfold pick turn
  rw [← hg]

include hreal in
theorem score_past : scores X (ix4 h b r ⟨256 * t.val + s.val, by omega⟩)
    = if t.val < b.val then (((∑ d, queryOf A h b r d * keyOf A h (turn b.val (queryOf A h b r) (keyOf A h) t) s d) / 8 : ℝ) : EReal) else ⊥ := by
  rw [scores_past, pastScores_at]
  refine if_congr Iff.rfl ?_ rfl
  rw [sum_mul_real _ _ (queryOf A h b r) (keyOf A h (turn b.val (queryOf A h b r) (keyOf A h) t) s) (fun d => qs_real X A hreal h b r d)
    (fun d => by rw [taken_pick, pick_eq X A hreal]; exact ks_real X A hreal h _ s d), eighth_bits, ← EReal.coe_mul, mul_one_div]

include hreal in
theorem score_own : scores X (ix4 h b r ⟨768 + s.val, by omega⟩)
    = if s.val ≤ r.val then (((∑ d, queryOf A h b r d * keyOf A h b s d) / 8 : ℝ) : EReal) else ⊥ := by
  rw [scores_own, ownScores_at]
  refine if_congr Iff.rfl ?_ rfl
  rw [sum_mul_real _ _ (queryOf A h b r) (keyOf A h b s) (fun d => qs_real X A hreal h b r d)
    (fun d => ks_real X A hreal h b s d), eighth_bits, ← EReal.coe_mul, mul_one_div]

include hreal in
/-- No score is plus infinity. -/
theorem score_ne_top (n : Fin 1024) : scores X (ix4 h b r n) ≠ ⊤ := by
  by_cases hn : n.val < 768
  · have e : n = ⟨256 * (⟨n.val / 256, by omega⟩ : Fin 3).val + (⟨n.val % 256, Nat.mod_lt _ (by decide)⟩ : Fin 256).val, by simp only; omega⟩ :=
      Fin.ext (by simp only; omega)
    rw [e, score_past X A hreal]
    split
    · exact EReal.coe_ne_top _
    · exact bot_ne_top
  · have e : n = ⟨768 + (⟨n.val - 768, by omega⟩ : Fin 256).val, by simp only; omega⟩ := Fin.ext (by simp only; omega)
    rw [e, score_own X A hreal]
    split
    · exact EReal.coe_ne_top _
    · exact bot_ne_top

include hreal in
/-- The greatest score is a real number: the query's own key has one. -/
theorem greatest_real : ∃ μ : ℝ, greatest X (ix3 h b r) = (μ : EReal) := by
  have ht : greatest X (ix3 h b r) ≠ ⊤ := greatest_ne_top X h b r fun y => by
    rw [eq_ix4 y]
    exact score_ne_top X A hreal _ _ _ _
  have hb : greatest X (ix3 h b r) ≠ ⊥ := by
    have hl := le_greatest X h b r ⟨768 + r.val, by omega⟩
    rw [score_own X A hreal, if_pos le_rfl] at hl
    exact fun e => absurd (le_bot_iff.mp (e ▸ hl)) (EReal.coe_ne_bot _)
  exact ⟨_, (EReal.coe_toReal ht hb).symm⟩

include hreal in
/-- The reference's attention, at a query and a channel. -/
theorem mixed_real : mixed X Y (ix4 h b r d) = layer A (fun j n => Y (ix2 j n)) h d b r := by
  obtain ⟨μ, hμ⟩ := greatest_real X A hreal h b r
  have key := softmax_attend b r (queryOf A h b r) (keyOf A h) (valueOf (fun j n => Y (ix2 j n)) h d) (fun n => scores X (ix4 h b r n)) μ
    (fun t s => score_past X A hreal h b r s t) (fun s => score_own X A hreal h b r s)
  rw [mixed_at]
  unfold layer
  rw [← key]
  refine congrArg₂ (· + ·) (Finset.sum_congr rfl fun t _ => Finset.sum_congr rfl fun s _ => congrArg₂ (· * ·) ?_ ?_)
    (Finset.sum_congr rfl fun s _ => congrArg₂ (· * ·) ?_ ?_)
  · simp only [probs_at, exps_at, hμ]
  · rw [taken_pick, pick_eq X A hreal, vs_at]
    rfl
  · simp only [probs_at, exps_at, hμ]
  · rw [vs_at]
    rfl

include hreal in
/-- The reference's result: channel `d` of head `h`, for row `r` of block `b`. -/
theorem laid_layer : laid X Y = fun y : S1024x16384.Idx =>
    layer A (fun j n => Y (ix2 j n)) ⟨(y 0).val / 64, by have : (y 0).val < 1024 := (y 0).isLt; omega⟩ ⟨(y 0).val % 64, Nat.mod_lt _ (by decide)⟩
      ⟨(y 1).val / 256, by have : (y 1).val < 16384 := (y 1).isLt; omega⟩ ⟨(y 1).val % 256, Nat.mod_lt _ (by decide)⟩ := by
  funext y
  have h0 : (y 0).val < 1024 := (y 0).isLt
  have h1 : (y 1).val < 16384 := (y 1).isLt
  rw [← mixed_real X Y A hreal, ← laid_at]
  refine congrArg (laid X Y) ((eq_ix2 y).trans (congrArg₂ ix2 (Fin.ext ?_) (Fin.ext ?_)))
  · show (y 0).val = 64 * ((y 0).val / 64) + (y 0).val % 64
    omega
  · show (y 1).val = 256 * ((y 1).val / 256) + (y 1).val % 256
    omega

end Cert.ReferenceIdeal.Own

end
-- ==== Proof.Ref.Finite.lean ====
/- The precondition, read: every query's and key's entry is a real number. -/
module

public import proofs.«01_k».proof.Proof.Gen.Pre_finite_queries_keys
public import Idealize.ShloMosaic.Lib.Pointwise
public import Idealize.ShloMosaic.PureOps.Ideal

@[expose] public section

noncomputable section

namespace Cert.Pre_finite_queries_keys.Own

open Cert.Pre_finite_queries_keys Cert.Pre_finite_queries_keys.Gen
open Idealize.ShloMosaic

/-- A conjunction of bits is one only if every bit is. -/
theorem fold_andi {ι : Type} (s : Finset ι) (f : ι → BitVec 1) (h : s.fold IntOp.andi 1#1 f = 1#1) : ∀ k ∈ s, f k = 1#1 := by
  classical
  induction s using Finset.induction_on with
  | empty => intro k hk; exact absurd hk (Finset.notMem_empty k)
  | insert a s ha ih =>
    rw [Finset.fold_insert ha] at h
    have h2 : ∀ x y : BitVec 1, IntOp.andi x y = 1#1 → x = 1#1 ∧ y = 1#1 := by decide
    obtain ⟨h3, h4⟩ := h2 _ _ h
    intro k hk
    rcases Finset.mem_insert.mp hk with rfl | hk
    · exact h3
    · exact ih h4 k hk

/-- An extended real of finite size is a real number. -/
theorem real_of_abs_lt (x : EReal) (h : max x (-x) < ⊤) : x = ((EReal.toReal x : ℝ) : EReal) := by
  induction x with
  | bot => simp at h
  | top => simp at h
  | coe r => rfl

/-- The comparisons the precondition conjoins. -/
def small (X : FVec Ideal S16384x11264 .bf16) : IVec S16384x2048 1 :=
  cmpf .olt (Host.absf (extf .f32 (extractStridedSlice S16384x2048 ![0, 5120] X Facts.slices_S16384x11264_S16384x2048_0_5120) Facts.bitsLt_bf16_f32))
    (broadcastInDim S16384x2048 ![] Facts.bcast_S_S16384x2048 (constant (F := Ideal) S_ .f32 0x7F800000#32))

theorem top_bits : Ideal.ofBits FTy.f32 0x7F800000#32 = ⊤ := by simp [Ideal.ofBits, Ideal.ieee]

/-- One of them, at an entry. -/
theorem small_at (X : FVec Ideal S16384x11264 .bf16) (j : Fin 16384) (n : Fin 2048) (h : small X (ix2 j n) = 1#1) :
    max (X (ix2 j ⟨5120 + n.val, by omega⟩)) (-(X (ix2 j ⟨5120 + n.val, by omega⟩))) < ⊤ := by
  revert h
  unfold small
  pointwise
  rw [top_bits]
  intro h
  by_contra hn
  rw [decide_eq_false (show ¬ FloatOps.absf (F := Ideal) (φ := .f32) (X (ix2 j ⟨5120 + n.val, by omega⟩)) < (⊤ : EReal) from hn)] at h
  exact absurd h (by decide)

/-- Where the precondition holds, the queries' and the keys' columns are real numbers. -/
theorem real_of_finite (X : FVec Ideal S16384x11264 .bf16) (Y : FVec Ideal S16384x1024 .bf16) (h : fn (F := Ideal) X Y = fun _ => 1#1)
    (j : Fin 16384) (n : Fin 11264) (h1 : 5120 ≤ n.val) (h2 : n.val < 7168) : X (ix2 j n) = ((EReal.toReal (X (ix2 j n)) : ℝ) : EReal) := by
  have h0 : Host.reduce IntOp.andi (small X) (constantI S_ 1 1#1) Facts.reducesTo_S16384x2048_S_d0_1 Facts.h_S_ ix0 = 1#1 := congrFun h ix0
  rw [Host.reduce_eq_fold] at h0
  have h3 := fold_andi _ _ h0 (ix2 j ⟨n.val - 5120, by omega⟩) (Finset.mem_filter.mpr ⟨Finset.mem_univ _, funext fun a => a.elim0⟩)
  have h4 := small_at X j ⟨n.val - 5120, by omega⟩ h3
  have h5 : (⟨5120 + (n.val - 5120), by omega⟩ : Fin 11264) = n := Fin.ext (by simp only; omega)
  simp only [h5] at h4
  exact real_of_abs_lt _ h4

end Cert.Pre_finite_queries_keys.Own

end
-- ==== Proof.lean ====
/- The certificate of the block-sparse attention, of the normalised input projection and of the last layer's merge: the
   programs run and leave their arguments alone, the ideal programs are the kernels read over the extended reals, the
   attention's result over finite queries and keys is its reference's, and the projection's three results and the merge's
   one over any arrays are their references'. -/
module

public import proofs.«01_k».proof.Defs
public import proofs.«01_k».proof.Proof.Printed.Run
public import proofs.«01_k».proof.Proof.Named.Run
public import proofs.«01_k».proof.Proof.Gen.ReferenceIdeal
public import proofs.«01_k».proof.Proof.Gen.ReferenceIdeal.Run
public import proofs.«01_k».proof.Proof.Gen.Pre_finite_queries_keys
public import proofs.«01_k».proof.Proof.Gen.Projection
public import proofs.«01_k».proof.Proof.Gen.ProjectionIdeal
public import proofs.«01_k».proof.Proof.Gen.ProjectedIdeal
public import proofs.«01_k».proof.Proof.Gen.ProjectedIdeal.Run
public import proofs.«01_k».proof.Proof.Gen.MergeIdeal
public import proofs.«01_k».proof.Proof.Gen.MergeIdeal.Value
public import proofs.«01_k».proof.Proof.Gen.Merge
public import proofs.«01_k».proof.Proof.Gen.MergedIdeal
public import proofs.«01_k».proof.Proof.Gen.MergedIdeal.Run
public import proofs.«01_k».proof.Proof.Rows.Values
public import proofs.«01_k».proof.Proof.Rows.Reference
public import proofs.«01_k».proof.Proof.Merge.Values
public import proofs.«01_k».proof.Proof.Merge.Reference
public import proofs.«01_k».proof.Proof.Value.Final
public import proofs.«01_k».proof.Proof.Ref.Final
public import proofs.«01_k».proof.Proof.Ref.Finite

@[expose] public section

noncomputable section

namespace Cert.Proof

open Idealize.ShloMosaic Idealize.SL.Sem

/-- The kernel with its two constants named is the kernel: minus infinity for the mask, and (1/8)/log 2 for the scale. -/
theorem named : Cert.preserves_Kernel_KernelIdeal :=
  ⟨IdealRules.named_const.statement Cert.KernelIdeal.κ "mask" .f32 0xF149F2CA#32 ⊥ rfl,
    IdealRules.named_const.statement Cert.KernelIdeal.κ "log2_scale" .f32 0x3E38AA3B#32 (((1 / 8) * (Real.log 2)⁻¹ : ℝ) : EReal) rfl⟩

/-- The reference runs and leaves its arguments alone; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- Finite queries and keys are real numbers. -/
theorem real_of_finite (m : (ℓ : Loc Cert.KernelIdeal.nD Cert.KernelIdeal.τ Cert.KernelIdeal.sig) → Buf (Elt Ideal) ℓ)
    (hpre : Cert.Pre_KernelIdeal_finite_queries_keys m) (c : Dev Cert.KernelIdeal.nD) (j : Fin 16384) (n : Fin 11264) (h1 : 5120 ≤ n.val) (h2 : n.val < 7168) :
    Cert.KernelIdeal.Own.arg0 m c (ix2 j n) = (Cert.KernelIdeal.Own.realArg m c j n : EReal) :=
  Cert.Pre_finite_queries_keys.Own.real_of_finite _ _ (hpre c) j n h1 h2

/-- The attention of the two arrays, as the kernel and the reference leave it. -/
theorem values : Cert.algebraic_KernelIdeal_ReferenceIdeal_pre_finite_queries_keys := by
  intro m g m' g' hpre hargs
  refine ⟨fun c => (Cert.KernelIdeal.Own.dat1 (Cert.KernelIdeal.Own.W2 m) c).arrAt 4 Cert.KernelIdeal.cfg1.N, ?_, ?_⟩
  · exact (θ_run Cert.KernelIdeal.defs _ _).mono (fun r h c => ⟨(h.1 c).2.2, (h.1 c).1, (h.1 c).2.1⟩) (Cert.KernelIdeal.Own.run m g)
  · refine (θ_run Cert.ReferenceIdeal.defs _ _).mono (fun r h c => ⟨(h c).1.trans ?_, (h c).2⟩) (Cert.ReferenceIdeal.Value.run m' g')
    have hreal := real_of_finite m hpre c
    refine (Cert.ReferenceIdeal.Own.res_eq m' c).trans ?_
    rw [(hargs c).1, (hargs c).2]
    exact (Cert.ReferenceIdeal.Own.laid_layer _ _ _ hreal).trans (Cert.KernelIdeal.Own.result_arr m c hreal).symm

/-- The projection as printed is the one read over the extended reals, at any floats: their text is one. -/
theorem projection_defs : Cert.Projection.defs (F := Bits) = Cert.ProjectionIdeal.defs (F := Bits) := by chain_rfl
theorem projection_main : Cert.Projection.main (F := Bits) = Cert.ProjectionIdeal.main (F := Bits) := by chain_rfl
/-- It runs and leaves its arguments alone, -/
theorem frame_projection : Cert.quiescent_Projection := fun m g _ => by
  rw [projection_defs, projection_main]
  exact (θ_run Cert.ProjectionIdeal.defs _ _).mono (fun r h => ⟨fun c => (h.1 c).2.2.2, h.2⟩) (Cert.ProjectionIdeal.Own.run (F := Bits) m g)
/-- read over the extended reals also, -/
theorem frame_projection_ideal : Cert.quiescent_ProjectionIdeal := fun m g _ =>
  (θ_run Cert.ProjectionIdeal.defs _ _).mono (fun r h => ⟨fun c => (h.1 c).2.2.2, h.2⟩) (Cert.ProjectionIdeal.Own.run m g)
/-- and its reference too; it has no semaphore. -/
theorem frame_projected : Cert.quiescent_ProjectedIdeal := fun m g _ =>
  (θ_run Cert.ProjectedIdeal.defs _ _).mono (fun r h => ⟨fun c => (h c).2.2.2, sem_eq_zero_of_no_sems (by decide) r.2⟩)
    (Cert.ProjectedIdeal.Value.run m g)

/-- An entry of the reference's products is the entry the kernel computes. -/
theorem cols_entry (m : (ℓ : Loc Cert.ProjectionIdeal.nD Cert.ProjectionIdeal.τ Cert.ProjectionIdeal.sig) → Buf (Elt Ideal) ℓ)
    (c : Dev Cert.ProjectionIdeal.nD) (r : Fin 16384) (n : Fin 12304) :
    Cert.ProjectedIdeal.Own.cols (Cert.ProjectionIdeal.Own.X m c) (Cert.ProjectionIdeal.Own.N m c) (Cert.ProjectionIdeal.Own.W m c) (ix2 r n)
      = Cert.ProjectionIdeal.Own.entry m c r n :=
  Cert.ProjectedIdeal.Own.cols_at _ _ _ r n

/-- The reference's columns kept by rows are the kernel's, -/
theorem kept_eq (m : (ℓ : Loc Cert.ProjectionIdeal.nD Cert.ProjectionIdeal.τ Cert.ProjectionIdeal.sig) → Buf (Elt Ideal) ℓ) (c : Dev Cert.ProjectionIdeal.nD) :
    Cert.ProjectedIdeal.Own.kept (Cert.ProjectedIdeal.Own.cols (Cert.ProjectionIdeal.Own.X m c) (Cert.ProjectionIdeal.Own.N m c) (Cert.ProjectionIdeal.Own.W m c))
      = (Cert.ProjectionIdeal.Own.dat m c).arrAt 5 Cert.ProjectionIdeal.cfg0.N := by
  refine Eq.trans (funext fun y => ?_) (Cert.ProjectionIdeal.Own.kept_arr m c).symm
  obtain ⟨r, n, rfl⟩ : ∃ (r : Fin 16384) (n : Fin 11264), y = ix2 r n := ⟨y 0, y 1, eq_ix2 y⟩
  exact (Cert.ProjectedIdeal.Own.kept_at _ r n).trans (cols_entry m c r _)
/-- its values by channels, -/
theorem turned_eq (m : (ℓ : Loc Cert.ProjectionIdeal.nD Cert.ProjectionIdeal.τ Cert.ProjectionIdeal.sig) → Buf (Elt Ideal) ℓ) (c : Dev Cert.ProjectionIdeal.nD) :
    Cert.ProjectedIdeal.Own.turned (Cert.ProjectedIdeal.Own.cols (Cert.ProjectionIdeal.Own.X m c) (Cert.ProjectionIdeal.Own.N m c) (Cert.ProjectionIdeal.Own.W m c))
      = (Cert.ProjectionIdeal.Own.dat m c).arrAt 6 Cert.ProjectionIdeal.cfg0.N := by
  refine Eq.trans (funext fun y => ?_) (Cert.ProjectionIdeal.Own.vals_arr m c).symm
  obtain ⟨n, r, rfl⟩ : ∃ (n : Fin 1024) (r : Fin 16384), y = ix2 n r := ⟨y 0, y 1, eq_ix2 y⟩
  exact (Cert.ProjectedIdeal.Own.turned_at _ n r).trans (cols_entry m c r _)
/-- and its steps among zeros. -/
theorem padded_eq (m : (ℓ : Loc Cert.ProjectionIdeal.nD Cert.ProjectionIdeal.τ Cert.ProjectionIdeal.sig) → Buf (Elt Ideal) ℓ) (c : Dev Cert.ProjectionIdeal.nD) :
    Cert.ProjectedIdeal.Own.padded (Cert.ProjectedIdeal.Own.cols (Cert.ProjectionIdeal.Own.X m c) (Cert.ProjectionIdeal.Own.N m c) (Cert.ProjectionIdeal.Own.W m c))
      = (Cert.ProjectionIdeal.Own.dat m c).arrAt 7 Cert.ProjectionIdeal.cfg0.N := by
  refine Eq.trans (funext fun y => ?_) (Cert.ProjectionIdeal.Own.steps_arr m c).symm
  obtain ⟨r, l, rfl⟩ : ∃ (r : Fin 16384) (l : Fin 128), y = ix2 r l := ⟨y 0, y 1, eq_ix2 y⟩
  refine (Cert.ProjectedIdeal.Own.padded_at _ r l).trans (Eq.trans ?_ (Cert.ProjectionIdeal.Own.stepsOut_at m c r l).symm)
  simp only [cols_entry]

/-- The projection of the three arrays, as the kernel and its reference leave it. -/
theorem projected_values : Cert.algebraic_ProjectionIdeal_ProjectedIdeal := by
  intro m g m' g' _ hargs
  refine ⟨fun c => (Cert.ProjectionIdeal.Own.dat m c).arrAt 5 Cert.ProjectionIdeal.cfg0.N,
    fun c => (Cert.ProjectionIdeal.Own.dat m c).arrAt 6 Cert.ProjectionIdeal.cfg0.N,
    fun c => (Cert.ProjectionIdeal.Own.dat m c).arrAt 7 Cert.ProjectionIdeal.cfg0.N, ?_, ?_⟩
  · exact (θ_run Cert.ProjectionIdeal.defs _ _).mono (fun r h => h.1) (Cert.ProjectionIdeal.Own.run m g)
  · refine (θ_run Cert.ProjectedIdeal.defs _ _).mono (fun r h c => ?_) (Cert.ProjectedIdeal.Value.run m' g')
    obtain ⟨h0, h1, h2, hrest⟩ := h c
    refine ⟨h0.trans ?_, h1.trans ?_, h2.trans ?_, hrest⟩
    · show Cert.ProjectedIdeal.Own.kept (Cert.ProjectedIdeal.Own.cols _ _ _) = _
      rw [(hargs c).1, (hargs c).2.1, (hargs c).2.2]
      exact kept_eq m c
    · show Cert.ProjectedIdeal.Own.turned (Cert.ProjectedIdeal.Own.cols _ _ _) = _
      rw [(hargs c).1, (hargs c).2.1, (hargs c).2.2]
      exact turned_eq m c
    · show Cert.ProjectedIdeal.Own.padded (Cert.ProjectedIdeal.Own.cols _ _ _) = _
      rw [(hargs c).1, (hargs c).2.1, (hargs c).2.2]
      exact padded_eq m c

/-- So for the merge. -/
theorem merge_defs : Cert.Merge.defs (F := Bits) = Cert.MergeIdeal.defs (F := Bits) := by chain_rfl
theorem merge_main : Cert.Merge.main (F := Bits) = Cert.MergeIdeal.main (F := Bits) := by chain_rfl
/-- It runs and leaves its arguments alone, -/
theorem frame_merge : Cert.quiescent_Merge := fun m g _ => by
  rw [merge_defs, merge_main]
  exact Cert.MergeIdeal.Gen.frame (F := Bits) m g
/-- read over the extended reals also, -/
theorem frame_merge_ideal : Cert.quiescent_MergeIdeal := fun m g _ => Cert.MergeIdeal.Gen.frame m g
/-- and its reference too; it has no semaphore. -/
theorem frame_merged : Cert.quiescent_MergedIdeal := fun m g _ =>
  (θ_run Cert.MergedIdeal.defs _ _).mono (fun r h => ⟨fun c => (h c).2, sem_eq_zero_of_no_sems (by decide) r.2⟩)
    (Cert.MergedIdeal.Value.run m g)

/-- The last layer's output, as the kernel and its reference leave it. -/
theorem merged_values : Cert.algebraic_MergeIdeal_MergedIdeal := by
  intro m g m' g' _ hargs
  refine ⟨fun c => (Cert.MergeIdeal.Gen.dats m 0 c).arrAt 19 Cert.MergeIdeal.cfg0.N, ?_, ?_⟩
  · exact Cert.MergeIdeal.Value.run_blocks m g
  · refine (θ_run Cert.MergedIdeal.defs _ _).mono (fun r h c => ⟨(h c).1.trans ?_, (h c).2⟩) (Cert.MergedIdeal.Value.run m' g')
    obtain ⟨h0, h1, h2, h3, h4, h5, h6, h7, h8, h9, h10, h11, h12, h13⟩ := hargs c
    refine (Cert.MergedIdeal.Own.res_eq m' c).trans (Eq.trans (funext fun y => ?_) (Cert.MergeIdeal.Own.arr m c).symm)
    obtain ⟨r, n, rfl⟩ : ∃ (r : Fin 16384) (n : Fin 1024), y = ix2 r n := ⟨y 0, y 1, eq_ix2 y⟩
    refine (Cert.MergedIdeal.Own.last_at m' c r n).trans ?_
    unfold Cert.MergedIdeal.Own.entry
    dsimp only [Cert.MergedIdeal.Own.X, Cert.MergedIdeal.Own.Ya, Cert.MergedIdeal.Own.Ys, Cert.MergedIdeal.Own.P, Cert.MergedIdeal.Own.At,
      Cert.MergedIdeal.Own.Gb, Cert.MergedIdeal.Own.D, Cert.MergedIdeal.Own.Lb, Cert.MergedIdeal.Own.Fn, Cert.MergedIdeal.Own.Wg,
      Cert.MergedIdeal.Own.Wa, Cert.MergedIdeal.Own.Wb, Cert.MergedIdeal.Own.Wc, Cert.MergedIdeal.Own.Wo]
    rw [h0, h1, h2, h3, h4, h5, h6, h7, h8, h9, h10, h11, h12, h13]
    rfl

/-- The certificate. -/
theorem claim : Cert.Claim := ⟨Cert.Kernel.Gen.facts, Cert.KernelIdeal.Gen.facts, Cert.ReferenceIdeal.Gen.facts,
  Cert.Projection.Gen.facts, Cert.ProjectionIdeal.Gen.facts, Cert.ProjectedIdeal.Gen.facts,
  Cert.Merge.Gen.facts, Cert.MergeIdeal.Gen.facts, Cert.MergedIdeal.Gen.facts, Cert.Pre_finite_queries_keys.Gen.facts,
  fun m g _ => Cert.Kernel.Own.frame m g,
  fun m g _ => Cert.KernelIdeal.Own.frame m g,
  fun m g _ => Cert.KernelIdeal.Own.frame m g,
  frame_reference,
  fun m g _ => frame_reference m g trivial,
  frame_projection,
  frame_projection_ideal,
  frame_projected,
  frame_merge,
  frame_merge_ideal,
  frame_merged,
  named,
  values,
  trivial,
  projected_values,
  trivial,
  merged_values⟩

end Cert.Proof

end
